-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v16)) (v5 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v16) = v4 c
          ∧ r.2.mem ((c.tc : Thread Cert.KernelIdeal.nD Cert.KernelIdeal.τ).loc Cert.KernelIdeal.main_v19) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_v185) = v1 c
          ∧ r.2.mem ((c.tc : Thread Cert.ReferenceIdeal.nD Cert.ReferenceIdeal.τ).loc Cert.ReferenceIdeal.main_v189) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_v12) = v4 c
          ∧ r.2.mem ((c.tc : Thread Cert.ReferenceIdeal.nD Cert.ReferenceIdeal.τ).loc Cert.ReferenceIdeal.main_v16) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S3x512x4096 : Shape := ⟨3, ![3, 512, 4096]⟩
abbrev S2048x11008 : Shape := ⟨2, ![2048, 11008]⟩
abbrev S11008 : Shape := ⟨1, ![11008]⟩
abbrev S_ : Shape := ⟨0, ![]⟩

class Facts : Prop where
  bcast_S_S3x512x4096 : S_.BroadcastsInDim S3x512x4096 (![] : Fin 0 → Fin S3x512x4096.rank)
  reducesTo_S3x512x4096_S_d0_1_2 : S3x512x4096.ReducesTo [0, 1, 2] S_
  h_S_ : 0 < S_.numel

variable [Facts]

def fn {F : FTy → Type} [FloatOps F] (main_arg0 : IVec S3x512x4096 32) (main_arg1 : IVec S2048x11008 8) (main_arg2 : IVec S11008 32) (main_arg3 : IVec S2048x11008 8) (main_arg4 : IVec S11008 32) : IVec S_ 1 :=
  let main_c : IVec S_ 32 := constantI S_ 32 4286578689#32
  let main_v0 : IVec S3x512x4096 32 := broadcastInDim S3x512x4096 ![] bcast_S_S3x512x4096 main_c
  let main_v1 : IVec S3x512x4096 1 := cmpi .sge main_arg0 main_v0
  let main_c_0 : IVec S_ 32 := constantI S_ 32 8388607#32
  let main_v2 : IVec S3x512x4096 32 := broadcastInDim S3x512x4096 ![] bcast_S_S3x512x4096 main_c_0
  let main_v3 : IVec S3x512x4096 1 := cmpi .sle main_arg0 main_v2
  let main_v4 : IVec S3x512x4096 1 := andi main_v1 main_v3
  let main_c_1 : IVec S_ 1 := constantI S_ 1 1#1
  let main_v5 : IVec S_ 1 := (fun x v => Host.reduce IntOp.andi x v reducesTo_S3x512x4096_S_d0_1_2 h_S_) main_v4 main_c_1
  main_v5
-- ==== Kernel.lean ====
abbrev S3x512x4096 : Shape := ⟨3, ![3, 512, 4096]⟩
abbrev S2048x11008 : Shape := ⟨2, ![2048, 11008]⟩
abbrev S11008 : Shape := ⟨1, ![11008]⟩
abbrev S1536x4096 : Shape := ⟨2, ![1536, 4096]⟩
abbrev S1536x128 : Shape := ⟨2, ![1536, 128]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩
abbrev S1x11008 : Shape := ⟨2, ![1, 11008]⟩
abbrev S1536x11008 : Shape := ⟨2, ![1536, 11008]⟩
abbrev S2048x256 : Shape := ⟨2, ![2048, 256]⟩
abbrev S1x256 : Shape := ⟨2, ![1, 256]⟩
abbrev S1536x256 : Shape := ⟨2, ![1536, 256]⟩
abbrev S4096x256 : Shape := ⟨2, ![4096, 256]⟩
abbrev S256x256 : Shape := ⟨2, ![256, 256]⟩
abbrev S128x11008 : Shape := ⟨2, ![128, 11008]⟩
abbrev S128x128 : Shape := ⟨2, ![128, 128]⟩
abbrev S128 : Shape := ⟨1, ![128]⟩
abbrev S128x1 : Shape := ⟨2, ![128, 1]⟩
abbrev S3x512x11008 : Shape := ⟨3, ![3, 512, 11008]⟩
abbrev S1536x1 : Shape := ⟨2, ![1536, 1]⟩
abbrev S1536 : Shape := ⟨1, ![1536]⟩
abbrev S3x512 : Shape := ⟨2, ![3, 512]⟩

abbrev nBuf : Space → Nat
  | .hbm => 31
  | .vmem => 34
  | .smem => 0
  | _ => 0

abbrev bufTy : (tb : Table) → Fin (tcTables nBuf tb) → BufTy
  | .hbm, ⟨0, _⟩ => ⟨S3x512x4096, .i32⟩
  | .hbm, ⟨1, _⟩ => ⟨S2048x11008, .i8⟩
  | .hbm, ⟨2, _⟩ => ⟨S11008, .i32⟩
  | .hbm, ⟨3, _⟩ => ⟨S2048x11008, .i8⟩
  | .hbm, ⟨4, _⟩ => ⟨S11008, .i32⟩
  | .hbm, ⟨5, _⟩ => ⟨S1536x4096, .i32⟩
  | .hbm, ⟨6, _⟩ => ⟨S1536x4096, .i8⟩
  | .hbm, ⟨7, _⟩ => ⟨S1536x4096, .bf16⟩
  | .hbm, ⟨8, _⟩ => ⟨S1536x128, .i32⟩
  | .hbm, ⟨9, _⟩ => ⟨S1536x128, .i32⟩
  | .hbm, ⟨10, _⟩ => ⟨S1x11008, .i32⟩
  | .hbm, ⟨11, _⟩ => ⟨S1x11008, .i32⟩
  | .hbm, ⟨12, _⟩ => ⟨S1536x11008, .f32⟩
  | .hbm, ⟨13, _⟩ => ⟨S1536x128, .f32⟩
  | .hbm, ⟨14, _⟩ => ⟨S1536x11008, .i8⟩
  | .hbm, ⟨15, _⟩ => ⟨S1536x128, .i32⟩
  | .hbm, ⟨16, _⟩ => ⟨S1536x128, .i32⟩
  | .hbm, ⟨17, _⟩ => ⟨S3x512x11008, .i8⟩
  | .hbm, ⟨18, _⟩ => ⟨S1536x1, .i32⟩
  | .hbm, ⟨19, _⟩ => ⟨S1536, .i32⟩
  | .hbm, ⟨20, _⟩ => ⟨S3x512, .i32⟩
  | .hbm, ⟨21, _⟩ => ⟨S1536x1, .i32⟩
  | .hbm, ⟨22, _⟩ => ⟨S1536, .i32⟩
  | .hbm, ⟨23, _⟩ => ⟨S3x512, .i32⟩
  | .hbm, ⟨24, _⟩ => ⟨S3x512x4096, .i8⟩
  | .hbm, ⟨25, _⟩ => ⟨S1536x1, .i32⟩
  | .hbm, ⟨26, _⟩ => ⟨S1536, .i32⟩
  | .hbm, ⟨27, _⟩ => ⟨S3x512, .i32⟩
  | .hbm, ⟨28, _⟩ => ⟨S1536x1, .i32⟩
  | .hbm, ⟨29, _⟩ => ⟨S1536, .i32⟩
  | .hbm, ⟨30, _⟩ => ⟨S3x512, .i32⟩
  | .local _ .vmem, ⟨0, _⟩ => ⟨S256x4096, .i32⟩
  | .local _ .vmem, ⟨1, _⟩ => ⟨S256x4096, .i32⟩
  | .local _ .vmem, ⟨2, _⟩ => ⟨S256x4096, .i8⟩
  | .local _ .vmem, ⟨3, _⟩ => ⟨S256x4096, .i8⟩
  | .local _ .vmem, ⟨4, _⟩ => ⟨S256x4096, .bf16⟩
  | .local _ .vmem, ⟨5, _⟩ => ⟨S256x4096, .bf16⟩
  | .local _ .vmem, ⟨6, _⟩ => ⟨S256x128, .i32⟩
  | .local _ .vmem, ⟨7, _⟩ => ⟨S256x128, .i32⟩
  | .local _ .vmem, ⟨8, _⟩ => ⟨S256x128, .i32⟩
  | .local _ .vmem, ⟨9, _⟩ => ⟨S256x128, .i32⟩
  | .local _ .vmem, ⟨10, _⟩ => ⟨S1536x4096, .bf16⟩
  | .local _ .vmem, ⟨11, _⟩ => ⟨S1536x128, .i32⟩
  | .local _ .vmem, ⟨12, _⟩ => ⟨S1536x128, .i32⟩
  | .local _ .vmem, ⟨13, _⟩ => ⟨S2048x256, .i8⟩
  | .local _ .vmem, ⟨14, _⟩ => ⟨S2048x256, .i8⟩
  | .local _ .vmem, ⟨15, _⟩ => ⟨S1x256, .i32⟩
  | .local _ .vmem, ⟨16, _⟩ => ⟨S1x256, .i32⟩
  | .local _ .vmem, ⟨17, _⟩ => ⟨S2048x256, .i8⟩
  | .local _ .vmem, ⟨18, _⟩ => ⟨S2048x256, .i8⟩
  | .local _ .vmem, ⟨19, _⟩ => ⟨S1x256, .i32⟩
  | .local _ .vmem, ⟨20, _⟩ => ⟨S1x256, .i32⟩
  | .local _ .vmem, ⟨21, _⟩ => ⟨S1536x256, .f32⟩
  | .local _ .vmem, ⟨22, _⟩ => ⟨S1536x256, .f32⟩
  | .local _ .vmem, ⟨23, _⟩ => ⟨S1536x128, .f32⟩
  | .local _ .vmem, ⟨24, _⟩ => ⟨S128x11008, .f32⟩
  | .local _ .vmem, ⟨25, _⟩ => ⟨S128x11008, .f32⟩
  | .local _ .vmem, ⟨26, _⟩ => ⟨S128x128, .f32⟩
  | .local _ .vmem, ⟨27, _⟩ => ⟨S128x128, .f32⟩
  | .local _ .vmem, ⟨28, _⟩ => ⟨S128x11008, .i8⟩
  | .local _ .vmem, ⟨29, _⟩ => ⟨S128x11008, .i8⟩
  | .local _ .vmem, ⟨30, _⟩ => ⟨S128x128, .i32⟩
  | .local _ .vmem, ⟨31, _⟩ => ⟨S128x128, .i32⟩
  | .local _ .vmem, ⟨32, _⟩ => ⟨S128x128, .i32⟩
  | .local _ .vmem, ⟨33, _⟩ => ⟨S128x128, .i32⟩
  | _, _ => ⟨S3x512x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc1_sem8_0 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![43], ![false]⟩

@[reducible] def k1_t1_loop : Scf.Loop 32 :=
  let c0_i32_12 : BitVec 32 := 0#32
  let c6_i32 : BitVec 32 := 6#32
  let v37 : BitVec 32 := Scalar.addi c0_i32_12 c6_i32
  let c1_i32 : BitVec 32 := 1#32
  ⟨c0_i32_12, v37, c1_i32⟩
def k1_mult1 (k1_t1 : Fin k1_t1_loop.trips) : BitVec 32 :=
  let c0_i32_12 : BitVec 32 := 0#32
  let c1_i32 : BitVec 32 := 1#32
  let arg10 : BitVec 32 := Scf.iv c0_i32_12 c1_i32 k1_t1
  let c256_i32 : BitVec 32 := 256#32
  let v38 : BitVec 32 := Scalar.muli arg10 c256_i32
  v38
def k1_off1 (k1_t1 : Fin k1_t1_loop.trips) : Fin 2 → Nat :=
  let c0_i32_12 : BitVec 32 := 0#32
  let c1_i32 : BitVec 32 := 1#32
  let arg10 : BitVec 32 := Scf.iv c0_i32_12 c1_i32 k1_t1
  let c256_i32 : BitVec 32 := 256#32
  let v38 : BitVec 32 := Scalar.muli arg10 c256_i32
  let v39 : BitVec 32 := v38
  let v40 : Index := Scalar.indexCast v39
  let c0_14 : Index := 0#32
  ![v40.toNat, 0]
def k1_off2 (k1_t1 : Fin k1_t1_loop.trips) : Fin 2 → Nat :=
  let c0_i32_12 : BitVec 32 := 0#32
  let c1_i32 : BitVec 32 := 1#32
  let arg10 : BitVec 32 := Scf.iv c0_i32_12 c1_i32 k1_t1
  let c256_i32 : BitVec 32 := 256#32
  let v38 : BitVec 32 := Scalar.muli arg10 c256_i32
  let v39 : BitVec 32 := v38
  let v43 : Index := Scalar.indexCast v39
  let c0_15 : Index := 0#32
  ![v43.toNat, 0]
def k1_off3 (k1_t1 : Fin k1_t1_loop.trips) : Fin 2 → Nat :=
  let c0_i32_12 : BitVec 32 := 0#32
  let c1_i32 : BitVec 32 := 1#32
  let arg10 : BitVec 32 := Scf.iv c0_i32_12 c1_i32 k1_t1
  let c256_i32 : BitVec 32 := 256#32
  let v38 : BitVec 32 := Scalar.muli arg10 c256_i32
  let v39 : BitVec 32 := v38
  let v145 : Index := Scalar.indexCast v39
  let c0_43 : Index := 0#32
  ![v145.toNat, 0]
def k1_off4 (k1_t1 : Fin k1_t1_loop.trips) : Fin 2 → Nat :=
  let c0_i32_12 : BitVec 32 := 0#32
  let c1_i32 : BitVec 32 := 1#32
  let arg10 : BitVec 32 := Scf.iv c0_i32_12 c1_i32 k1_t1
  let c256_i32 : BitVec 32 := 256#32
  let v38 : BitVec 32 := Scalar.muli arg10 c256_i32
  let v39 : BitVec 32 := v38
  let v148 : Index := Scalar.indexCast v39
  let c0_44 : Index := 0#32
  ![v148.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1536x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1536x128 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1536x128 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x256 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x256 .i8 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1536x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1536x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![12], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x11008 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x11008 .i8 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x128 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S128x128 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S3x512x4096 : Shape := ⟨3, ![3, 512, 4096]⟩
abbrev S2048x11008 : Shape := ⟨2, ![2048, 11008]⟩
abbrev S11008 : Shape := ⟨1, ![11008]⟩
abbrev S_ : Shape := ⟨0, ![]⟩
abbrev S3x512 : Shape := ⟨2, ![3, 512]⟩
abbrev S3x512x1 : Shape := ⟨3, ![3, 512, 1]⟩
abbrev S3x512x2048 : Shape := ⟨3, ![3, 512, 2048]⟩
abbrev S3x512x2048x1 : Shape := ⟨4, ![3, 512, 2048, 1]⟩
abbrev S1x1x2048x11008 : Shape := ⟨4, ![1, 1, 2048, 11008]⟩
abbrev S3x512x2048x11008 : Shape := ⟨4, ![3, 512, 2048, 11008]⟩
abbrev S3x512x11008 : Shape := ⟨3, ![3, 512, 11008]⟩
abbrev S1x1x11008 : Shape := ⟨3, ![1, 1, 11008]⟩

abbrev nBuf : Space → Nat
  | .hbm => 369
  | .vmem => 0
  | .smem => 0
  | _ => 0

abbrev hbmTy0_0 (i : Nat) : BufTy := match i % 128 with
  | 0 => ⟨S3x512x4096, .i32⟩
  | 1 => ⟨S2048x11008, .i8⟩
  | 2 => ⟨S11008, .i32⟩
  | 3 => ⟨S2048x11008, .i8⟩
  | 4 => ⟨S11008, .i32⟩
  | 5 => ⟨S3x512x4096, .i32⟩
  | 6 => ⟨S_, .i32⟩
  | 7 => ⟨S3x512, .i32⟩
  | 8 => ⟨S_, .i32⟩
  | 9 => ⟨S3x512, .i32⟩
  | 10 => ⟨S3x512, .i32⟩
  | 11 => ⟨S3x512, .i32⟩
  | 12 => ⟨S_, .i32⟩
  | 13 => ⟨S3x512, .i32⟩
  | 14 => ⟨S3x512, .i32⟩
  | 15 => ⟨S_, .i32⟩
  | 16 => ⟨S3x512, .i32⟩
  | 17 => ⟨S3x512, .i32⟩
  | 18 => ⟨S3x512, .i32⟩
  | 19 => ⟨S_, .i32⟩
  | 20 => ⟨S3x512, .i32⟩
  | 21 => ⟨S3x512, .i32⟩
  | 22 => ⟨S_, .i32⟩
  | 23 => ⟨S_, .i32⟩
  | 24 => ⟨S3x512, .i32⟩
  | 25 => ⟨S3x512, .i32⟩
  | 26 => ⟨S3x512, .i32⟩
  | 27 => ⟨S_, .i32⟩
  | 28 => ⟨S3x512, .i32⟩
  | 29 => ⟨S3x512, .i1⟩
  | 30 => ⟨S3x512, .i32⟩
  | 31 => ⟨S3x512, .i32⟩
  | 32 => ⟨S_, .i32⟩
  | 33 => ⟨S3x512, .i32⟩
  | 34 => ⟨S3x512, .i1⟩
  | 35 => ⟨S3x512, .i1⟩
  | 36 => ⟨S_, .i32⟩
  | 37 => ⟨S3x512, .i32⟩
  | 38 => ⟨S3x512, .i32⟩
  | 39 => ⟨S3x512, .i32⟩
  | 40 => ⟨S_, .i32⟩
  | 41 => ⟨S3x512, .i32⟩
  | 42 => ⟨S3x512, .i32⟩
  | 43 => ⟨S_, .i32⟩
  | 44 => ⟨S3x512, .i32⟩
  | 45 => ⟨S3x512, .i32⟩
  | 46 => ⟨S_, .i32⟩
  | 47 => ⟨S3x512, .i32⟩
  | 48 => ⟨S3x512, .i32⟩
  | 49 => ⟨S3x512x1, .i32⟩
  | 50 => ⟨S3x512x1, .i32⟩
  | 51 => ⟨S3x512x4096, .i32⟩
  | 52 => ⟨S3x512x4096, .i32⟩
  | 53 => ⟨S_, .i32⟩
  | 54 => ⟨S3x512x1, .i32⟩
  | 55 => ⟨S3x512x1, .i32⟩
  | 56 => ⟨S3x512x4096, .i32⟩
  | 57 => ⟨S3x512x4096, .i32⟩
  | 58 => ⟨S3x512x4096, .i32⟩
  | 59 => ⟨S3x512x4096, .i32⟩
  | 60 => ⟨S3x512x4096, .i32⟩
  | 61 => ⟨S3x512x1, .i32⟩
  | 62 => ⟨S3x512x4096, .i32⟩
  | 63 => ⟨S3x512x4096, .i1⟩
  | 64 => ⟨S3x512x4096, .i32⟩
  | 65 => ⟨S3x512x4096, .i32⟩
  | 66 => ⟨S_, .i32⟩
  | 67 => ⟨S3x512x4096, .i32⟩
  | 68 => ⟨S3x512x4096, .i1⟩
  | 69 => ⟨S3x512x4096, .i1⟩
  | 70 => ⟨S_, .i32⟩
  | 71 => ⟨S3x512x4096, .i32⟩
  | 72 => ⟨S3x512x4096, .i32⟩
  | 73 => ⟨S3x512x4096, .i32⟩
  | 74 => ⟨S3x512x4096, .i32⟩
  | 75 => ⟨S3x512x4096, .i32⟩
  | 76 => ⟨S_, .i32⟩
  | 77 => ⟨S_, .i32⟩
  | 78 => ⟨S_, .i32⟩
  | 79 => ⟨S3x512x4096, .i32⟩
  | 80 => ⟨S3x512x4096, .i32⟩
  | 81 => ⟨S_, .i32⟩
  | 82 => ⟨S3x512x4096, .i32⟩
  | 83 => ⟨S3x512x4096, .i32⟩
  | 84 => ⟨S3x512x4096, .i8⟩
  | 85 => ⟨S3x512x2048, .i8⟩
  | 86 => ⟨S3x512x2048, .i8⟩
  | 87 => ⟨S2048x11008, .i32⟩
  | 88 => ⟨S_, .i32⟩
  | 89 => ⟨S2048x11008, .i32⟩
  | 90 => ⟨S2048x11008, .i32⟩
  | 91 => ⟨S_, .i32⟩
  | 92 => ⟨S2048x11008, .i32⟩
  | 93 => ⟨S2048x11008, .i1⟩
  | 94 => ⟨S2048x11008, .i32⟩
  | 95 => ⟨S_, .i32⟩
  | 96 => ⟨S2048x11008, .i32⟩
  | 97 => ⟨S2048x11008, .i32⟩
  | 98 => ⟨S2048x11008, .i32⟩
  | 99 => ⟨S2048x11008, .i8⟩
  | 100 => ⟨S_, .i32⟩
  | 101 => ⟨S2048x11008, .i32⟩
  | 102 => ⟨S2048x11008, .i32⟩
  | 103 => ⟨S_, .i32⟩
  | 104 => ⟨S2048x11008, .i32⟩
  | 105 => ⟨S2048x11008, .i1⟩
  | 106 => ⟨S2048x11008, .i32⟩
  | 107 => ⟨S_, .i32⟩
  | 108 => ⟨S2048x11008, .i32⟩
  | 109 => ⟨S2048x11008, .i32⟩
  | 110 => ⟨S2048x11008, .i32⟩
  | 111 => ⟨S2048x11008, .i8⟩
  | 112 => ⟨S3x512x2048, .i32⟩
  | 113 => ⟨S3x512x2048x1, .i32⟩
  | 114 => ⟨S2048x11008, .i32⟩
  | 115 => ⟨S1x1x2048x11008, .i32⟩
  | 116 => ⟨S3x512x2048x11008, .i32⟩
  | 117 => ⟨S3x512x2048x11008, .i32⟩
  | 118 => ⟨S3x512x2048x11008, .i32⟩
  | 119 => ⟨S_, .i32⟩
  | 120 => ⟨S3x512x11008, .i32⟩
  | 121 => ⟨S3x512x2048, .i32⟩
  | 122 => ⟨S3x512x2048x1, .i32⟩
  | 123 => ⟨S2048x11008, .i32⟩
  | 124 => ⟨S1x1x2048x11008, .i32⟩
  | 125 => ⟨S3x512x2048x11008, .i32⟩
  | 126 => ⟨S3x512x2048x11008, .i32⟩
  | 127 => ⟨S3x512x2048x11008, .i32⟩
  | _ => ⟨S3x512x4096, .i32⟩

abbrev hbmTy0_1 (i : Nat) : BufTy := match i % 128 with
  | 0 => ⟨S_, .i32⟩
  | 1 => ⟨S3x512x11008, .i32⟩
  | 2 => ⟨S3x512x11008, .i32⟩
  | 3 => ⟨S2048x11008, .i32⟩
  | 4 => ⟨S_, .i32⟩
  | 5 => ⟨S2048x11008, .i32⟩
  | 6 => ⟨S2048x11008, .i32⟩
  | 7 => ⟨S_, .i32⟩
  | 8 => ⟨S2048x11008, .i32⟩
  | 9 => ⟨S2048x11008, .i1⟩
  | 10 => ⟨S2048x11008, .i32⟩
  | 11 => ⟨S_, .i32⟩
  | 12 => ⟨S2048x11008, .i32⟩
  | 13 => ⟨S2048x11008, .i32⟩
  | 14 => ⟨S2048x11008, .i32⟩
  | 15 => ⟨S2048x11008, .i8⟩
  | 16 => ⟨S_, .i32⟩
  | 17 => ⟨S2048x11008, .i32⟩
  | 18 => ⟨S2048x11008, .i32⟩
  | 19 => ⟨S_, .i32⟩
  | 20 => ⟨S2048x11008, .i32⟩
  | 21 => ⟨S2048x11008, .i1⟩
  | 22 => ⟨S2048x11008, .i32⟩
  | 23 => ⟨S_, .i32⟩
  | 24 => ⟨S2048x11008, .i32⟩
  | 25 => ⟨S2048x11008, .i32⟩
  | 26 => ⟨S2048x11008, .i32⟩
  | 27 => ⟨S2048x11008, .i8⟩
  | 28 => ⟨S3x512x2048, .i32⟩
  | 29 => ⟨S3x512x2048x1, .i32⟩
  | 30 => ⟨S2048x11008, .i32⟩
  | 31 => ⟨S1x1x2048x11008, .i32⟩
  | 32 => ⟨S3x512x2048x11008, .i32⟩
  | 33 => ⟨S3x512x2048x11008, .i32⟩
  | 34 => ⟨S3x512x2048x11008, .i32⟩
  | 35 => ⟨S_, .i32⟩
  | 36 => ⟨S3x512x11008, .i32⟩
  | 37 => ⟨S3x512x2048, .i32⟩
  | 38 => ⟨S3x512x2048x1, .i32⟩
  | 39 => ⟨S2048x11008, .i32⟩
  | 40 => ⟨S1x1x2048x11008, .i32⟩
  | 41 => ⟨S3x512x2048x11008, .i32⟩
  | 42 => ⟨S3x512x2048x11008, .i32⟩
  | 43 => ⟨S3x512x2048x11008, .i32⟩
  | 44 => ⟨S_, .i32⟩
  | 45 => ⟨S3x512x11008, .i32⟩
  | 46 => ⟨S3x512x11008, .i32⟩
  | 47 => ⟨S3x512x1, .i32⟩
  | 48 => ⟨S3x512x11008, .i32⟩
  | 49 => ⟨S3x512x11008, .i32⟩
  | 50 => ⟨S3x512x1, .i32⟩
  | 51 => ⟨S1x1x11008, .i32⟩
  | 52 => ⟨S3x512x11008, .i32⟩
  | 53 => ⟨S3x512x11008, .i32⟩
  | 54 => ⟨S3x512x11008, .i32⟩
  | 55 => ⟨S_, .i32⟩
  | 56 => ⟨S3x512x11008, .i32⟩
  | 57 => ⟨S3x512x11008, .i32⟩
  | 58 => ⟨S_, .i32⟩
  | 59 => ⟨S3x512x11008, .i32⟩
  | 60 => ⟨S3x512x11008, .i32⟩
  | 61 => ⟨S_, .i32⟩
  | 62 => ⟨S3x512x11008, .i32⟩
  | 63 => ⟨S3x512x11008, .i32⟩
  | 64 => ⟨S3x512x11008, .i32⟩
  | 65 => ⟨S3x512x11008, .i32⟩
  | 66 => ⟨S3x512x1, .i32⟩
  | 67 => ⟨S3x512x11008, .i32⟩
  | 68 => ⟨S3x512x11008, .i32⟩
  | 69 => ⟨S3x512x1, .i32⟩
  | 70 => ⟨S1x1x11008, .i32⟩
  | 71 => ⟨S3x512x11008, .i32⟩
  | 72 => ⟨S3x512x11008, .i32⟩
  | 73 => ⟨S3x512x11008, .i32⟩
  | 74 => ⟨S_, .i32⟩
  | 75 => ⟨S3x512x11008, .i32⟩
  | 76 => ⟨S3x512x11008, .i32⟩
  | 77 => ⟨S_, .i32⟩
  | 78 => ⟨S3x512x11008, .i32⟩
  | 79 => ⟨S3x512x11008, .i32⟩
  | 80 => ⟨S_, .i32⟩
  | 81 => ⟨S3x512x11008, .i32⟩
  | 82 => ⟨S3x512x11008, .i32⟩
  | 83 => ⟨S3x512x11008, .i32⟩
  | 84 => ⟨S3x512x11008, .i32⟩
  | 85 => ⟨S_, .i32⟩
  | 86 => ⟨S_, .i32⟩
  | 87 => ⟨S_, .i32⟩
  | 88 => ⟨S3x512x11008, .i32⟩
  | 89 => ⟨S3x512x11008, .i32⟩
  | 90 => ⟨S_, .i32⟩
  | 91 => ⟨S3x512x11008, .i32⟩
  | 92 => ⟨S3x512x11008, .i32⟩
  | 93 => ⟨S_, .i32⟩
  | 94 => ⟨S_, .i32⟩
  | 95 => ⟨S_, .i32⟩
  | 96 => ⟨S3x512x11008, .i32⟩
  | 97 => ⟨S3x512x11008, .i32⟩
  | 98 => ⟨S_, .i32⟩
  | 99 => ⟨S3x512x11008, .i32⟩
  | 100 => ⟨S3x512x11008, .i32⟩
  | 101 => ⟨S3x512x11008, .i32⟩
  | 102 => ⟨S_, .i32⟩
  | 103 => ⟨S3x512x11008, .i32⟩
  | 104 => ⟨S3x512x11008, .i32⟩
  | 105 => ⟨S3x512x11008, .i32⟩
  | 106 => ⟨S_, .i32⟩
  | 107 => ⟨S3x512x11008, .i32⟩
  | 108 => ⟨S3x512x11008, .i32⟩
  | 109 => ⟨S3x512x11008, .i32⟩
  | 110 => ⟨S_, .i32⟩
  | 111 => ⟨S3x512x11008, .i32⟩
  | 112 => ⟨S3x512x11008, .i32⟩
  | 113 => ⟨S_, .i32⟩
  | 114 => ⟨S3x512x11008, .i32⟩
  | 115 => ⟨S3x512x11008, .i32⟩
  | 116 => ⟨S_, .i32⟩
  | 117 => ⟨S3x512x11008, .i32⟩
  | 118 => ⟨S3x512x11008, .i32⟩
  | 119 => ⟨S_, .i32⟩
  | 120 => ⟨S3x512x11008, .i32⟩
  | 121 => ⟨S3x512x11008, .i32⟩
  | 122 => ⟨S3x512x11008, .i32⟩
  | 123 => ⟨S_, .i32⟩
  | 124 => ⟨S3x512x11008, .i32⟩
  | 125 => ⟨S3x512x11008, .i1⟩
  | 126 => ⟨S_, .i32⟩
  | 127 => ⟨S3x512x11008, .i32⟩
  | _ => ⟨S3x512x4096, .i32⟩

abbrev hbmTy0_2 (i : Nat) : BufTy := match i % 128 with
  | 0 => ⟨S3x512x11008, .i32⟩
  | 1 => ⟨S_, .i32⟩
  | 2 => ⟨S3x512x11008, .i32⟩
  | 3 => ⟨S3x512x11008, .i32⟩
  | 4 => ⟨S3x512x11008, .i32⟩
  | 5 => ⟨S_, .i32⟩
  | 6 => ⟨S3x512x11008, .i32⟩
  | 7 => ⟨S3x512x11008, .i32⟩
  | 8 => ⟨S3x512x11008, .i32⟩
  | 9 => ⟨S3x512x11008, .i32⟩
  | 10 => ⟨S3x512x11008, .i32⟩
  | 11 => ⟨S3x512x11008, .i32⟩
  | 12 => ⟨S3x512x11008, .i1⟩
  | 13 => ⟨S3x512x11008, .i32⟩
  | 14 => ⟨S_, .i32⟩
  | 15 => ⟨S3x512x11008, .i32⟩
  | 16 => ⟨S3x512x11008, .i1⟩
  | 17 => ⟨S3x512x11008, .i1⟩
  | 18 => ⟨S_, .i32⟩
  | 19 => ⟨S3x512x11008, .i32⟩
  | 20 => ⟨S3x512x11008, .i32⟩
  | 21 => ⟨S3x512x11008, .i32⟩
  | 22 => ⟨S3x512x11008, .i32⟩
  | 23 => ⟨S_, .i32⟩
  | 24 => ⟨S_, .i32⟩
  | 25 => ⟨S_, .i32⟩
  | 26 => ⟨S_, .i32⟩
  | 27 => ⟨S_, .i32⟩
  | 28 => ⟨S3x512x11008, .i32⟩
  | 29 => ⟨S3x512x11008, .i32⟩
  | 30 => ⟨S_, .i32⟩
  | 31 => ⟨S3x512x11008, .i32⟩
  | 32 => ⟨S3x512x11008, .i32⟩
  | 33 => ⟨S3x512x11008, .i32⟩
  | 34 => ⟨S_, .i32⟩
  | 35 => ⟨S3x512, .i32⟩
  | 36 => ⟨S_, .i32⟩
  | 37 => ⟨S3x512, .i32⟩
  | 38 => ⟨S3x512, .i32⟩
  | 39 => ⟨S3x512, .i32⟩
  | 40 => ⟨S_, .i32⟩
  | 41 => ⟨S3x512, .i32⟩
  | 42 => ⟨S3x512, .i32⟩
  | 43 => ⟨S_, .i32⟩
  | 44 => ⟨S3x512, .i32⟩
  | 45 => ⟨S3x512, .i32⟩
  | 46 => ⟨S3x512, .i32⟩
  | 47 => ⟨S_, .i32⟩
  | 48 => ⟨S3x512, .i32⟩
  | 49 => ⟨S3x512, .i32⟩
  | 50 => ⟨S_, .i32⟩
  | 51 => ⟨S_, .i32⟩
  | 52 => ⟨S3x512, .i32⟩
  | 53 => ⟨S3x512, .i32⟩
  | 54 => ⟨S3x512, .i32⟩
  | 55 => ⟨S_, .i32⟩
  | 56 => ⟨S3x512, .i32⟩
  | 57 => ⟨S3x512, .i1⟩
  | 58 => ⟨S3x512, .i32⟩
  | 59 => ⟨S3x512, .i32⟩
  | 60 => ⟨S_, .i32⟩
  | 61 => ⟨S3x512, .i32⟩
  | 62 => ⟨S3x512, .i1⟩
  | 63 => ⟨S3x512, .i1⟩
  | 64 => ⟨S_, .i32⟩
  | 65 => ⟨S3x512, .i32⟩
  | 66 => ⟨S3x512, .i32⟩
  | 67 => ⟨S3x512, .i32⟩
  | 68 => ⟨S_, .i32⟩
  | 69 => ⟨S3x512, .i32⟩
  | 70 => ⟨S3x512, .i32⟩
  | 71 => ⟨S_, .i32⟩
  | 72 => ⟨S3x512, .i32⟩
  | 73 => ⟨S3x512, .i32⟩
  | 74 => ⟨S_, .i32⟩
  | 75 => ⟨S3x512, .i32⟩
  | 76 => ⟨S3x512, .i32⟩
  | 77 => ⟨S3x512x1, .i32⟩
  | 78 => ⟨S3x512x1, .i32⟩
  | 79 => ⟨S3x512x11008, .i32⟩
  | 80 => ⟨S3x512x11008, .i32⟩
  | 81 => ⟨S_, .i32⟩
  | 82 => ⟨S3x512x1, .i32⟩
  | 83 => ⟨S3x512x1, .i32⟩
  | 84 => ⟨S3x512x11008, .i32⟩
  | 85 => ⟨S3x512x11008, .i32⟩
  | 86 => ⟨S3x512x11008, .i32⟩
  | 87 => ⟨S3x512x11008, .i32⟩
  | 88 => ⟨S3x512x11008, .i32⟩
  | 89 => ⟨S3x512x1, .i32⟩
  | 90 => ⟨S3x512x11008, .i32⟩
  | 91 => ⟨S3x512x11008, .i1⟩
  | 92 => ⟨S3x512x11008, .i32⟩
  | 93 => ⟨S3x512x11008, .i32⟩
  | 94 => ⟨S_, .i32⟩
  | 95 => ⟨S3x512x11008, .i32⟩
  | 96 => ⟨S3x512x11008, .i1⟩
  | 97 => ⟨S3x512x11008, .i1⟩
  | 98 => ⟨S_, .i32⟩
  | 99 => ⟨S3x512x11008, .i32⟩
  | 100 => ⟨S3x512x11008, .i32⟩
  | 101 => ⟨S3x512x11008, .i32⟩
  | 102 => ⟨S3x512x11008, .i32⟩
  | 103 => ⟨S3x512x11008, .i32⟩
  | 104 => ⟨S_, .i32⟩
  | 105 => ⟨S_, .i32⟩
  | 106 => ⟨S_, .i32⟩
  | 107 => ⟨S3x512x11008, .i32⟩
  | 108 => ⟨S3x512x11008, .i32⟩
  | 109 => ⟨S_, .i32⟩
  | 110 => ⟨S3x512x11008, .i32⟩
  | 111 => ⟨S3x512x11008, .i32⟩
  | 112 => ⟨S3x512x11008, .i8⟩
  | _ => ⟨S3x512x4096, .i32⟩

abbrev hbmTy (i : Nat) : BufTy := match i / 128 with
  | 0 => hbmTy0_0 i
  | 1 => hbmTy0_1 i
  | 2 => hbmTy0_2 i
  | _ => ⟨S3x512x4096, .i32⟩

abbrev bufTy : (tb : Table) → Fin (tcTables nBuf tb) → BufTy
  | .hbm, ⟨i, _⟩ => hbmTy i
  | _, _ => ⟨S3x512x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v12 : Ref sig .tc := ⟨.hbm, 39, rfl⟩
abbrev main_c_5 : Ref sig .tc := ⟨.hbm, 40, rfl⟩
abbrev main_v13 : Ref sig .tc := ⟨.hbm, 41, rfl⟩
abbrev main_v14 : Ref sig .tc := ⟨.hbm, 42, rfl⟩
abbrev main_c_6 : Ref sig .tc := ⟨.hbm, 43, rfl⟩
abbrev main_v15 : Ref sig .tc := ⟨.hbm, 44, rfl⟩
abbrev main_v16 : Ref sig .tc := ⟨.hbm, 45, rfl⟩
abbrev main_c_7 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c_8 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_c : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_c_0 : Ref sig .tc := ⟨.hbm, 70, rfl⟩
abbrev main_call1_v11 : Ref sig .tc := ⟨.hbm, 71, rfl⟩
abbrev main_call1_v12 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_c_9 : Ref sig .tc := ⟨.hbm, 76, rfl⟩
abbrev main_c_10 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_c_11 : Ref sig .tc := ⟨.hbm, 88, rfl⟩
abbrev main_v35 : Ref sig .tc := ⟨.hbm, 89, rfl⟩
abbrev main_v36 : Ref sig .tc := ⟨.hbm, 90, rfl⟩
abbrev main_c_12 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_c_13 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_c_14 : Ref sig .tc := ⟨.hbm, 100, rfl⟩
abbrev main_v44 : Ref sig .tc := ⟨.hbm, 101, rfl⟩
abbrev main_v45 : Ref sig .tc := ⟨.hbm, 102, rfl⟩
abbrev main_c_15 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_c_16 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_c_17 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_c_18 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_c_19 : Ref sig .tc := ⟨.hbm, 132, rfl⟩
abbrev main_v71 : Ref sig .tc := ⟨.hbm, 133, rfl⟩
abbrev main_v72 : Ref sig .tc := ⟨.hbm, 134, rfl⟩
abbrev main_c_20 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_c_21 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_c_22 : Ref sig .tc := ⟨.hbm, 144, rfl⟩
abbrev main_v80 : Ref sig .tc := ⟨.hbm, 145, rfl⟩
abbrev main_v81 : Ref sig .tc := ⟨.hbm, 146, rfl⟩
abbrev main_c_23 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_c_24 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_c_25 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_c_26 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_c_27 : Ref sig .tc := ⟨.hbm, 183, rfl⟩
abbrev main_v114 : Ref sig .tc := ⟨.hbm, 184, rfl⟩
abbrev main_v115 : Ref sig .tc := ⟨.hbm, 185, rfl⟩
abbrev main_c_28 : Ref sig .tc := ⟨.hbm, 186, rfl⟩
abbrev main_v116 : Ref sig .tc := ⟨.hbm, 187, rfl⟩
abbrev main_v117 : Ref sig .tc := ⟨.hbm, 188, rfl⟩
abbrev main_c_29 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_c_30 : Ref sig .tc := ⟨.hbm, 202, rfl⟩
abbrev main_v130 : Ref sig .tc := ⟨.hbm, 203, rfl⟩
abbrev main_v131 : Ref sig .tc := ⟨.hbm, 204, rfl⟩
abbrev main_c_31 : Ref sig .tc := ⟨.hbm, 205, rfl⟩
abbrev main_v132 : Ref sig .tc := ⟨.hbm, 206, rfl⟩
abbrev main_v133 : Ref sig .tc := ⟨.hbm, 207, rfl⟩
abbrev main_c_32 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_c_33 : Ref sig .tc := ⟨.hbm, 213, rfl⟩
abbrev main_c_34 : Ref sig .tc := ⟨.hbm, 214, rfl⟩
abbrev main_call3_v0 : Ref sig .tc := ⟨.hbm, 215, rfl⟩
abbrev main_call3_v1 : Ref sig .tc := ⟨.hbm, 216, rfl⟩
abbrev main_call3_v2 : Ref sig .tc := ⟨.hbm, 217, rfl⟩
abbrev main_call3_v3 : Ref sig .tc := ⟨.hbm, 218, rfl⟩
abbrev main_call3_v4 : Ref sig .tc := ⟨.hbm, 219, rfl⟩
abbrev main_v138 : Ref sig .tc := ⟨.hbm, 220, rfl⟩
abbrev main_c_35 : Ref sig .tc := ⟨.hbm, 221, rfl⟩
abbrev main_c_36 : Ref sig .tc := ⟨.hbm, 222, rfl⟩
abbrev main_call4_v0 : Ref sig .tc := ⟨.hbm, 223, rfl⟩
abbrev main_call4_v1 : Ref sig .tc := ⟨.hbm, 224, rfl⟩
abbrev main_call4_v2 : Ref sig .tc := ⟨.hbm, 225, rfl⟩
abbrev main_call4_v3 : Ref sig .tc := ⟨.hbm, 226, rfl⟩
abbrev main_call4_v4 : Ref sig .tc := ⟨.hbm, 227, rfl⟩
abbrev main_v139 : Ref sig .tc := ⟨.hbm, 228, rfl⟩
abbrev main_v140 : Ref sig .tc := ⟨.hbm, 229, rfl⟩
abbrev main_c_37 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_c_38 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_c_39 : Ref sig .tc := ⟨.hbm, 238, rfl⟩
abbrev main_v147 : Ref sig .tc := ⟨.hbm, 239, rfl⟩
abbrev main_v148 : Ref sig .tc := ⟨.hbm, 240, rfl⟩
abbrev main_c_40 : Ref sig .tc := ⟨.hbm, 241, rfl⟩
abbrev main_v149 : Ref sig .tc := ⟨.hbm, 242, rfl⟩
abbrev main_v150 : Ref sig .tc := ⟨.hbm, 243, rfl⟩
abbrev main_c_41 : Ref sig .tc := ⟨.hbm, 244, rfl⟩
abbrev main_v151 : Ref sig .tc := ⟨.hbm, 245, rfl⟩
abbrev main_v152 : Ref sig .tc := ⟨.hbm, 246, rfl⟩
abbrev main_c_42 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_c_43 : Ref sig .tc := ⟨.hbm, 251, rfl⟩
abbrev main_v156 : Ref sig .tc := ⟨.hbm, 252, rfl⟩
abbrev main_v157 : Ref sig .tc := ⟨.hbm, 253, rfl⟩
abbrev main_c_44 : Ref sig .tc := ⟨.hbm, 254, rfl⟩
abbrev main_call5_v0 : Ref sig .tc := ⟨.hbm, 255, rfl⟩
abbrev main_v158 : Ref sig .tc := ⟨.hbm, 256, rfl⟩
abbrev main_c_45 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_c_46 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_call6_v0 : Ref sig .tc := ⟨.hbm, 265, rfl⟩
abbrev main_call6_v1 : Ref sig .tc := ⟨.hbm, 266, rfl⟩
abbrev main_call6_v2 : Ref sig .tc := ⟨.hbm, 267, rfl⟩
abbrev main_call6_v3 : Ref sig .tc := ⟨.hbm, 268, rfl⟩
abbrev main_call6_v4 : Ref sig .tc := ⟨.hbm, 269, rfl⟩
abbrev main_call6_c : Ref sig .tc := ⟨.hbm, 270, rfl⟩
abbrev main_call6_v5 : Ref sig .tc := ⟨.hbm, 271, rfl⟩
abbrev main_call6_v6 : Ref sig .tc := ⟨.hbm, 272, rfl⟩
abbrev main_call6_v7 : Ref sig .tc := ⟨.hbm, 273, rfl⟩
abbrev main_call6_c_0 : Ref sig .tc := ⟨.hbm, 274, rfl⟩
abbrev main_call6_v8 : Ref sig .tc := ⟨.hbm, 275, rfl⟩
abbrev main_call6_v9 : Ref sig .tc := ⟨.hbm, 276, rfl⟩
abbrev main_v165 : Ref sig .tc := ⟨.hbm, 277, rfl⟩
abbrev main_v166 : Ref sig .tc := ⟨.hbm, 278, rfl⟩
abbrev main_c_47 : Ref sig .tc := ⟨.hbm, 279, rfl⟩
abbrev main_c_48 : Ref sig .tc := ⟨.hbm, 280, rfl⟩
abbrev main_v167 : Ref sig .tc := ⟨.hbm, 281, rfl⟩
abbrev main_c_49 : Ref sig .tc := ⟨.hbm, 282, rfl⟩
abbrev main_v168 : Ref sig .tc := ⟨.hbm, 283, rfl⟩
abbrev main_v169 : Ref sig .tc := ⟨.hbm, 284, rfl⟩
abbrev main_v170 : Ref sig .tc := ⟨.hbm, 285, rfl⟩
abbrev main_c_50 : Ref sig .tc := ⟨.hbm, 286, rfl⟩
abbrev main_v171 : Ref sig .tc := ⟨.hbm, 287, rfl⟩
abbrev main_v172 : Ref sig .tc := ⟨.hbm, 288, rfl⟩
abbrev main_v173 : Ref sig .tc := ⟨.hbm, 289, rfl⟩
abbrev main_c_51 : Ref sig .tc := ⟨.hbm, 290, rfl⟩
abbrev main_v174 : Ref sig .tc := ⟨.hbm, 291, rfl⟩
abbrev main_c_52 : Ref sig .tc := ⟨.hbm, 292, rfl⟩
abbrev main_v175 : Ref sig .tc := ⟨.hbm, 293, rfl⟩
abbrev main_v176 : Ref sig .tc := ⟨.hbm, 294, rfl⟩
abbrev main_v177 : Ref sig .tc := ⟨.hbm, 295, rfl⟩
abbrev main_c_53 : Ref sig .tc := ⟨.hbm, 296, rfl⟩
abbrev main_v178 : Ref sig .tc := ⟨.hbm, 297, rfl⟩
abbrev main_v179 : Ref sig .tc := ⟨.hbm, 298, rfl⟩
abbrev main_c_54 : Ref sig .tc := ⟨.hbm, 299, rfl⟩
abbrev main_v180 : Ref sig .tc := ⟨.hbm, 300, rfl⟩
abbrev main_v181 : Ref sig .tc := ⟨.hbm, 301, rfl⟩
abbrev main_v182 : Ref sig .tc := ⟨.hbm, 302, rfl⟩
abbrev main_c_55 : Ref sig .tc := ⟨.hbm, 303, rfl⟩
abbrev main_v183 : Ref sig .tc := ⟨.hbm, 304, rfl⟩
abbrev main_v184 : Ref sig .tc := ⟨.hbm, 305, rfl⟩
abbrev main_c_56 : Ref sig .tc := ⟨.hbm, 306, rfl⟩
abbrev main_call7_v0 : Ref sig .tc := ⟨.hbm, 307, rfl⟩
abbrev main_call7_v1 : Ref sig .tc := ⟨.hbm, 308, rfl⟩
abbrev main_call7_v2 : Ref sig .tc := ⟨.hbm, 309, rfl⟩
abbrev main_call7_v3 : Ref sig .tc := ⟨.hbm, 310, rfl⟩
abbrev main_call7_v4 : Ref sig .tc := ⟨.hbm, 311, rfl⟩
abbrev main_call7_v5 : Ref sig .tc := ⟨.hbm, 312, rfl⟩
abbrev main_call7_v6 : Ref sig .tc := ⟨.hbm, 313, rfl⟩
abbrev main_call7_v7 : Ref sig .tc := ⟨.hbm, 314, rfl⟩
abbrev main_call7_v8 : Ref sig .tc := ⟨.hbm, 315, rfl⟩
abbrev main_call7_c : Ref sig .tc := ⟨.hbm, 316, rfl⟩
abbrev main_call7_v9 : Ref sig .tc := ⟨.hbm, 317, rfl⟩
abbrev main_call7_v10 : Ref sig .tc := ⟨.hbm, 318, rfl⟩
abbrev main_call7_v11 : Ref sig .tc := ⟨.hbm, 319, rfl⟩
abbrev main_call7_c_0 : Ref sig .tc := ⟨.hbm, 320, rfl⟩
abbrev main_call7_v12 : Ref sig .tc := ⟨.hbm, 321, rfl⟩
abbrev main_call7_v13 : Ref sig .tc := ⟨.hbm, 322, rfl⟩
abbrev main_v185 : Ref sig .tc := ⟨.hbm, 323, rfl⟩
abbrev main_c_57 : Ref sig .tc := ⟨.hbm, 324, rfl⟩
abbrev main_v186 : Ref sig .tc := ⟨.hbm, 325, rfl⟩
abbrev main_v187 : Ref sig .tc := ⟨.hbm, 326, rfl⟩
abbrev main_c_58 : Ref sig .tc := ⟨.hbm, 327, rfl⟩
abbrev main_v188 : Ref sig .tc := ⟨.hbm, 328, rfl⟩
abbrev main_v189 : Ref sig .tc := ⟨.hbm, 329, rfl⟩
abbrev main_c_59 : Ref sig .tc := ⟨.hbm, 330, rfl⟩
abbrev main_v190 : Ref sig .tc := ⟨.hbm, 331, rfl⟩
abbrev main_v191 : Ref sig .tc := ⟨.hbm, 332, rfl⟩
abbrev main_v192 : Ref sig .tc := ⟨.hbm, 333, rfl⟩
abbrev main_v193 : Ref sig .tc := ⟨.hbm, 334, rfl⟩
abbrev main_v194 : Ref sig .tc := ⟨.hbm, 335, rfl⟩
abbrev main_v195 : Ref sig .tc := ⟨.hbm, 336, rfl⟩
abbrev main_c_60 : Ref sig .tc := ⟨.hbm, 337, rfl⟩
abbrev main_v196 : Ref sig .tc := ⟨.hbm, 338, rfl⟩
abbrev main_v197 : Ref sig .tc := ⟨.hbm, 339, rfl⟩
abbrev main_v198 : Ref sig .tc := ⟨.hbm, 340, rfl⟩
abbrev main_v199 : Ref sig .tc := ⟨.hbm, 341, rfl⟩
abbrev main_call8_v0 : Ref sig .tc := ⟨.hbm, 342, rfl⟩
abbrev main_call8_v1 : Ref sig .tc := ⟨.hbm, 343, rfl⟩
abbrev main_call8_v2 : Ref sig .tc := ⟨.hbm, 344, rfl⟩
abbrev main_call8_v3 : Ref sig .tc := ⟨.hbm, 345, rfl⟩
abbrev main_call8_v4 : Ref sig .tc := ⟨.hbm, 346, rfl⟩
abbrev main_call8_v5 : Ref sig .tc := ⟨.hbm, 347, rfl⟩
abbrev main_call8_v6 : Ref sig .tc := ⟨.hbm, 348, rfl⟩
abbrev main_call8_v7 : Ref sig .tc := ⟨.hbm, 349, rfl⟩
abbrev main_call8_c : Ref sig .tc := ⟨.hbm, 350, rfl⟩
abbrev main_call8_v8 : Ref sig .tc := ⟨.hbm, 351, rfl⟩
abbrev main_call8_v9 : Ref sig .tc := ⟨.hbm, 352, rfl⟩
abbrev main_call8_v10 : Ref sig .tc := ⟨.hbm, 353, rfl⟩
abbrev main_call8_c_0 : Ref sig .tc := ⟨.hbm, 354, rfl⟩
abbrev main_call8_v11 : Ref sig .tc := ⟨.hbm, 355, rfl⟩
abbrev main_call8_v12 : Ref sig .tc := ⟨.hbm, 356, rfl⟩
abbrev main_v200 : Ref sig .tc := ⟨.hbm, 357, rfl⟩
abbrev main_v201 : Ref sig .tc := ⟨.hbm, 358, rfl⟩
abbrev main_v202 : Ref sig .tc := ⟨.hbm, 359, rfl⟩
abbrev main_c_61 : Ref sig .tc := ⟨.hbm, 360, rfl⟩
abbrev main_c_62 : Ref sig .tc := ⟨.hbm, 361, rfl⟩
abbrev main_call9_v0 : Ref sig .tc := ⟨.hbm, 362, rfl⟩
abbrev main_call9_v1 : Ref sig .tc := ⟨.hbm, 363, rfl⟩
abbrev main_call9_v2 : Ref sig .tc := ⟨.hbm, 364, rfl⟩
abbrev main_call9_v3 : Ref sig .tc := ⟨.hbm, 365, rfl⟩
abbrev main_call9_v4 : Ref sig .tc := ⟨.hbm, 366, rfl⟩
abbrev main_v203 : Ref sig .tc := ⟨.hbm, 367, rfl⟩
abbrev main_v204 : Ref sig .tc := ⟨.hbm, 368, rfl⟩

abbrev nD : Nat := 1
abbrev τ : Topo := Topo.v7x

variable {F : FTy → Type} [FloatOps F]
-- ==== Proof.Bits.RegionX.lean ====
/- The first region: the row quantiser's triple, its proof data and its obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))
/-! # REGION 0 of @main: custom_call 0, `cc0_x_quant` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x4096 := Rect.unit (s := S256x4096) ![0, 0] S256x4096.size inb_S256x4096_S256x4096_0_0
abbrev r0_1 : Rect S256x128 := Rect.unit (s := S256x128) ![0, 0] S256x128.size inb_S256x128_S256x128_0_0

/-! ## What the body leaves in each output window's buffer -/

/-! ### Values of the body that the stores' payloads, spelt out, would write more than once

    Each is a vector the body binds (often a part call's result), stated over the input windows' blocks and
    numbered on from the skeleton's payload functions (`k0_pay13` …, after `k0_pay12`), so that
    `out0_W` and the values after it name it instead of spelling it out (`unfold_out out0_W` opens a canon
    with them, `unfold_payloads` opens them with the payloads); the comment after each is the printed function's
    name for the value (a count appended where that name is bound again). -/

def k0_pay13 (x0 : Vec F S256x4096 .i32) : FVec F S256x4096 .f32 :=
  k0_pay2 (View.ld x0 r0_0) -- `v2`
def k0_pay14 (x0 : Vec F S256x4096 .i32) : IVec S256x1 32 :=
  k0_pay5 (View.ld x0 r0_0) -- `v13`
def k0_pay15 (x0 : Vec F S256x4096 .i32) : FVec F S256x1 .f32 :=
  k0_pay6 (View.ld x0 r0_0) -- `v39`

/-- Window 1's staging buffer after the body, from the input windows' blocks: its 1 store as pieces, LAST
    FIRST (Lib/Pipeline/FrameBody.lean `View.canon`; the payloads are the skeleton's and the values stated above). -/
def out0_1 (x0 : Vec F S256x4096 .i32) : Vec F S256x4096 .i8 :=
  View.canon [⟨r0_0, k0_pay10 (k0_pay13 x0) (k0_pay14 x0) (k0_pay15 x0)⟩]

/-- Its stores tile the buffer (checked by evaluation), so they cover it. -/
theorem cover0_1 (p0 : Vec F S256x4096 .i8) (y : S256x4096.Idx) :
    ∃ pc ∈ ([⟨r0_0, p0⟩] : List (View.Piece (Elt F) S256x4096 .i8)), y ∈ pc.1.set :=
  View.cover_of_tiled [⟨r0_0, p0⟩] S256x4096.size (by rfl) y

/-- Window 2's staging buffer after the body, from the input windows' blocks: its 1 store as pieces, LAST
    FIRST (Lib/Pipeline/FrameBody.lean `View.canon`; the payloads are the skeleton's and the values stated above). -/
def out0_2 (x0 : Vec F S256x4096 .i32) : Vec F S256x4096 .bf16 :=
  View.canon [⟨r0_0, k0_pay11 (k0_pay13 x0) (k0_pay14 x0) (k0_pay15 x0)⟩]

/-- Its stores tile the buffer (checked by evaluation), so they cover it. -/
theorem cover0_2 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

/-- Window 3's staging buffer after the body, from the input windows' blocks: its 1 store as pieces, LAST
    FIRST (Lib/Pipeline/FrameBody.lean `View.canon`; the payloads are the skeleton's and the values stated above). -/
def out0_3 (x0 : Vec F S256x4096 .i32) : Vec F S256x128 .i32 :=
  View.canon [⟨r0_1, k0_pay12 (k0_pay15 x0)⟩]

/-- Its stores tile the buffer (checked by evaluation), so they cover it. -/
theorem cover0_3 (p0 : Vec F S256x128 .i32) (y : S256x128.Idx) :
    ∃ pc ∈ ([⟨r0_1, p0⟩] : List (View.Piece (Elt F) S256x128 .i32)), y ∈ pc.1.set :=
  View.cover_of_tiled [⟨r0_1, p0⟩] S256x128.size (by rfl) y

/-- Window 4's staging buffer after the body, from the input windows' blocks: its 1 store as pieces, LAST
    FIRST (Lib/Pipeline/FrameBody.lean `View.canon`; the payloads are the skeleton's and the values stated above). -/
def out0_4 (x0 : Vec F S256x4096 .i32) : Vec F S256x128 .i32 :=
  View.canon [⟨r0_1, k0_pay1 (k0_pay8 (k0_pay4 (View.ld x0 r0_0)) k0_pay7)⟩]

/-- Its stores tile the buffer (checked by evaluation), so they cover it. -/
theorem cover0_4 (p0 : Vec F S256x128 .i32) (y : S256x128.Idx) :
    ∃ pc ∈ ([⟨r0_1, p0⟩] : List (View.Piece (Elt F) S256x128 .i32)), y ∈ pc.1.set :=
  View.cover_of_tiled [⟨r0_1, p0⟩] S256x128.size (by rfl) y

/-! ## The body's triple -/

set_option maxHeartbeats 16000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x4096 .i32) (harg1 : arg1.IsWhole) (arg2 : Memref sig .tc .vmem S256x4096 .i8) (harg2 : arg2.IsWhole) (arg3 : Memref sig .tc .vmem S256x4096 .bf16) (harg3 : arg3.IsWhole) (arg4 : Memref sig .tc .vmem S256x128 .i32) (harg4 : arg4.IsWhole) (arg5 : Memref sig .tc .vmem S256x128 .i32) (harg5 : arg5.IsWhole)
    (x0 : Vec F S256x4096 .i32) (K : PUnit → sProp 𝕄) :
    iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare (out0_1 x0) ∗ owns (c : Thread nD τ) arg3 fullShare (out0_2 x0) ∗ owns (c : Thread nD τ) arg4 fullShare (out0_3 x0) ∗ owns (c : Thread nD τ) arg5 fullShare (out0_4 x0)) -∗ K ⟨⟩))
      ⊢ wp frame (wpE (defs₀ (F := F)) Variants.none c none) E (cc0_x_quant i arg1 harg1 arg2 harg2 arg3 harg3 arg4 harg4 arg5 harg5) K := by
  simp only [cc0_x_quant_eq_skeleton]; unfold cc0_x_quant_skel
  simp only [k0_part1_eq_skeleton, k0_part2_eq_skeleton]
  unfold owns
  iintro ⟨⟨%f0, %hf0, H0⟩, ⟨%d1, %f1, -, H1⟩, ⟨%d2, %f2, -, H2⟩, ⟨%d3, %f3, -, H3⟩, ⟨%d4, %f4, -, H4⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  isplitl [H2]
  · iexists _; isplitr
    swap; · iexact H2
    ipureintro
    refine (View.read_writes_eq_canon _ _ _ (cover0_2 _)).trans ?_
    rfl
  isplitl [H3]
  · iexists _; isplitr
    swap; · iexact H3
    ipureintro
    refine (View.read_writes_eq_canon _ _ _ (cover0_3 _)).trans ?_
    rfl
  iexists _; isplitr
  swap; · iexact H4
  ipureintro
  refine (View.read_writes_eq_canon _ _ _ (cover0_4 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
    | ⟨3, _⟩ => out0_3 (iblk0 V c 0 t)
    | ⟨4, _⟩ => out0_4 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) := by dsimp only [dat0]
theorem after0_4 (c : Dev nD) (t : Fin cfg0.N) : (dat0 V c).after 4 t = out0_4 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) _)
  isplitl [H0]; · iexact H0
  isplitl [H1]; · iexists _; iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Gen

end
-- ==== Proof.Bits.ProjSetup.lean ====
/- The second region: its blocks, its branch condition, its staging buffers. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))
/-! # REGION 1 of @main: custom_call 1, `cc1_proj` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 43 = 0 :=
  (fun t => by
    have ht : t.val < 43 := Nat.lt_of_lt_of_eq t.isLt N_1
    have e0 : (grid1.coords t 0).val = t.val / 1 % 43 := Pipeline.Grid.coords_val t 0 (by decide) rfl
    simp only [cond1_0, e0]
    word_cmp
   : ∀ t : Fin grid1.N, cond1_0 (grid1.coords t) ↔ t.val % 43 = 0)

/-! ## The kernel body on any staging memrefs: a subtype the run finds -/

/-- One staging buffer of output window 7, through which its contents are stated (`View.read_writes_of_cover`: the
    choice does not matter). -/
abbrev VO1_7 : View sig .tc .vmem S1536x256 .f32 := (Memref.whole cc1_stg7_0 : Memref sig .tc .vmem S1536x256 .f32).view
/-- One staging buffer of output window 8, through which its contents are stated (`View.read_writes_of_cover`: the
    choice does not matter). -/
abbrev VO1_8 : View sig .tc .vmem S1536x128 .f32 := (Memref.whole cc1_stg8_0 : Memref sig .tc .vmem S1536x128 .f32).view
/-- Each window's current staging memref at point `t`, spelled as the pipeline passes it (`bodyAt1`), and its wholeness. -/
abbrev ms1_0 (t : Fin cfg1.N) : Memref sig .tc .vmem S1536x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1536x128 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1536x128 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .i8 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x256 .i8 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256 .i32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1536x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1536x128 .f32 := win1_8.stage (cfg1.slots t 8)
abbrev hs1_8 (t : Fin cfg1.N) : (ms1_8 t).IsWhole := hstage1_8 ((cfg1.slots t 8).cast nbuf1_8)

end Regions

end Cert.Kernel.Gen

end
-- ==== Proof.Bits.Trip.lean ====
/- One trip of the second region's loop: its pieces do not depend on what the output buffer held. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A trip's pieces are the same whatever the output buffer held. -/
theorem tripL_any8  (𝒱 : Variants) (c : Dev nD) (bd : Option 𝒱.V) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (v16 : FVec F S4096x256 .bf16) (v33 : FVec F S4096x256 .bf16) (c0_i32_12 : BitVec 32) (X_arg1 : BufTy.Contents (Elt F) arg1.view.ty) (X_arg2 : BufTy.Contents (Elt F) arg2.view.ty) (X_arg3 : BufTy.Contents (Elt F) arg3.view.ty) (X_arg5 : BufTy.Contents (Elt F) arg5.view.ty) (X_arg7 : BufTy.Contents (Elt F) arg7.view.ty) (k : Fin k1_t1_loop.trips) (f f' : BufTy.Contents (Elt F) arg8.view.ty) (g : BufTy.Contents (Elt F) arg9.view.ty) :
    tripL_k1_t1 (F := F) 𝒱 c bd i arg1 harg1 arg2 harg2 arg3 harg3 arg4 harg4 arg5 harg5 arg6 harg6 arg7 harg7 arg8 harg8 arg9 harg9 v16 v33 c0_i32_12 X_arg1 X_arg2 X_arg3 X_arg5 X_arg7 k f g = tripL_k1_t1 (F := F) 𝒱 c bd i arg1 harg1 arg2 harg2 arg3 harg3 arg4 harg4 arg5 harg5 arg6 harg6 arg7 harg7 arg8 harg8 arg9 harg9 v16 v33 c0_i32_12 X_arg1 X_arg2 X_arg3 X_arg5 X_arg7 k f' g := by
  unfold tripL_k1_t1 trip_k1_t1
  rfl

/-- The pieces of the trips before `n` are the same whatever the output buffer held at the loop's entry. -/
theorem pb_any8  (𝒱 : Variants) (c : Dev nD) (bd : Option 𝒱.V) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (v16 : FVec F S4096x256 .bf16) (v33 : FVec F S4096x256 .bf16) (c0_i32_12 : BitVec 32) (X_arg1 : BufTy.Contents (Elt F) arg1.view.ty) (X_arg2 : BufTy.Contents (Elt F) arg2.view.ty) (X_arg3 : BufTy.Contents (Elt F) arg3.view.ty) (X_arg5 : BufTy.Contents (Elt F) arg5.view.ty) (X_arg7 : BufTy.Contents (Elt F) arg7.view.ty) (f f' : BufTy.Contents (Elt F) arg8.view.ty) (g : BufTy.Contents (Elt F) arg9.view.ty) (n : ℕ) :
    pb_k1_t1 (F := F) 𝒱 c bd i arg1 harg1 arg2 harg2 arg3 harg3 arg4 harg4 arg5 harg5 arg6 harg6 arg7 harg7 arg8 harg8 arg9 harg9 v16 v33 c0_i32_12 X_arg1 X_arg2 X_arg3 X_arg5 X_arg7 f' g n = pb_k1_t1 (F := F) 𝒱 c bd i arg1 harg1 arg2 harg2 arg3 harg3 arg4 harg4 arg5 harg5 arg6 harg6 arg7 harg7 arg8 harg8 arg9 harg9 v16 v33 c0_i32_12 X_arg1 X_arg2 X_arg3 X_arg5 X_arg7 f g n := by
  induction n with
  | zero => rfl
  | succ n ih =>
    rw [pb_k1_t1.eq_2, pb_k1_t1.eq_2, ih]
    unfold pb_k1_t1Step
    split
    · rw [tripL_any8 𝒱 c bd i arg1 harg1 arg2 harg2 arg3 harg3 arg4 harg4 arg5 harg5 arg6 harg6 arg7 harg7 arg8 harg8 arg9 harg9 v16 v33 c0_i32_12 X_arg1 X_arg2 X_arg3 X_arg5 X_arg7 _ (arg8.view.writes (Elt F) f' _) (arg8.view.writes (Elt F) f _)]
    · rfl

end Cert.Kernel.Gen

end
-- ==== Proof.Bits.RunFirst.lean ====
/- The second region's body at the first grid point, which clears the running maximum. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Bits.ProjSetup
public import proofs.«01_k».proof.Proof.Bits.Trip

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))
/-- The pieces the loop leaves, from the blocks the body reads. -/
noncomputable def pieces1_A (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) :
    List (View.Piece (Elt F) S1536x256 .f32) × List (View.Piece (Elt F) S1536x128 .f32) :=
  ((pb_k1_t1 (F := F) Variants.none c none i arg1 harg1 arg2 harg2 arg3 harg3 arg4 harg4 arg5 harg5 arg6 harg6 arg7 harg7 arg8 harg8 arg9 harg9
    (k1_pay12 (View.readAt (Elt F) arg4.view (Rect.unit ![0, 0] S2048x256.size inb_S2048x256_S2048x256_0_0).toLoadRect (harg4.unread x3)))
    (k1_pay13 (View.readAt (Elt F) arg6.view (Rect.unit ![0, 0] S2048x256.size inb_S2048x256_S2048x256_0_0).toLoadRect (harg6.unread x5))) 0#32
    (harg1.unread x0) (harg2.unread x1) (harg3.unread x2) (harg5.unread x4) (harg7.unread x6) arg8.view.junk (arg9.view.writes (Elt F) arg9.view.junk [⟨Rect.unit ![0, 0] S1536x128.size inb_S1536x128_S1536x128_0_0, k1_pay14⟩]) (Scf.trips k1_t1_loop.lb k1_t1_loop.ub k1_t1_loop.st)).1,
   (pb_k1_t1 (F := F) Variants.none c none i arg1 harg1 arg2 harg2 arg3 harg3 arg4 harg4 arg5 harg5 arg6 harg6 arg7 harg7 arg8 harg8 arg9 harg9
    (k1_pay12 (View.readAt (Elt F) arg4.view (Rect.unit ![0, 0] S2048x256.size inb_S2048x256_S2048x256_0_0).toLoadRect (harg4.unread x3)))
    (k1_pay13 (View.readAt (Elt F) arg6.view (Rect.unit ![0, 0] S2048x256.size inb_S2048x256_S2048x256_0_0).toLoadRect (harg6.unread x5))) 0#32
    (harg1.unread x0) (harg2.unread x1) (harg3.unread x2) (harg5.unread x4) (harg7.unread x6) arg8.view.junk (arg9.view.writes (Elt F) arg9.view.junk [⟨Rect.unit ![0, 0] S1536x128.size inb_S1536x128_S1536x128_0_0, k1_pay14⟩]) (Scf.trips k1_t1_loop.lb k1_t1_loop.ub k1_t1_loop.st)).2 ++ [⟨Rect.unit ![0, 0] S1536x128.size inb_S1536x128_S1536x128_0_0, k1_pay14⟩])

set_option maxHeartbeats 4000000 in
/-- The body runs from whole staging buffers to the continuation that holds the inputs' buffers as they were and each
    output's buffer with its pieces written. -/
theorem kernelRun1_A_run (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f (pieces1_A c i arg1 harg1 arg2 harg2 arg3 harg3 arg4 harg4 arg5 harg5 arg6 harg6 arg7 harg7 arg8 harg8 arg9 harg9 hc0 x0 x1 x2 x3 x4 x5 x6).1) ∗ (∃ f, arg9.view.loc (c : Thread nD τ) ↦[arg9.view.set]{fullShare} arg9.view.writes (Elt F) f ((pieces1_A c i arg1 harg1 arg2 harg2 arg3 harg3 arg4 harg4 arg5 harg5 arg6 harg6 arg7 harg7 arg8 harg8 arg9 harg9 hc0 x0 x1 x2 x3 x4 x5 x6).2))) -∗ K ⟨⟩))
          ⊢ wp frame (wpE (defs₀ (F := F)) Variants.none c none) E (cc1_proj i arg1 harg1 arg2 harg2 arg3 harg3 arg4 harg4 arg5 harg5 arg6 harg6 arg7 harg7 arg8 harg8 arg9 harg9) K := by
  intro E K
  unfold pieces1_A
  simp only [cc1_proj_eq_skeleton]; unfold cc1_proj_skel
  simp only [k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  rw [pb_any8 _ _ _ _ _ _ _ _ _ _ _ _ _ _ _ _ _ _ _ _ _ _ _ _ _ _ _ _ _ _ f7 arg8.view.junk]
  isplitl [H7]; · iexists _; iexact H7
  iexists _; iexact H8

/-- The body's pieces with its run. -/
noncomputable def kernelRun1_A (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) :
    Σ' (L7 : List (View.Piece (Elt F) S1536x256 .f32)), { L8 : List (View.Piece (Elt F) S1536x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc1_proj i arg1 harg1 arg2 harg2 arg3 harg3 arg4 harg4 arg5 harg5 arg6 harg6 arg7 harg7 arg8 harg8 arg9 harg9) K } :=
  ⟨(pieces1_A c i arg1 harg1 arg2 harg2 arg3 harg3 arg4 harg4 arg5 harg5 arg6 harg6 arg7 harg7 arg8 harg8 arg9 harg9 hc0 x0 x1 x2 x3 x4 x5 x6).1, ⟨(pieces1_A c i arg1 harg1 arg2 harg2 arg3 harg3 arg4 harg4 arg5 harg5 arg6 harg6 arg7 harg7 arg8 harg8 arg9 harg9 hc0 x0 x1 x2 x3 x4 x5 x6).2, (kernelRun1_A_run c i arg1 harg1 arg2 harg2 arg3 harg3 arg4 harg4 arg5 harg5 arg6 harg6 arg7 harg7 arg8 harg8 arg9 harg9 hc0 x0 x1 x2 x3 x4 x5 x6 :)⟩⟩

end Regions

end Cert.Kernel.Gen

end
-- ==== Proof.Bits.RunRest.lean ====
/- The second region's body at every later grid point, over the running maximum it finds. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Bits.ProjSetup
public import proofs.«01_k».proof.Proof.Bits.Trip

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))
/-- The pieces the loop leaves, from the blocks the body reads. -/
noncomputable def pieces1_B (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : ¬cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) (xo8 : Vec F S1536x128 .f32) :
    List (View.Piece (Elt F) S1536x256 .f32) × List (View.Piece (Elt F) S1536x128 .f32) :=
  pb_k1_t1 (F := F) Variants.none c none i arg1 harg1 arg2 harg2 arg3 harg3 arg4 harg4 arg5 harg5 arg6 harg6 arg7 harg7 arg8 harg8 arg9 harg9
    (k1_pay12 (View.readAt (Elt F) arg4.view (Rect.unit ![0, 0] S2048x256.size inb_S2048x256_S2048x256_0_0).toLoadRect (harg4.unread x3)))
    (k1_pay13 (View.readAt (Elt F) arg6.view (Rect.unit ![0, 0] S2048x256.size inb_S2048x256_S2048x256_0_0).toLoadRect (harg6.unread x5))) 0#32
    (harg1.unread x0) (harg2.unread x1) (harg3.unread x2) (harg5.unread x4) (harg7.unread x6) arg8.view.junk (harg9.unread xo8) (Scf.trips k1_t1_loop.lb k1_t1_loop.ub k1_t1_loop.st)

set_option maxHeartbeats 4000000 in
/-- The body runs from whole staging buffers to the continuation that holds the inputs' buffers as they were and each
    output's buffer with its pieces written. -/
theorem kernelRun1_B_run (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : ¬cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) (xo8 : Vec F S1536x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f (pieces1_B c i arg1 harg1 arg2 harg2 arg3 harg3 arg4 harg4 arg5 harg5 arg6 harg6 arg7 harg7 arg8 harg8 arg9 harg9 hc0 x0 x1 x2 x3 x4 x5 x6 xo8).1) ∗ (∃ f, arg9.view.loc (c : Thread nD τ) ↦[arg9.view.set]{fullShare} arg9.view.writes (Elt F) f ((pieces1_B c i arg1 harg1 arg2 harg2 arg3 harg3 arg4 harg4 arg5 harg5 arg6 harg6 arg7 harg7 arg8 harg8 arg9 harg9 hc0 x0 x1 x2 x3 x4 x5 x6 xo8).2))) -∗ K ⟨⟩))
          ⊢ wp frame (wpE (defs₀ (F := F)) Variants.none c none) E (cc1_proj i arg1 harg1 arg2 harg2 arg3 harg3 arg4 harg4 arg5 harg5 arg6 harg6 arg7 harg7 arg8 harg8 arg9 harg9) K := by
  intro E K
  unfold pieces1_B
  simp only [cc1_proj_eq_skeleton]; unfold cc1_proj_skel
  simp only [k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  rw [pb_any8 _ _ _ _ _ _ _ _ _ _ _ _ _ _ _ _ _ _ _ _ _ _ _ _ _ _ _ _ _ _ f7 arg8.view.junk]
  isplitl [H7]; · iexists _; iexact H7
  iexists _; iexact H8

/-- The body's pieces with its run. -/
noncomputable def kernelRun1_B (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : ¬cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) (xo8 : Vec F S1536x128 .f32) :
    Σ' (L7 : List (View.Piece (Elt F) S1536x256 .f32)), { L8 : List (View.Piece (Elt F) S1536x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc1_proj i arg1 harg1 arg2 harg2 arg3 harg3 arg4 harg4 arg5 harg5 arg6 harg6 arg7 harg7 arg8 harg8 arg9 harg9) K } :=
  ⟨(pieces1_B c i arg1 harg1 arg2 harg2 arg3 harg3 arg4 harg4 arg5 harg5 arg6 harg6 arg7 harg7 arg8 harg8 arg9 harg9 hc0 x0 x1 x2 x3 x4 x5 x6 xo8).1, ⟨(pieces1_B c i arg1 harg1 arg2 harg2 arg3 harg3 arg4 harg4 arg5 harg5 arg6 harg6 arg7 harg7 arg8 harg8 arg9 harg9 hc0 x0 x1 x2 x3 x4 x5 x6 xo8).2, (kernelRun1_B_run c i arg1 harg1 arg2 harg2 arg3 harg3 arg4 harg4 arg5 harg5 arg6 harg6 arg7 harg7 arg8 harg8 arg9 harg9 hc0 x0 x1 x2 x3 x4 x5 x6 xo8 :)⟩⟩

end Regions

end Cert.Kernel.Gen

end
-- ==== Proof.Bits.RegionProj.lean ====
/- The second region: what its outputs hold after each point, its proof data, its obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Bits.RunFirst
public import proofs.«01_k».proof.Proof.Bits.RunRest

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))
/-- Case A's pieces for output 7 tile its block (6 stores of `S256x256`, checked by the kernel's evaluation: Lib/Ring.lean `Piece.tiledL`, linear in the pieces, through a loop's `@[irreducible]` trip theorem too), so they cover it. -/
theorem cover1_A_7 (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) (y : S1536x256.Idx) :
    ∃ pc ∈ (kernelRun1_A c i arg1 harg1 arg2 harg2 arg3 harg3 arg4 harg4 arg5 harg5 arg6 harg6 arg7 harg7 arg8 harg8 arg9 harg9 hc0 x0 x1 x2 x3 x4 x5 x6).1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3 x4 x5 x6).1 S256x256.size (by sl_kernel_rfl) y

/-- What case A leaves in output 7's staging buffer: its pieces read back over junk. -/
def out1_A_7 (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) : Vec F S1536x256 .f32 :=
  VO1_7.read (Elt F) (VO1_7.writes (Elt F) VO1_7.junk (kernelRun1_A c i arg1 harg1 arg2 harg2 arg3 harg3 arg4 harg4 arg5 harg5 arg6 harg6 arg7 harg7 arg8 harg8 arg9 harg9 hc0 x0 x1 x2 x3 x4 x5 x6).1)

/-- Case A's pieces for output 8 are of SEVERAL sizes (7 stores of `S1536x128`, `S256x128`): cut into blocks of `![256, 128]` they tile its block (checked by the kernel's evaluation: Lib/Ring.lean `Piece.tiledBy`), so they cover it. -/
theorem cover1_A_8 (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) (y : S1536x128.Idx) :
    ∃ pc ∈ (kernelRun1_A c i arg1 harg1 arg2 harg2 arg3 harg3 arg4 harg4 arg5 harg5 arg6 harg6 arg7 harg7 arg8 harg8 arg9 harg9 hc0 x0 x1 x2 x3 x4 x5 x6).2.1, y ∈ pc.1.set :=
  View.cover_of_tiledBy (kernelRun1_A c i arg1 harg1 arg2 harg2 arg3 harg3 arg4 harg4 arg5 harg5 arg6 harg6 arg7 harg7 arg8 harg8 arg9 harg9 hc0 x0 x1 x2 x3 x4 x5 x6).2.1 ![256, 128] (by sl_kernel_rfl) y

/-- What case A leaves in output 8's staging buffer: its pieces read back over junk. -/
def out1_A_8 (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) : Vec F S1536x128 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 hc0 x0 x1 x2 x3 x4 x5 x6).2.1)

/-- Case B's pieces for output 7 tile its block (6 stores of `S256x256`, checked by the kernel's evaluation: Lib/Ring.lean `Piece.tiledL`, linear in the pieces, through a loop's `@[irreducible]` trip theorem too), so they cover it. -/
theorem cover1_B_7 (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : ¬cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) (xo8 : Vec F S1536x128 .f32) (y : S1536x256.Idx) :
    ∃ pc ∈ (kernelRun1_B c i arg1 harg1 arg2 harg2 arg3 harg3 arg4 harg4 arg5 harg5 arg6 harg6 arg7 harg7 arg8 harg8 arg9 harg9 hc0 x0 x1 x2 x3 x4 x5 x6 xo8).1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 x4 x5 x6 xo8).1 S256x256.size (by sl_kernel_rfl) y

/-- What case B leaves in output 7's staging buffer: its pieces read back over junk. -/
def out1_B_7 (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : ¬cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) (xo8 : Vec F S1536x128 .f32) : Vec F S1536x256 .f32 :=
  VO1_7.read (Elt F) (VO1_7.writes (Elt F) VO1_7.junk (kernelRun1_B c i arg1 harg1 arg2 harg2 arg3 harg3 arg4 harg4 arg5 harg5 arg6 harg6 arg7 harg7 arg8 harg8 arg9 harg9 hc0 x0 x1 x2 x3 x4 x5 x6 xo8).1)

/-- Case B's pieces for output 8 tile its block (6 stores of `S256x128`, checked by the kernel's evaluation: Lib/Ring.lean `Piece.tiledL`, linear in the pieces, through a loop's `@[irreducible]` trip theorem too), so they cover it. -/
theorem cover1_B_8 (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : ¬cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) (xo8 : Vec F S1536x128 .f32) (y : S1536x128.Idx) :
    ∃ pc ∈ (kernelRun1_B c i arg1 harg1 arg2 harg2 arg3 harg3 arg4 harg4 arg5 harg5 arg6 harg6 arg7 harg7 arg8 harg8 arg9 harg9 hc0 x0 x1 x2 x3 x4 x5 x6 xo8).2.1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 x4 x5 x6 xo8).2.1 S256x128.size (by sl_kernel_rfl) y

/-- What case B leaves in output 8's staging buffer: its pieces read back over junk. -/
def out1_B_8 (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : ¬cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) (xo8 : Vec F S1536x128 .f32) : Vec F S1536x128 .f32 :=
  VO1_8.read (Elt F) (VO1_8.writes (Elt F) VO1_8.junk (kernelRun1_B c i arg1 harg1 arg2 harg2 arg3 harg3 arg4 harg4 arg5 harg5 arg6 harg6 arg7 harg7 arg8 harg8 arg9 harg9 hc0 x0 x1 x2 x3 x4 x5 x6 xo8).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1536x256 .f32 × Vec F S1536x128 .f32
  | 0, hn => (out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 43 = 0 then
      (out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      (out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)

/-- `outsAt1` at a point of case A: that case's contents. -/
theorem outsAt1_A (c : Dev nD) (t : Fin cfg1.N) (h0 : t.val % 43 = 0) :
    outsAt1 V c t.val t.isLt = (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t) (iblk1 V c 6 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 43 = 0) :
    outsAt1 V c t.val t.isLt = (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
/-- At a point of case B output 8's current staging buffer holds what the body left at the point before: the point is
    not the first, the buffer was not written back between (`flush1_8`), the window is live and uncut (Lib/Pipeline/Frame.lean
    `Dat.before_out_kept`). -/
theorem before1_8_B (c : Dev nD) (t : Fin cfg1.N) (h0 : ¬t.val % 43 = 0) (d) :
    (dat1 V c).before 8 t d = (outsAt1 V c (t.val - 1) (Nat.lt_of_le_of_lt (Nat.sub_le _ _) t.isLt)).2 := by
  have hN : t.val < 43 := lt_of_lt_of_eq t.isLt (show cfg1.N = 43 from N_1)
  rw [Dat.before_out_kept _ 8 rfl t (by omega) (Bool.eq_false_iff.mpr fun h => by have := (flush1_8 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 16000000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  have hN : t.val < 43 := lt_of_lt_of_eq t.isLt (show cfg1.N = 43 from N_1)
  by_cases h0 : t.val % 43 = 0
  · rw [outsAt1_A V c t h0]
    unfold out1_A_7 out1_A_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_A c (grid1.coords t) _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover1_A_7 c _ _ _ _ _ _ _ _ _ _ _ _ _ _ _ _ _ _ _ _ _ _ _ _ _ _ _)
    unfold owns; iexists _; isplitr
    swap; · iexact H8
    ipureintro; exact View.read_writes_of_cover _ _ _ _ _ (cover1_A_8 c _ _ _ _ _ _ _ _ _ _ _ _ _ _ _ _ _ _ _ _ _ _ _ _ _ _ _)
  · rw [outsAt1_B V c t h0]
    simp only [before1_8_B V c t h0]
    unfold out1_B_7 out1_B_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_B c (grid1.coords t) _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover1_B_7 c _ _ _ _ _ _ _ _ _ _ _ _ _ _ _ _ _ _ _ _ _ _ _ _ _ _ _ _)
    unfold owns; iexists _; isplitr
    swap; · iexact H8
    ipureintro; exact View.read_writes_of_cover _ _ _ _ _ (cover1_B_8 c _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Gen

end
-- ==== Proof.Bits.RegionH.lean ====
/- The third region: the quantiser of the hidden values. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))
/-! # REGION 2 of @main: custom_call 2, `cc2_h_quant` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S128x128 := Rect.unit (s := S128x128) ![0, 0] S128x128.size inb_S128x128_S128x128_0_0
abbrev r2_1 : Rect S128x11008 := Rect.unit (s := S128x11008) ![0, 0] S128x11008.size inb_S128x11008_S128x11008_0_0

/-! ## What the body leaves in each output window's buffer -/

/-! ### Values of the body that the stores' payloads, spelt out, would write more than once

    Each is a vector the body binds (often a part call's result), stated over the input windows' blocks and
    numbered on from the skeleton's payload functions (`k2_pay10` …, after `k2_pay9`), so that
    `out2_W` and the values after it name it instead of spelling it out (`unfold_out out2_W` opens a canon
    with them, `unfold_payloads` opens them with the payloads); the comment after each is the printed function's
    name for the value (a count appended where that name is bound again). -/

def k2_pay10 (x0 : Vec F S128x11008 .f32) (x1 : Vec F S128x128 .f32) : FVec F S128x1 .f32 :=
  k2_pay5 (View.ld x1 r2_0) -- `v37`

/-- Window 2's staging buffer after the body, from the input windows' blocks: its 1 store as pieces, LAST
    FIRST (Lib/Pipeline/FrameBody.lean `View.canon`; the payloads are the skeleton's and the values stated above). -/
def out2_2 (x0 : Vec F S128x11008 .f32) (x1 : Vec F S128x128 .f32) : Vec F S128x11008 .i8 :=
  View.canon [⟨r2_1, k2_pay8 (k2_pay4 (View.ld x1 r2_0)) (k2_pay10 x0 x1) (View.ld x0 r2_1)⟩]

/-- Its stores tile the buffer (checked by evaluation), so they cover it. -/
theorem cover2_2 (p0 : Vec F S128x11008 .i8) (y : S128x11008.Idx) :
    ∃ pc ∈ ([⟨r2_1, p0⟩] : List (View.Piece (Elt F) S128x11008 .i8)), y ∈ pc.1.set :=
  View.cover_of_tiled [⟨r2_1, p0⟩] S128x11008.size (by rfl) y

/-- Window 3's staging buffer after the body, from the input windows' blocks: its 1 store as pieces, LAST
    FIRST (Lib/Pipeline/FrameBody.lean `View.canon`; the payloads are the skeleton's and the values stated above). -/
def out2_3 (x0 : Vec F S128x11008 .f32) (x1 : Vec F S128x128 .f32) : Vec F S128x128 .i32 :=
  View.canon [⟨r2_0, k2_pay9 (k2_pay10 x0 x1)⟩]

/-- Its stores tile the buffer (checked by evaluation), so they cover it. -/
theorem cover2_3 (p0 : Vec F S128x128 .i32) (y : S128x128.Idx) :
    ∃ pc ∈ ([⟨r2_0, p0⟩] : List (View.Piece (Elt F) S128x128 .i32)), y ∈ pc.1.set :=
  View.cover_of_tiled [⟨r2_0, p0⟩] S128x128.size (by rfl) y

/-- Window 4's staging buffer after the body, from the input windows' blocks: its 1 store as pieces, LAST
    FIRST (Lib/Pipeline/FrameBody.lean `View.canon`; the payloads are the skeleton's and the values stated above). -/
def out2_4 (x0 : Vec F S128x11008 .f32) (x1 : Vec F S128x128 .f32) : Vec F S128x128 .i32 :=
  View.canon [⟨r2_0, k2_pay1 (k2_pay7 (k2_pay6 (View.ld x1 r2_0)) 10#32)⟩]

/-- Its stores tile the buffer (checked by evaluation), so they cover it. -/
theorem cover2_4 (p0 : Vec F S128x128 .i32) (y : S128x128.Idx) :
    ∃ pc ∈ ([⟨r2_0, p0⟩] : List (View.Piece (Elt F) S128x128 .i32)), y ∈ pc.1.set :=
  View.cover_of_tiled [⟨r2_0, p0⟩] S128x128.size (by rfl) y

/-! ## The body's triple -/

set_option maxHeartbeats 16000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S128x11008 .f32) (harg1 : arg1.IsWhole) (arg2 : Memref sig .tc .vmem S128x128 .f32) (harg2 : arg2.IsWhole) (arg3 : Memref sig .tc .vmem S128x11008 .i8) (harg3 : arg3.IsWhole) (arg4 : Memref sig .tc .vmem S128x128 .i32) (harg4 : arg4.IsWhole) (arg5 : Memref sig .tc .vmem S128x128 .i32) (harg5 : arg5.IsWhole)
    (x0 : Vec F S128x11008 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (out2_2 x0 x1) ∗ owns (c : Thread nD τ) arg4 fullShare (out2_3 x0 x1) ∗ owns (c : Thread nD τ) arg5 fullShare (out2_4 x0 x1)) -∗ K ⟨⟩))
      ⊢ wp frame (wpE (defs₀ (F := F)) Variants.none c none) E (cc2_h_quant i arg1 harg1 arg2 harg2 arg3 harg3 arg4 harg4 arg5 harg5) K := by
  simp only [cc2_h_quant_eq_skeleton]; unfold cc2_h_quant_skel
  simp only [k2_part1_eq_skeleton, k2_part2_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover2_2 _)).trans ?_
    rfl
  isplitl [H3]
  · iexists _; isplitr
    swap; · iexact H3
    ipureintro
    refine (View.read_writes_eq_canon _ _ _ (cover2_3 _)).trans ?_
    rfl
  iexists _; isplitr
  swap; · iexact H4
  ipureintro
  refine (View.read_writes_eq_canon _ _ _ (cover2_4 _)).trans ?_
  rfl

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
    | ⟨4, _⟩ => out2_4 (iblk2 V c 0 t) (iblk2 V c 1 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]
theorem after2_4 (c : Dev nD) (t : Fin cfg2.N) : (dat2 V c).after 4 t = out2_4 (iblk2 V c 0 t) (iblk2 V c 1 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.Kernel.Gen

end
-- ==== Proof.Bits.Frame.lean ====
/- The buffer contents between the program's segments, and the run. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Bits.RegionX
public import proofs.«01_k».proof.Proof.Bits.RegionProj
public import proofs.«01_k».proof.Proof.Bits.RegionH

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v6, main_v7, main_v8, main_v9, main_v10, main_v11, main_v12, main_v13, main_v14, main_v15, main_v16, main_v17, main_v18, main_v19]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`) (region 2's entry). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3`. -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main on the TensorCores terminates, nothing
    faulting, with every array at what the segments leave (`W6`) and every semaphore counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- THE FRAME: the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun s hs => have h := hs.1
    ⟨(fun c =>
      ⟨(h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩), hs.2⟩) (run_all m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h => h.1) (frame m ρ)

end Cert.Kernel.Gen

end
-- ==== Proof.Ideal.RegionX.lean ====
/- The first region: the row quantiser's triple, its proof data and its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))
/-! # REGION 0 of @main: custom_call 0, `cc0_x_quant` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x4096 := Rect.unit (s := S256x4096) ![0, 0] S256x4096.size inb_S256x4096_S256x4096_0_0
abbrev r0_1 : Rect S256x128 := Rect.unit (s := S256x128) ![0, 0] S256x128.size inb_S256x128_S256x128_0_0

/-! ## What the body leaves in each output window's buffer -/

/-! ### Values of the body that the stores' payloads, spelt out, would write more than once

    Each is a vector the body binds (often a part call's result), stated over the input windows' blocks and
    numbered on from the skeleton's payload functions (`k0_pay13` …, after `k0_pay12`), so that
    `out0_W` and the values after it name it instead of spelling it out (`unfold_out out0_W` opens a canon
    with them, `unfold_payloads` opens them with the payloads); the comment after each is the printed function's
    name for the value (a count appended where that name is bound again). -/

def k0_pay13 (x0 : Vec F S256x4096 .i32) : FVec F S256x4096 .f32 :=
  k0_pay2 (View.ld x0 r0_0) -- `v2`
def k0_pay14 (x0 : Vec F S256x4096 .i32) : IVec S256x1 32 :=
  k0_pay5 (View.ld x0 r0_0) -- `v13`
def k0_pay15 (x0 : Vec F S256x4096 .i32) : FVec F S256x1 .f32 :=
  k0_pay6 (View.ld x0 r0_0) -- `v39`

/-- Window 1's staging buffer after the body, from the input windows' blocks: its 1 store as pieces, LAST
    FIRST (Lib/Pipeline/FrameBody.lean `View.canon`; the payloads are the skeleton's and the values stated above). -/
def out0_1 (x0 : Vec F S256x4096 .i32) : Vec F S256x4096 .i8 :=
  View.canon [⟨r0_0, k0_pay10 (k0_pay13 x0) (k0_pay14 x0) (k0_pay15 x0)⟩]

/-- Its stores tile the buffer (checked by evaluation), so they cover it. -/
theorem cover0_1 (p0 : Vec F S256x4096 .i8) (y : S256x4096.Idx) :
    ∃ pc ∈ ([⟨r0_0, p0⟩] : List (View.Piece (Elt F) S256x4096 .i8)), y ∈ pc.1.set :=
  View.cover_of_tiled [⟨r0_0, p0⟩] S256x4096.size (by rfl) y

/-- Window 2's staging buffer after the body, from the input windows' blocks: its 1 store as pieces, LAST
    FIRST (Lib/Pipeline/FrameBody.lean `View.canon`; the payloads are the skeleton's and the values stated above). -/
def out0_2 (x0 : Vec F S256x4096 .i32) : Vec F S256x4096 .bf16 :=
  View.canon [⟨r0_0, k0_pay11 (k0_pay13 x0) (k0_pay14 x0) (k0_pay15 x0)⟩]

/-- Its stores tile the buffer (checked by evaluation), so they cover it. -/
theorem cover0_2 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

/-- Window 3's staging buffer after the body, from the input windows' blocks: its 1 store as pieces, LAST
    FIRST (Lib/Pipeline/FrameBody.lean `View.canon`; the payloads are the skeleton's and the values stated above). -/
def out0_3 (x0 : Vec F S256x4096 .i32) : Vec F S256x128 .i32 :=
  View.canon [⟨r0_1, k0_pay12 (k0_pay15 x0)⟩]

/-- Its stores tile the buffer (checked by evaluation), so they cover it. -/
theorem cover0_3 (p0 : Vec F S256x128 .i32) (y : S256x128.Idx) :
    ∃ pc ∈ ([⟨r0_1, p0⟩] : List (View.Piece (Elt F) S256x128 .i32)), y ∈ pc.1.set :=
  View.cover_of_tiled [⟨r0_1, p0⟩] S256x128.size (by rfl) y

/-- Window 4's staging buffer after the body, from the input windows' blocks: its 1 store as pieces, LAST
    FIRST (Lib/Pipeline/FrameBody.lean `View.canon`; the payloads are the skeleton's and the values stated above). -/
def out0_4 (x0 : Vec F S256x4096 .i32) : Vec F S256x128 .i32 :=
  View.canon [⟨r0_1, k0_pay1 (k0_pay8 (k0_pay4 (View.ld x0 r0_0)) k0_pay7)⟩]

/-- Its stores tile the buffer (checked by evaluation), so they cover it. -/
theorem cover0_4 (p0 : Vec F S256x128 .i32) (y : S256x128.Idx) :
    ∃ pc ∈ ([⟨r0_1, p0⟩] : List (View.Piece (Elt F) S256x128 .i32)), y ∈ pc.1.set :=
  View.cover_of_tiled [⟨r0_1, p0⟩] S256x128.size (by rfl) y

/-! ## The body's triple -/

set_option maxHeartbeats 16000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x4096 .i32) (harg1 : arg1.IsWhole) (arg2 : Memref sig .tc .vmem S256x4096 .i8) (harg2 : arg2.IsWhole) (arg3 : Memref sig .tc .vmem S256x4096 .bf16) (harg3 : arg3.IsWhole) (arg4 : Memref sig .tc .vmem S256x128 .i32) (harg4 : arg4.IsWhole) (arg5 : Memref sig .tc .vmem S256x128 .i32) (harg5 : arg5.IsWhole)
    (x0 : Vec F S256x4096 .i32) (K : PUnit → sProp 𝕄) :
    iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare (out0_1 x0) ∗ owns (c : Thread nD τ) arg3 fullShare (out0_2 x0) ∗ owns (c : Thread nD τ) arg4 fullShare (out0_3 x0) ∗ owns (c : Thread nD τ) arg5 fullShare (out0_4 x0)) -∗ K ⟨⟩))
      ⊢ wp frame (wpE (defs₀ (F := F)) Variants.none c none) E (cc0_x_quant i arg1 harg1 arg2 harg2 arg3 harg3 arg4 harg4 arg5 harg5) K := by
  simp only [cc0_x_quant_eq_skeleton]; unfold cc0_x_quant_skel
  simp only [k0_part1_eq_skeleton, k0_part2_eq_skeleton]
  unfold owns
  iintro ⟨⟨%f0, %hf0, H0⟩, ⟨%d1, %f1, -, H1⟩, ⟨%d2, %f2, -, H2⟩, ⟨%d3, %f3, -, H3⟩, ⟨%d4, %f4, -, H4⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  isplitl [H2]
  · iexists _; isplitr
    swap; · iexact H2
    ipureintro
    refine (View.read_writes_eq_canon _ _ _ (cover0_2 _)).trans ?_
    rfl
  isplitl [H3]
  · iexists _; isplitr
    swap; · iexact H3
    ipureintro
    refine (View.read_writes_eq_canon _ _ _ (cover0_3 _)).trans ?_
    rfl
  iexists _; isplitr
  swap; · iexact H4
  ipureintro
  refine (View.read_writes_eq_canon _ _ _ (cover0_4 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
    | ⟨3, _⟩ => out0_3 (iblk0 V c 0 t)
    | ⟨4, _⟩ => out0_4 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) := by dsimp only [dat0]
theorem after0_4 (c : Dev nD) (t : Fin cfg0.N) : (dat0 V c).after 4 t = out0_4 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) _)
  isplitl [H0]; · iexact H0
  isplitl [H1]; · iexists _; iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.Ideal.ProjSetup.lean ====
/- The second region: its blocks, its branch condition, its staging buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))
/-! # REGION 1 of @main: custom_call 1, `cc1_proj` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 43 = 0 :=
  (fun t => by
    have ht : t.val < 43 := Nat.lt_of_lt_of_eq t.isLt N_1
    have e0 : (grid1.coords t 0).val = t.val / 1 % 43 := Pipeline.Grid.coords_val t 0 (by decide) rfl
    simp only [cond1_0, e0]
    word_cmp
   : ∀ t : Fin grid1.N, cond1_0 (grid1.coords t) ↔ t.val % 43 = 0)

/-! ## The kernel body on any staging memrefs: a subtype the run finds -/

/-- One staging buffer of output window 7, through which its contents are stated (`View.read_writes_of_cover`: the
    choice does not matter). -/
abbrev VO1_7 : View sig .tc .vmem S1536x256 .f32 := (Memref.whole cc1_stg7_0 : Memref sig .tc .vmem S1536x256 .f32).view
/-- One staging buffer of output window 8, through which its contents are stated (`View.read_writes_of_cover`: the
    choice does not matter). -/
abbrev VO1_8 : View sig .tc .vmem S1536x128 .f32 := (Memref.whole cc1_stg8_0 : Memref sig .tc .vmem S1536x128 .f32).view
/-- Each window's current staging memref at point `t`, spelled as the pipeline passes it (`bodyAt1`), and its wholeness. -/
abbrev ms1_0 (t : Fin cfg1.N) : Memref sig .tc .vmem S1536x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1536x128 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1536x128 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .i8 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x256 .i8 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256 .i32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1536x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1536x128 .f32 := win1_8.stage (cfg1.slots t 8)
abbrev hs1_8 (t : Fin cfg1.N) : (ms1_8 t).IsWhole := hstage1_8 ((cfg1.slots t 8).cast nbuf1_8)

end Regions

end Cert.KernelIdeal.Gen

end
-- ==== Proof.Ideal.Trip.lean ====
/- One trip of the second region's loop: its pieces do not depend on what the output buffer held. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A trip's pieces are the same whatever the output buffer held. -/
theorem tripL_any8  (𝒱 : Variants) (c : Dev nD) (bd : Option 𝒱.V) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (v16 : FVec F S4096x256 .bf16) (v33 : FVec F S4096x256 .bf16) (c0_i32_12 : BitVec 32) (X_arg1 : BufTy.Contents (Elt F) arg1.view.ty) (X_arg2 : BufTy.Contents (Elt F) arg2.view.ty) (X_arg3 : BufTy.Contents (Elt F) arg3.view.ty) (X_arg5 : BufTy.Contents (Elt F) arg5.view.ty) (X_arg7 : BufTy.Contents (Elt F) arg7.view.ty) (k : Fin k1_t1_loop.trips) (f f' : BufTy.Contents (Elt F) arg8.view.ty) (g : BufTy.Contents (Elt F) arg9.view.ty) :
    tripL_k1_t1 (F := F) 𝒱 c bd i arg1 harg1 arg2 harg2 arg3 harg3 arg4 harg4 arg5 harg5 arg6 harg6 arg7 harg7 arg8 harg8 arg9 harg9 v16 v33 c0_i32_12 X_arg1 X_arg2 X_arg3 X_arg5 X_arg7 k f g = tripL_k1_t1 (F := F) 𝒱 c bd i arg1 harg1 arg2 harg2 arg3 harg3 arg4 harg4 arg5 harg5 arg6 harg6 arg7 harg7 arg8 harg8 arg9 harg9 v16 v33 c0_i32_12 X_arg1 X_arg2 X_arg3 X_arg5 X_arg7 k f' g := by
  unfold tripL_k1_t1 trip_k1_t1
  rfl

/-- The pieces of the trips before `n` are the same whatever the output buffer held at the loop's entry. -/
theorem pb_any8  (𝒱 : Variants) (c : Dev nD) (bd : Option 𝒱.V) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (v16 : FVec F S4096x256 .bf16) (v33 : FVec F S4096x256 .bf16) (c0_i32_12 : BitVec 32) (X_arg1 : BufTy.Contents (Elt F) arg1.view.ty) (X_arg2 : BufTy.Contents (Elt F) arg2.view.ty) (X_arg3 : BufTy.Contents (Elt F) arg3.view.ty) (X_arg5 : BufTy.Contents (Elt F) arg5.view.ty) (X_arg7 : BufTy.Contents (Elt F) arg7.view.ty) (f f' : BufTy.Contents (Elt F) arg8.view.ty) (g : BufTy.Contents (Elt F) arg9.view.ty) (n : ℕ) :
    pb_k1_t1 (F := F) 𝒱 c bd i arg1 harg1 arg2 harg2 arg3 harg3 arg4 harg4 arg5 harg5 arg6 harg6 arg7 harg7 arg8 harg8 arg9 harg9 v16 v33 c0_i32_12 X_arg1 X_arg2 X_arg3 X_arg5 X_arg7 f' g n = pb_k1_t1 (F := F) 𝒱 c bd i arg1 harg1 arg2 harg2 arg3 harg3 arg4 harg4 arg5 harg5 arg6 harg6 arg7 harg7 arg8 harg8 arg9 harg9 v16 v33 c0_i32_12 X_arg1 X_arg2 X_arg3 X_arg5 X_arg7 f g n := by
  induction n with
  | zero => rfl
  | succ n ih =>
    rw [pb_k1_t1.eq_2, pb_k1_t1.eq_2, ih]
    unfold pb_k1_t1Step
    split
    · rw [tripL_any8 𝒱 c bd i arg1 harg1 arg2 harg2 arg3 harg3 arg4 harg4 arg5 harg5 arg6 harg6 arg7 harg7 arg8 harg8 arg9 harg9 v16 v33 c0_i32_12 X_arg1 X_arg2 X_arg3 X_arg5 X_arg7 _ (arg8.view.writes (Elt F) f' _) (arg8.view.writes (Elt F) f _)]
    · rfl

end Cert.KernelIdeal.Gen

end
-- ==== Proof.Ideal.RunFirst.lean ====
/- The second region's body at the first grid point, which clears the running maximum. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Ideal.ProjSetup
public import proofs.«01_k».proof.Proof.Ideal.Trip

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))
/-- The pieces the loop leaves, from the blocks the body reads. -/
noncomputable def pieces1_A (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) :
    List (View.Piece (Elt F) S1536x256 .f32) × List (View.Piece (Elt F) S1536x128 .f32) :=
  ((pb_k1_t1 (F := F) Variants.none c none i arg1 harg1 arg2 harg2 arg3 harg3 arg4 harg4 arg5 harg5 arg6 harg6 arg7 harg7 arg8 harg8 arg9 harg9
    (k1_pay12 (View.readAt (Elt F) arg4.view (Rect.unit ![0, 0] S2048x256.size inb_S2048x256_S2048x256_0_0).toLoadRect (harg4.unread x3)))
    (k1_pay13 (View.readAt (Elt F) arg6.view (Rect.unit ![0, 0] S2048x256.size inb_S2048x256_S2048x256_0_0).toLoadRect (harg6.unread x5))) 0#32
    (harg1.unread x0) (harg2.unread x1) (harg3.unread x2) (harg5.unread x4) (harg7.unread x6) arg8.view.junk (arg9.view.writes (Elt F) arg9.view.junk [⟨Rect.unit ![0, 0] S1536x128.size inb_S1536x128_S1536x128_0_0, k1_pay14⟩]) (Scf.trips k1_t1_loop.lb k1_t1_loop.ub k1_t1_loop.st)).1,
   (pb_k1_t1 (F := F) Variants.none c none i arg1 harg1 arg2 harg2 arg3 harg3 arg4 harg4 arg5 harg5 arg6 harg6 arg7 harg7 arg8 harg8 arg9 harg9
    (k1_pay12 (View.readAt (Elt F) arg4.view (Rect.unit ![0, 0] S2048x256.size inb_S2048x256_S2048x256_0_0).toLoadRect (harg4.unread x3)))
    (k1_pay13 (View.readAt (Elt F) arg6.view (Rect.unit ![0, 0] S2048x256.size inb_S2048x256_S2048x256_0_0).toLoadRect (harg6.unread x5))) 0#32
    (harg1.unread x0) (harg2.unread x1) (harg3.unread x2) (harg5.unread x4) (harg7.unread x6) arg8.view.junk (arg9.view.writes (Elt F) arg9.view.junk [⟨Rect.unit ![0, 0] S1536x128.size inb_S1536x128_S1536x128_0_0, k1_pay14⟩]) (Scf.trips k1_t1_loop.lb k1_t1_loop.ub k1_t1_loop.st)).2 ++ [⟨Rect.unit ![0, 0] S1536x128.size inb_S1536x128_S1536x128_0_0, k1_pay14⟩])

set_option maxHeartbeats 4000000 in
/-- The body runs from whole staging buffers to the continuation that holds the inputs' buffers as they were and each
    output's buffer with its pieces written. -/
theorem kernelRun1_A_run (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f (pieces1_A c i arg1 harg1 arg2 harg2 arg3 harg3 arg4 harg4 arg5 harg5 arg6 harg6 arg7 harg7 arg8 harg8 arg9 harg9 hc0 x0 x1 x2 x3 x4 x5 x6).1) ∗ (∃ f, arg9.view.loc (c : Thread nD τ) ↦[arg9.view.set]{fullShare} arg9.view.writes (Elt F) f ((pieces1_A c i arg1 harg1 arg2 harg2 arg3 harg3 arg4 harg4 arg5 harg5 arg6 harg6 arg7 harg7 arg8 harg8 arg9 harg9 hc0 x0 x1 x2 x3 x4 x5 x6).2))) -∗ K ⟨⟩))
          ⊢ wp frame (wpE (defs₀ (F := F)) Variants.none c none) E (cc1_proj i arg1 harg1 arg2 harg2 arg3 harg3 arg4 harg4 arg5 harg5 arg6 harg6 arg7 harg7 arg8 harg8 arg9 harg9) K := by
  intro E K
  unfold pieces1_A
  simp only [cc1_proj_eq_skeleton]; unfold cc1_proj_skel
  simp only [k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  rw [pb_any8 _ _ _ _ _ _ _ _ _ _ _ _ _ _ _ _ _ _ _ _ _ _ _ _ _ _ _ _ _ _ f7 arg8.view.junk]
  isplitl [H7]; · iexists _; iexact H7
  iexists _; iexact H8

/-- The body's pieces with its run. -/
noncomputable def kernelRun1_A (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) :
    Σ' (L7 : List (View.Piece (Elt F) S1536x256 .f32)), { L8 : List (View.Piece (Elt F) S1536x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc1_proj i arg1 harg1 arg2 harg2 arg3 harg3 arg4 harg4 arg5 harg5 arg6 harg6 arg7 harg7 arg8 harg8 arg9 harg9) K } :=
  ⟨(pieces1_A c i arg1 harg1 arg2 harg2 arg3 harg3 arg4 harg4 arg5 harg5 arg6 harg6 arg7 harg7 arg8 harg8 arg9 harg9 hc0 x0 x1 x2 x3 x4 x5 x6).1, ⟨(pieces1_A c i arg1 harg1 arg2 harg2 arg3 harg3 arg4 harg4 arg5 harg5 arg6 harg6 arg7 harg7 arg8 harg8 arg9 harg9 hc0 x0 x1 x2 x3 x4 x5 x6).2, (kernelRun1_A_run c i arg1 harg1 arg2 harg2 arg3 harg3 arg4 harg4 arg5 harg5 arg6 harg6 arg7 harg7 arg8 harg8 arg9 harg9 hc0 x0 x1 x2 x3 x4 x5 x6 :)⟩⟩

end Regions

end Cert.KernelIdeal.Gen

end
-- ==== Proof.Ideal.RunRest.lean ====
/- The second region's body at every later grid point, over the running maximum it finds. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Ideal.ProjSetup
public import proofs.«01_k».proof.Proof.Ideal.Trip

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))
/-- The pieces the loop leaves, from the blocks the body reads. -/
noncomputable def pieces1_B (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : ¬cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) (xo8 : Vec F S1536x128 .f32) :
    List (View.Piece (Elt F) S1536x256 .f32) × List (View.Piece (Elt F) S1536x128 .f32) :=
  pb_k1_t1 (F := F) Variants.none c none i arg1 harg1 arg2 harg2 arg3 harg3 arg4 harg4 arg5 harg5 arg6 harg6 arg7 harg7 arg8 harg8 arg9 harg9
    (k1_pay12 (View.readAt (Elt F) arg4.view (Rect.unit ![0, 0] S2048x256.size inb_S2048x256_S2048x256_0_0).toLoadRect (harg4.unread x3)))
    (k1_pay13 (View.readAt (Elt F) arg6.view (Rect.unit ![0, 0] S2048x256.size inb_S2048x256_S2048x256_0_0).toLoadRect (harg6.unread x5))) 0#32
    (harg1.unread x0) (harg2.unread x1) (harg3.unread x2) (harg5.unread x4) (harg7.unread x6) arg8.view.junk (harg9.unread xo8) (Scf.trips k1_t1_loop.lb k1_t1_loop.ub k1_t1_loop.st)

set_option maxHeartbeats 4000000 in
/-- The body runs from whole staging buffers to the continuation that holds the inputs' buffers as they were and each
    output's buffer with its pieces written. -/
theorem kernelRun1_B_run (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : ¬cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) (xo8 : Vec F S1536x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f (pieces1_B c i arg1 harg1 arg2 harg2 arg3 harg3 arg4 harg4 arg5 harg5 arg6 harg6 arg7 harg7 arg8 harg8 arg9 harg9 hc0 x0 x1 x2 x3 x4 x5 x6 xo8).1) ∗ (∃ f, arg9.view.loc (c : Thread nD τ) ↦[arg9.view.set]{fullShare} arg9.view.writes (Elt F) f ((pieces1_B c i arg1 harg1 arg2 harg2 arg3 harg3 arg4 harg4 arg5 harg5 arg6 harg6 arg7 harg7 arg8 harg8 arg9 harg9 hc0 x0 x1 x2 x3 x4 x5 x6 xo8).2))) -∗ K ⟨⟩))
          ⊢ wp frame (wpE (defs₀ (F := F)) Variants.none c none) E (cc1_proj i arg1 harg1 arg2 harg2 arg3 harg3 arg4 harg4 arg5 harg5 arg6 harg6 arg7 harg7 arg8 harg8 arg9 harg9) K := by
  intro E K
  unfold pieces1_B
  simp only [cc1_proj_eq_skeleton]; unfold cc1_proj_skel
  simp only [k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  rw [pb_any8 _ _ _ _ _ _ _ _ _ _ _ _ _ _ _ _ _ _ _ _ _ _ _ _ _ _ _ _ _ _ f7 arg8.view.junk]
  isplitl [H7]; · iexists _; iexact H7
  iexists _; iexact H8

/-- The body's pieces with its run. -/
noncomputable def kernelRun1_B (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : ¬cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) (xo8 : Vec F S1536x128 .f32) :
    Σ' (L7 : List (View.Piece (Elt F) S1536x256 .f32)), { L8 : List (View.Piece (Elt F) S1536x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc1_proj i arg1 harg1 arg2 harg2 arg3 harg3 arg4 harg4 arg5 harg5 arg6 harg6 arg7 harg7 arg8 harg8 arg9 harg9) K } :=
  ⟨(pieces1_B c i arg1 harg1 arg2 harg2 arg3 harg3 arg4 harg4 arg5 harg5 arg6 harg6 arg7 harg7 arg8 harg8 arg9 harg9 hc0 x0 x1 x2 x3 x4 x5 x6 xo8).1, ⟨(pieces1_B c i arg1 harg1 arg2 harg2 arg3 harg3 arg4 harg4 arg5 harg5 arg6 harg6 arg7 harg7 arg8 harg8 arg9 harg9 hc0 x0 x1 x2 x3 x4 x5 x6 xo8).2, (kernelRun1_B_run c i arg1 harg1 arg2 harg2 arg3 harg3 arg4 harg4 arg5 harg5 arg6 harg6 arg7 harg7 arg8 harg8 arg9 harg9 hc0 x0 x1 x2 x3 x4 x5 x6 xo8 :)⟩⟩

end Regions

end Cert.KernelIdeal.Gen

end
-- ==== Proof.Ideal.RegionProj.lean ====
/- The second region: what its outputs hold after each point, its proof data, its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Ideal.RunFirst
public import proofs.«01_k».proof.Proof.Ideal.RunRest

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))
/-- Case A's pieces for output 7 tile its block (6 stores of `S256x256`, checked by the kernel's evaluation: Lib/Ring.lean `Piece.tiledL`, linear in the pieces, through a loop's `@[irreducible]` trip theorem too), so they cover it. -/
theorem cover1_A_7 (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) (y : S1536x256.Idx) :
    ∃ pc ∈ (kernelRun1_A c i arg1 harg1 arg2 harg2 arg3 harg3 arg4 harg4 arg5 harg5 arg6 harg6 arg7 harg7 arg8 harg8 arg9 harg9 hc0 x0 x1 x2 x3 x4 x5 x6).1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3 x4 x5 x6).1 S256x256.size (by sl_kernel_rfl) y

/-- What case A leaves in output 7's staging buffer: its pieces read back over junk. -/
def out1_A_7 (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) : Vec F S1536x256 .f32 :=
  VO1_7.read (Elt F) (VO1_7.writes (Elt F) VO1_7.junk (kernelRun1_A c i arg1 harg1 arg2 harg2 arg3 harg3 arg4 harg4 arg5 harg5 arg6 harg6 arg7 harg7 arg8 harg8 arg9 harg9 hc0 x0 x1 x2 x3 x4 x5 x6).1)

/-- Case A's pieces for output 8 are of SEVERAL sizes (7 stores of `S1536x128`, `S256x128`): cut into blocks of `![256, 128]` they tile its block (checked by the kernel's evaluation: Lib/Ring.lean `Piece.tiledBy`), so they cover it. -/
theorem cover1_A_8 (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) (y : S1536x128.Idx) :
    ∃ pc ∈ (kernelRun1_A c i arg1 harg1 arg2 harg2 arg3 harg3 arg4 harg4 arg5 harg5 arg6 harg6 arg7 harg7 arg8 harg8 arg9 harg9 hc0 x0 x1 x2 x3 x4 x5 x6).2.1, y ∈ pc.1.set :=
  View.cover_of_tiledBy (kernelRun1_A c i arg1 harg1 arg2 harg2 arg3 harg3 arg4 harg4 arg5 harg5 arg6 harg6 arg7 harg7 arg8 harg8 arg9 harg9 hc0 x0 x1 x2 x3 x4 x5 x6).2.1 ![256, 128] (by sl_kernel_rfl) y

/-- What case A leaves in output 8's staging buffer: its pieces read back over junk. -/
def out1_A_8 (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) : Vec F S1536x128 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 hc0 x0 x1 x2 x3 x4 x5 x6).2.1)

/-- Case B's pieces for output 7 tile its block (6 stores of `S256x256`, checked by the kernel's evaluation: Lib/Ring.lean `Piece.tiledL`, linear in the pieces, through a loop's `@[irreducible]` trip theorem too), so they cover it. -/
theorem cover1_B_7 (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : ¬cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) (xo8 : Vec F S1536x128 .f32) (y : S1536x256.Idx) :
    ∃ pc ∈ (kernelRun1_B c i arg1 harg1 arg2 harg2 arg3 harg3 arg4 harg4 arg5 harg5 arg6 harg6 arg7 harg7 arg8 harg8 arg9 harg9 hc0 x0 x1 x2 x3 x4 x5 x6 xo8).1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 x4 x5 x6 xo8).1 S256x256.size (by sl_kernel_rfl) y

/-- What case B leaves in output 7's staging buffer: its pieces read back over junk. -/
def out1_B_7 (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : ¬cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) (xo8 : Vec F S1536x128 .f32) : Vec F S1536x256 .f32 :=
  VO1_7.read (Elt F) (VO1_7.writes (Elt F) VO1_7.junk (kernelRun1_B c i arg1 harg1 arg2 harg2 arg3 harg3 arg4 harg4 arg5 harg5 arg6 harg6 arg7 harg7 arg8 harg8 arg9 harg9 hc0 x0 x1 x2 x3 x4 x5 x6 xo8).1)

/-- Case B's pieces for output 8 tile its block (6 stores of `S256x128`, checked by the kernel's evaluation: Lib/Ring.lean `Piece.tiledL`, linear in the pieces, through a loop's `@[irreducible]` trip theorem too), so they cover it. -/
theorem cover1_B_8 (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : ¬cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) (xo8 : Vec F S1536x128 .f32) (y : S1536x128.Idx) :
    ∃ pc ∈ (kernelRun1_B c i arg1 harg1 arg2 harg2 arg3 harg3 arg4 harg4 arg5 harg5 arg6 harg6 arg7 harg7 arg8 harg8 arg9 harg9 hc0 x0 x1 x2 x3 x4 x5 x6 xo8).2.1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 x4 x5 x6 xo8).2.1 S256x128.size (by sl_kernel_rfl) y

/-- What case B leaves in output 8's staging buffer: its pieces read back over junk. -/
def out1_B_8 (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole) (hc0 : ¬cond1_0 i)
    (x0 : Vec F S1536x4096 .bf16) (x1 : Vec F S1536x128 .i32) (x2 : Vec F S1536x128 .i32) (x3 : Vec F S2048x256 .i8) (x4 : Vec F S1x256 .i32) (x5 : Vec F S2048x256 .i8) (x6 : Vec F S1x256 .i32) (xo8 : Vec F S1536x128 .f32) : Vec F S1536x128 .f32 :=
  VO1_8.read (Elt F) (VO1_8.writes (Elt F) VO1_8.junk (kernelRun1_B c i arg1 harg1 arg2 harg2 arg3 harg3 arg4 harg4 arg5 harg5 arg6 harg6 arg7 harg7 arg8 harg8 arg9 harg9 hc0 x0 x1 x2 x3 x4 x5 x6 xo8).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1536x256 .f32 × Vec F S1536x128 .f32
  | 0, hn => (out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 43 = 0 then
      (out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      (out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)

/-- `outsAt1` at a point of case A: that case's contents. -/
theorem outsAt1_A (c : Dev nD) (t : Fin cfg1.N) (h0 : t.val % 43 = 0) :
    outsAt1 V c t.val t.isLt = (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t) (iblk1 V c 6 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 43 = 0) :
    outsAt1 V c t.val t.isLt = (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
/-- At a point of case B output 8's current staging buffer holds what the body left at the point before: the point is
    not the first, the buffer was not written back between (`flush1_8`), the window is live and uncut (Lib/Pipeline/Frame.lean
    `Dat.before_out_kept`). -/
theorem before1_8_B (c : Dev nD) (t : Fin cfg1.N) (h0 : ¬t.val % 43 = 0) (d) :
    (dat1 V c).before 8 t d = (outsAt1 V c (t.val - 1) (Nat.lt_of_le_of_lt (Nat.sub_le _ _) t.isLt)).2 := by
  have hN : t.val < 43 := lt_of_lt_of_eq t.isLt (show cfg1.N = 43 from N_1)
  rw [Dat.before_out_kept _ 8 rfl t (by omega) (Bool.eq_false_iff.mpr fun h => by have := (flush1_8 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 16000000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  have hN : t.val < 43 := lt_of_lt_of_eq t.isLt (show cfg1.N = 43 from N_1)
  by_cases h0 : t.val % 43 = 0
  · rw [outsAt1_A V c t h0]
    unfold out1_A_7 out1_A_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_A c (grid1.coords t) _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover1_A_7 c _ _ _ _ _ _ _ _ _ _ _ _ _ _ _ _ _ _ _ _ _ _ _ _ _ _ _)
    unfold owns; iexists _; isplitr
    swap; · iexact H8
    ipureintro; exact View.read_writes_of_cover _ _ _ _ _ (cover1_A_8 c _ _ _ _ _ _ _ _ _ _ _ _ _ _ _ _ _ _ _ _ _ _ _ _ _ _ _)
  · rw [outsAt1_B V c t h0]
    simp only [before1_8_B V c t h0]
    unfold out1_B_7 out1_B_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_B c (grid1.coords t) _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover1_B_7 c _ _ _ _ _ _ _ _ _ _ _ _ _ _ _ _ _ _ _ _ _ _ _ _ _ _ _ _)
    unfold owns; iexists _; isplitr
    swap; · iexact H8
    ipureintro; exact View.read_writes_of_cover _ _ _ _ _ (cover1_B_8 c _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.Ideal.RegionH.lean ====
/- The third region: the quantiser of the hidden values. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))
/-! # REGION 2 of @main: custom_call 2, `cc2_h_quant` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S128x128 := Rect.unit (s := S128x128) ![0, 0] S128x128.size inb_S128x128_S128x128_0_0
abbrev r2_1 : Rect S128x11008 := Rect.unit (s := S128x11008) ![0, 0] S128x11008.size inb_S128x11008_S128x11008_0_0

/-! ## What the body leaves in each output window's buffer -/

/-! ### Values of the body that the stores' payloads, spelt out, would write more than once

    Each is a vector the body binds (often a part call's result), stated over the input windows' blocks and
    numbered on from the skeleton's payload functions (`k2_pay10` …, after `k2_pay9`), so that
    `out2_W` and the values after it name it instead of spelling it out (`unfold_out out2_W` opens a canon
    with them, `unfold_payloads` opens them with the payloads); the comment after each is the printed function's
    name for the value (a count appended where that name is bound again). -/

def k2_pay10 (x0 : Vec F S128x11008 .f32) (x1 : Vec F S128x128 .f32) : FVec F S128x1 .f32 :=
  k2_pay5 (View.ld x1 r2_0) -- `v37`

/-- Window 2's staging buffer after the body, from the input windows' blocks: its 1 store as pieces, LAST
    FIRST (Lib/Pipeline/FrameBody.lean `View.canon`; the payloads are the skeleton's and the values stated above). -/
def out2_2 (x0 : Vec F S128x11008 .f32) (x1 : Vec F S128x128 .f32) : Vec F S128x11008 .i8 :=
  View.canon [⟨r2_1, k2_pay8 (k2_pay4 (View.ld x1 r2_0)) (k2_pay10 x0 x1) (View.ld x0 r2_1)⟩]

/-- Its stores tile the buffer (checked by evaluation), so they cover it. -/
theorem cover2_2 (p0 : Vec F S128x11008 .i8) (y : S128x11008.Idx) :
    ∃ pc ∈ ([⟨r2_1, p0⟩] : List (View.Piece (Elt F) S128x11008 .i8)), y ∈ pc.1.set :=
  View.cover_of_tiled [⟨r2_1, p0⟩] S128x11008.size (by rfl) y

/-- Window 3's staging buffer after the body, from the input windows' blocks: its 1 store as pieces, LAST
    FIRST (Lib/Pipeline/FrameBody.lean `View.canon`; the payloads are the skeleton's and the values stated above). -/
def out2_3 (x0 : Vec F S128x11008 .f32) (x1 : Vec F S128x128 .f32) : Vec F S128x128 .i32 :=
  View.canon [⟨r2_0, k2_pay9 (k2_pay10 x0 x1)⟩]

/-- Its stores tile the buffer (checked by evaluation), so they cover it. -/
theorem cover2_3 (p0 : Vec F S128x128 .i32) (y : S128x128.Idx) :
    ∃ pc ∈ ([⟨r2_0, p0⟩] : List (View.Piece (Elt F) S128x128 .i32)), y ∈ pc.1.set :=
  View.cover_of_tiled [⟨r2_0, p0⟩] S128x128.size (by rfl) y

/-- Window 4's staging buffer after the body, from the input windows' blocks: its 1 store as pieces, LAST
    FIRST (Lib/Pipeline/FrameBody.lean `View.canon`; the payloads are the skeleton's and the values stated above). -/
def out2_4 (x0 : Vec F S128x11008 .f32) (x1 : Vec F S128x128 .f32) : Vec F S128x128 .i32 :=
  View.canon [⟨r2_0, k2_pay1 (k2_pay7 (k2_pay6 (View.ld x1 r2_0)) 10#32)⟩]

/-- Its stores tile the buffer (checked by evaluation), so they cover it. -/
theorem cover2_4 (p0 : Vec F S128x128 .i32) (y : S128x128.Idx) :
    ∃ pc ∈ ([⟨r2_0, p0⟩] : List (View.Piece (Elt F) S128x128 .i32)), y ∈ pc.1.set :=
  View.cover_of_tiled [⟨r2_0, p0⟩] S128x128.size (by rfl) y

/-! ## The body's triple -/

set_option maxHeartbeats 16000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S128x11008 .f32) (harg1 : arg1.IsWhole) (arg2 : Memref sig .tc .vmem S128x128 .f32) (harg2 : arg2.IsWhole) (arg3 : Memref sig .tc .vmem S128x11008 .i8) (harg3 : arg3.IsWhole) (arg4 : Memref sig .tc .vmem S128x128 .i32) (harg4 : arg4.IsWhole) (arg5 : Memref sig .tc .vmem S128x128 .i32) (harg5 : arg5.IsWhole)
    (x0 : Vec F S128x11008 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (out2_2 x0 x1) ∗ owns (c : Thread nD τ) arg4 fullShare (out2_3 x0 x1) ∗ owns (c : Thread nD τ) arg5 fullShare (out2_4 x0 x1)) -∗ K ⟨⟩))
      ⊢ wp frame (wpE (defs₀ (F := F)) Variants.none c none) E (cc2_h_quant i arg1 harg1 arg2 harg2 arg3 harg3 arg4 harg4 arg5 harg5) K := by
  simp only [cc2_h_quant_eq_skeleton]; unfold cc2_h_quant_skel
  simp only [k2_part1_eq_skeleton, k2_part2_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover2_2 _)).trans ?_
    rfl
  isplitl [H3]
  · iexists _; isplitr
    swap; · iexact H3
    ipureintro
    refine (View.read_writes_eq_canon _ _ _ (cover2_3 _)).trans ?_
    rfl
  iexists _; isplitr
  swap; · iexact H4
  ipureintro
  refine (View.read_writes_eq_canon _ _ _ (cover2_4 _)).trans ?_
  rfl

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
    | ⟨4, _⟩ => out2_4 (iblk2 V c 0 t) (iblk2 V c 1 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]
theorem after2_4 (c : Dev nD) (t : Fin cfg2.N) : (dat2 V c).after 4 t = out2_4 (iblk2 V c 0 t) (iblk2 V c 1 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.Ideal.Frame.lean ====
/- The buffer contents between the program's segments, and the run. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Ideal.RegionX
public import proofs.«01_k».proof.Proof.Ideal.RegionProj
public import proofs.«01_k».proof.Proof.Ideal.RegionH

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v6, main_v7, main_v8, main_v9, main_v10, main_v11, main_v12, main_v13, main_v14, main_v15, main_v16, main_v17, main_v18, main_v19]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`) (region 2's entry). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3`. -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main on the TensorCores terminates, nothing
    faulting, with every array at what the segments leave (`W6`) and every semaphore counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- THE FRAME: the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun s hs => have h := hs.1
    ⟨(fun c =>
      ⟨(h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩), hs.2⟩) (run_all m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h => h.1) (frame m ρ)

end Cert.KernelIdeal.Gen

end
-- ==== Proof.Arith.Num.lean ====
/- Integers inside the extended reals: the ideal float operations on whole numbers, the float constants of the
   kernel as real numbers, and the two roundings. -/
module

public import Idealize.ShloMosaic.PureOps.Ideal
public import Idealize.ShloMosaic.Lib.Pointwise
public import Mathlib.Tactic.Linarith
public import Mathlib.Tactic.NormNum
public import Mathlib.Tactic.Positivity
public import Mathlib.Tactic.FieldSimp
public import Mathlib.Tactic.Ring

@[expose] public section

noncomputable section

namespace Cert.Num

open Idealize.ShloMosaic

/-- A whole number as an extended real. -/
def Z (z : ℤ) : EReal := (((z : ℝ)) : EReal)

theorem Z_def (z : ℤ) : Z z = (((z : ℝ)) : EReal) := rfl

theorem Z_inj {a b : ℤ} : Z a = Z b ↔ a = b := by
  unfold Z; rw [EReal.coe_eq_coe_iff]; exact Int.cast_inj

theorem Z_zero : Z 0 = 0 := by simp [Z]
theorem Z_one : Z 1 = 1 := by simp [Z]

theorem Z_add (a b : ℤ) : Z a + Z b = Z (a + b) := by
  unfold Z; rw [← EReal.coe_add]; push_cast; rfl
theorem Z_sub (a b : ℤ) : Z a - Z b = Z (a - b) := by
  unfold Z; rw [← EReal.coe_sub]; push_cast; rfl
theorem Z_mul (a b : ℤ) : Z a * Z b = Z (a * b) := by
  unfold Z; rw [← EReal.coe_mul]; push_cast; rfl
theorem Z_neg (a : ℤ) : - Z a = Z (-a) := by
  unfold Z; rw [← EReal.coe_neg]; push_cast; rfl
theorem Z_le {a b : ℤ} : Z a ≤ Z b ↔ a ≤ b := by
  unfold Z; rw [EReal.coe_le_coe_iff]; exact Int.cast_le
theorem Z_lt {a b : ℤ} : Z a < Z b ↔ a < b := by
  unfold Z; rw [EReal.coe_lt_coe_iff]; exact Int.cast_lt
theorem Z_max (a b : ℤ) : max (Z a) (Z b) = Z (max a b) := by
  rcases le_total a b with h | h
  · rw [max_eq_right h, max_eq_right (Z_le.2 h)]
  · rw [max_eq_left h, max_eq_left (Z_le.2 h)]
theorem Z_min (a b : ℤ) : min (Z a) (Z b) = Z (min a b) := by
  rcases le_total a b with h | h
  · rw [min_eq_left h, min_eq_left (Z_le.2 h)]
  · rw [min_eq_right h, min_eq_right (Z_le.2 h)]
theorem Z_ite (p : Prop) [Decidable p] (a b : ℤ) : (if p then Z a else Z b) = Z (if p then a else b) := by
  split <;> rfl
theorem Z_abs (a : ℤ) : FloatOps.absf (F := Ideal) (φ := .f32) (Z a) = Z |a| := by
  show max (Z a) (-(Z a)) = _
  rw [Z_neg, Z_max, abs_eq_max_neg]

theorem Z_sum {ι : Type} (s : Finset ι) (f : ι → ℤ) : ∑ i ∈ s, Z (f i) = Z (∑ i ∈ s, f i) := by
  classical
  induction s using Finset.induction_on with
  | empty => simp [Z]
  | insert a s ha ih => rw [Finset.sum_insert ha, Finset.sum_insert ha, ih, Z_add]

theorem fptosi_Z (z : ℤ) (h1 : -2147483648 ≤ z) (h2 : z ≤ 2147483647) :
    FloatOps.fptosi (F := Ideal) (φ := .f32) 32 (Z z) = BitVec.ofInt 32 z := by
  show Ideal.fptosi 32 (Z z) = _
  unfold Ideal.fptosi Z
  rw [Ideal.toIntClamped_coe]
  congr 1
  have e : (if (0:ℝ) ≤ (z:ℝ) then ⌊(z:ℝ)⌋ else ⌈(z:ℝ)⌉) = z := by
    split
    · exact Int.floor_intCast z
    · exact Int.ceil_intCast z
  rw [e]
  have a1 : (-((2 ^ (32 - 1) : ℕ) : ℤ)) = -2147483648 := by norm_num
  have a2 : (((2 ^ (32 - 1) : ℕ) : ℤ) - 1) = 2147483647 := by norm_num
  rw [a1, a2, min_eq_right h2, max_eq_right h1]

theorem sitofp_Z {w : ℕ} (φ : FTy) (b : BitVec w) : FloatOps.sitofp (F := Ideal) φ b = Z b.toInt := rfl

theorem toInt_ofInt32 (z : ℤ) (h1 : -2147483648 ≤ z) (h2 : z ≤ 2147483647) : (BitVec.ofInt 32 z).toInt = z := by
  rw [BitVec.toInt_ofInt]
  exact Int.bmod_eq_of_le (by norm_num; omega) (by norm_num; omega)

theorem floor_coe (r : ℝ) : Ideal.liftRound Int.floor ((r : ℝ) : EReal) = Z ⌊r⌋ := rfl
theorem even_coe (r : ℝ) : Ideal.liftRound Ideal.roundHalfEven ((r : ℝ) : EReal) = Z (Ideal.roundHalfEven r) := rfl

/-- Rounding to the nearest whole number moves by at most a half. -/
theorem roundHalfEven_le (r : ℝ) : (Ideal.roundHalfEven r : ℝ) ≤ r + 1 / 2 := by
  unfold Ideal.roundHalfEven
  have h := Int.floor_le r
  have h' := Int.lt_floor_add_one r
  dsimp only
  split_ifs <;> push_cast <;> linarith
theorem le_roundHalfEven (r : ℝ) : r - 1 / 2 ≤ (Ideal.roundHalfEven r : ℝ) := by
  unfold Ideal.roundHalfEven
  have h := Int.floor_le r
  have h' := Int.lt_floor_add_one r
  dsimp only
  split_ifs <;> push_cast <;> linarith

/-! ## The constants -/

theorem c_neginf : Ideal.ofBits .f32 0xFF800000#32 = ⊥ := by
  simp [Ideal.ofBits, Ideal.ieee]
theorem c_16256 : Ideal.ofBits .f32 0x467E0000#32 = Z 16256 := by
  simp [Ideal.ofBits, Ideal.ieee, Z, -EReal.coe_mul]; norm_num
theorem c_32512 : Ideal.ofBits .f32 0x46FE0000#32 = Z 32512 := by
  simp [Ideal.ofBits, Ideal.ieee, Z, -EReal.coe_mul]; norm_num
theorem c_256 : Ideal.ofBits .f32 0x43800000#32 = Z 256 := by
  simp [Ideal.ofBits, Ideal.ieee, Z, -EReal.coe_mul]; norm_num
theorem c_127 : Ideal.ofBits .f32 0x42FE0000#32 = Z 127 := by
  simp [Ideal.ofBits, Ideal.ieee, Z, -EReal.coe_mul]; norm_num
theorem c_4095 : Ideal.ofBits .f32 0x457FF000#32 = Z 4095 := by
  simp [Ideal.ofBits, Ideal.ieee, Z, -EReal.coe_mul]; norm_num
theorem c_m4095 : Ideal.ofBits .f32 0xC57FF000#32 = Z (-4095) := by
  simp [Ideal.ofBits, Ideal.ieee, Z, -EReal.coe_mul]; norm_num
theorem c_mhalf : Ideal.ofBits .f32 0xBF000000#32 = ((-(1/2) : ℝ) : EReal) := by
  simp [Ideal.ofBits, Ideal.ieee, -EReal.coe_mul]; norm_num
theorem c_half : Ideal.ofBits .f32 0x3F000000#32 = (((1/2) : ℝ) : EReal) := by
  simp [Ideal.ofBits, Ideal.ieee, -EReal.coe_mul]; norm_num
theorem c_64th : Ideal.ofBits .f32 0x3C800000#32 = (((1/64) : ℝ) : EReal) := by
  simp [Ideal.ofBits, Ideal.ieee, -EReal.coe_mul]; norm_num
theorem c_recip : Ideal.ofBits .f32 0x38010204#32 = (((8454660 / 274877906944) : ℝ) : EReal) := by
  simp [Ideal.ofBits, Ideal.ieee, -EReal.coe_mul]; norm_num
theorem c_slack : Ideal.ofBits .f32 0x3F800004#32 = (((1 + 1 / 2097152) : ℝ) : EReal) := by
  simp [Ideal.ofBits, Ideal.ieee, -EReal.coe_mul, -EReal.coe_add]; norm_num
theorem c_one_e : Ideal.ofBits .f32 0x45800008#32 = (((4096 + 1 / 256) : ℝ) : EReal) := by
  simp [Ideal.ofBits, Ideal.ieee, -EReal.coe_mul, -EReal.coe_add]; norm_num

end Cert.Num

end
-- ==== Proof.Arith.Scale.lean ====
/- The dyadic scale of a row and the codes under it: what the kernel computes with floats is, on whole numbers of at
   most 23 bits, the integer quantiser of the reference. -/
module

public import proofs.«01_k».proof.Proof.Arith.Num

@[expose] public section

noncomputable section

namespace Cert.Num

open Idealize.ShloMosaic

/-- The number of binary digits. -/
def len (a : ℕ) : ℕ := Nat.log2 a + 1
/-- The left shift that brings a 23-bit number to 23 digits. -/
def sh (a : ℕ) : ℕ := 23 - len a
/-- The mantissa of the scale. -/
def mant (a : ℕ) : ℕ := (a * 2 ^ sh a + 16256) / 32512
/-- The code of `v` under the scale of a row whose largest magnitude is `a`. -/
def code (a : ℕ) (v : ℤ) : ℤ :=
  max (-127) (min 127 (v.sign * ((|v| * 2 ^ sh a + 128 * mant a) / (256 * mant a))))

theorem len_le {a : ℕ} (h1 : 1 ≤ a) (h2 : a < 8388608) : len a ≤ 23 := by
  unfold len
  have : Nat.log2 a < 23 := (Nat.log2_lt (by omega)).2 (by norm_num; omega)
  omega

theorem one_le_len (a : ℕ) : 1 ≤ len a := by unfold len; omega

theorem sh_lt {a : ℕ} : sh a < 23 := by
  have := one_le_len a
  unfold sh; omega

theorem sh_range {a : ℕ} (h1 : 1 ≤ a) (h2 : a < 8388608) : 4194304 ≤ a * 2 ^ sh a ∧ a * 2 ^ sh a < 8388608 := by
  have hl := len_le h1 h2
  have h3 : 2 ^ Nat.log2 a ≤ a := Nat.log2_self_le (by omega)
  have h4 : a < 2 ^ (Nat.log2 a + 1) := Nat.lt_log2_self
  have e1 : sh a + Nat.log2 a = 22 := by unfold sh len at *; omega
  have p1 : 2 ^ sh a * 2 ^ Nat.log2 a = 4194304 := by rw [← pow_add, e1]; norm_num
  have p2 : 2 ^ sh a * 2 ^ (Nat.log2 a + 1) = 8388608 := by rw [pow_succ, ← mul_assoc, p1]; norm_num
  have hp : 0 < 2 ^ sh a := Nat.two_pow_pos _
  constructor
  · calc 4194304 = 2 ^ Nat.log2 a * 2 ^ sh a := by rw [← p1, mul_comm]
      _ ≤ a * 2 ^ sh a := Nat.mul_le_mul_right _ h3
  · calc a * 2 ^ sh a < 2 ^ (Nat.log2 a + 1) * 2 ^ sh a := Nat.mul_lt_mul_of_pos_right h4 hp
      _ = 8388608 := by rw [mul_comm, p2]

theorem mant_range {a : ℕ} (h1 : 1 ≤ a) (h2 : a < 8388608) : 129 ≤ mant a ∧ mant a ≤ 258 := by
  have := sh_range h1 h2
  unfold mant; omega

/-! ## The digit count and the powers of two, as the kernel computes them -/

theorem k_len {a : ℕ} (h1 : 1 ≤ a) (h2 : a < 8388608) :
    IntOp.subi (32#32) (IntOp.ctlz (BitVec.ofInt 32 (a : ℤ))) = BitVec.ofNat 32 (len a) := by
  have hl := len_le h1 h2
  rw [BitVec.ofInt_natCast]
  have e : (BitVec.ofNat 32 a).toNat = a := by rw [BitVec.toNat_ofNat]; omega
  have hne : BitVec.ofNat 32 a ≠ 0 := by
    intro h; have := congrArg BitVec.toNat h; rw [e] at this; simp at this; omega
  unfold IntOp.subi IntOp.ctlz
  rw [if_neg hne, e]
  unfold len at *
  apply BitVec.eq_of_toNat_eq
  rw [BitVec.toNat_sub, BitVec.toNat_ofNat, BitVec.toNat_ofNat, BitVec.toNat_ofNat]
  omega

theorem k_sh {a : ℕ} (h1 : 1 ≤ a) (h2 : a < 8388608) :
    IntOp.subi (23#32) (BitVec.ofNat 32 (len a)) = BitVec.ofNat 32 (sh a) := by
  have hl := len_le h1 h2
  unfold IntOp.subi sh
  apply BitVec.eq_of_toNat_eq
  rw [BitVec.toNat_sub, BitVec.toNat_ofNat, BitVec.toNat_ofNat, BitVec.toNat_ofNat]
  omega

theorem k_pow {s : ℕ} (hs : s < 23) :
    Ideal.ofBits .f32 (IntOp.shli .vector (IntOp.addi (BitVec.ofNat 32 s) 127#32) 23#32) = Z (2 ^ s) := by
  have e : IntOp.shli .vector (IntOp.addi (BitVec.ofNat 32 s) 127#32) 23#32 = BitVec.ofNat 32 ((s + 127) * 8388608) := by
    revert s; decide
  rw [e]
  interval_cases s <;> (simp [Ideal.ofBits, Ideal.ieee, Z, -EReal.coe_mul]; try norm_num)

theorem k_ipow {s : ℕ} (hs : s < 23) :
    Ideal.ofBits .f32 (IntOp.shli .vector (IntOp.subi 127#32 (BitVec.ofNat 32 s)) 23#32) = ((1 / 2 ^ s : ℝ) : EReal) := by
  have e : IntOp.shli .vector (IntOp.subi 127#32 (BitVec.ofNat 32 s)) 23#32 = BitVec.ofNat 32 ((127 - s) * 8388608) := by
    revert s; decide
  rw [e]
  interval_cases s <;> (simp [Ideal.ofBits, Ideal.ieee, -EReal.coe_mul]; try norm_num)

/-! ## The mantissa -/

/-- The kernel's quotient by 32512: a product by the rounded reciprocal, corrected by the remainder's sign. -/
def kMant (y : EReal) : EReal :=
  (Ideal.liftRound Int.floor (y * Ideal.ofBits .f32 0x38010204#32)
      + if Ideal.ofBits .f32 0x46FE0000#32 ≤ y - Ideal.liftRound Int.floor (y * Ideal.ofBits .f32 0x38010204#32) * Ideal.ofBits .f32 0x46FE0000#32 then 1 else 0)
    - if y - Ideal.liftRound Int.floor (y * Ideal.ofBits .f32 0x38010204#32) * Ideal.ofBits .f32 0x46FE0000#32 < 0 then 1 else 0

theorem kMant_eq (y : ℤ) (h0 : 0 ≤ y) (h1 : y < 8500000) : kMant (Z y) = Z (y / 32512) := by
  unfold kMant
  have e : Ideal.liftRound Int.floor (Z y * Ideal.ofBits .f32 0x38010204#32) = Z ⌊(y : ℝ) * (8454660 / 274877906944)⌋ := by
    rw [c_recip, Z_def y, ← EReal.coe_mul, floor_coe]
  rw [e, c_32512]
  set q := ⌊(y : ℝ) * (8454660 / 274877906944)⌋ with hq
  have f1 : (q : ℝ) ≤ (y : ℝ) * (8454660 / 274877906944) := Int.floor_le _
  have f2 : (y : ℝ) * (8454660 / 274877906944) < q + 1 := Int.lt_floor_add_one _
  have r0 : (0 : ℝ) ≤ y := by exact_mod_cast h0
  have r1 : (y : ℝ) < 8500000 := by exact_mod_cast h1
  have g1 : q * 32512 ≤ y := by
    have : (q : ℝ) * 32512 ≤ y := by linarith
    exact_mod_cast this
  have g2 : y < (q + 1) * 32512 + 1 := by
    have : (y : ℝ) < (q + 1) * 32512 + 1 := by linarith
    exact_mod_cast this
  simp only [← Z_zero, ← Z_one, Z_mul, Z_sub, Z_le, Z_lt, Z_ite, Z_add]
  rw [Z_inj]
  split_ifs <;> omega

/-! ## The codes -/

/-- The kernel's quotient of a magnitude by the scale's step: rounded, and lowered where it went up a tie or over. -/
def kQuot (mag step : EReal) : EReal :=
  Ideal.liftRound Ideal.roundHalfEven (mag * Ideal.div (Ideal.ofBits .f32 0x3F800004#32) step)
    - if mag - Ideal.liftRound Ideal.roundHalfEven (mag * Ideal.div (Ideal.ofBits .f32 0x3F800004#32) step) * step
        < step * Ideal.ofBits .f32 0xBF000000#32 then 1 else 0

theorem kQuot_eq (mag : ℤ) (s : ℕ) (m : ℤ) (h0 : 0 ≤ mag) (hm1 : 129 ≤ m) (ht : mag * 2 ^ s < 8388608) :
    kQuot (Z mag) (Z m * Z 256 * ((1 / 2 ^ s : ℝ) : EReal)) = Z ((mag * 2 ^ s + 128 * m) / (256 * m)) := by
  have hp : (0 : ℝ) < 2 ^ s := by positivity
  have hmr : (129 : ℝ) ≤ m := by exact_mod_cast hm1
  have hstep : (Z m * Z 256 * ((1 / 2 ^ s : ℝ) : EReal)) = ((256 * m / 2 ^ s : ℝ) : EReal) := by
    rw [Z_mul, Z_def, ← EReal.coe_mul]; congr 1; push_cast; ring
  have hspos : (0 : ℝ) < 256 * m / 2 ^ s := by positivity
  rw [hstep]
  unfold kQuot
  have e : Ideal.liftRound Ideal.roundHalfEven (Z mag * Ideal.div (Ideal.ofBits .f32 0x3F800004#32) ((256 * m / 2 ^ s : ℝ) : EReal))
      = Z (Ideal.roundHalfEven ((mag : ℝ) * 2 ^ s / (256 * m) * (1 + 1 / 2097152))) := by
    rw [Ideal.div_coe hspos.ne', c_slack, Z_def mag, ← EReal.coe_mul, ← EReal.coe_mul, even_coe]
    congr 2
    field_simp
  rw [e, c_mhalf]
  set x : ℝ := (mag : ℝ) * 2 ^ s / (256 * m) * (1 + 1 / 2097152) with hx
  set q := Ideal.roundHalfEven x with hq
  have f1 := roundHalfEven_le x
  have f2 := le_roundHalfEven x
  rw [← hq] at f1 f2
  set T : ℤ := mag * 2 ^ s with hT
  have hTr : ((T : ℤ) : ℝ) = (mag : ℝ) * 2 ^ s := by rw [hT]; push_cast; rfl
  have hT0 : 0 ≤ T := by positivity
  have hxD : x * (256 * m) = T + T * (1 / 2097152) := by
    rw [hx, hTr]; field_simp
  have hDpos : (0 : ℝ) < 256 * m := by positivity
  have hTlt : (T : ℝ) < 8388608 := by exact_mod_cast ht
  have hT0r : (0 : ℝ) ≤ T := by exact_mod_cast hT0
  -- the two integer bounds
  have g1 : q * (256 * m) < T + 128 * m + 4 := by
    have : (q : ℝ) * (256 * m) ≤ (x + 1 / 2) * (256 * m) := mul_le_mul_of_nonneg_right f1 hDpos.le
    have h4 : (q : ℝ) * (256 * m) < T + 128 * m + 4 := by
      have : (x + 1 / 2) * (256 * m) = T + T * (1 / 2097152) + 128 * m := by rw [add_mul, hxD]; ring
      linarith
    exact_mod_cast h4
  have g2 : T + 128 * m < (q + 1) * (256 * m) := by
    have h5 : (x - 1 / 2) * (256 * m) ≤ (q : ℝ) * (256 * m) := mul_le_mul_of_nonneg_right f2 hDpos.le
    have h6 : (x - 1 / 2) * (256 * m) = T + T * (1 / 2097152) - 128 * m := by rw [sub_mul, hxD]; ring
    rcases hT0.eq_or_lt with hz | hpos
    · have hq0 : 0 ≤ q := by
        have : x = 0 := by
          have : ((T : ℤ) : ℝ) = 0 := by exact_mod_cast hz.symm
          rw [hx, ← hTr, this]; ring
        have : (-1 : ℝ) < q := by rw [this] at f2; linarith
        have : -1 < q := by exact_mod_cast this
        omega
      nlinarith
    · have : (0 : ℝ) < T := by exact_mod_cast hpos
      have h7 : (T : ℝ) + 128 * m < (q + 1) * (256 * m) := by
        have : (0 : ℝ) < T * (1 / 2097152) := by positivity
        nlinarith
      exact_mod_cast h7
  -- the condition, on integers
  have hc : (Z mag - Z q * ((256 * m / 2 ^ s : ℝ) : EReal) < ((256 * m / 2 ^ s : ℝ) : EReal) * ((-(1 / 2) : ℝ) : EReal))
      ↔ T + 128 * m < q * (256 * m) := by
    rw [Z_def mag, Z_def q, ← EReal.coe_mul, ← EReal.coe_mul, ← EReal.coe_sub, EReal.coe_lt_coe_iff]
    have : ((mag : ℝ) - q * (256 * m / 2 ^ s) < 256 * m / 2 ^ s * (-(1 / 2)))
        ↔ ((T : ℝ) + 128 * m < q * (256 * m)) := by
      rw [hTr]
      rw [← mul_lt_mul_iff_left₀ hp]
      have e1 : ((mag : ℝ) - q * (256 * m / 2 ^ s)) * 2 ^ s = mag * 2 ^ s - q * (256 * m) := by field_simp
      have e2 : 256 * (m : ℝ) / 2 ^ s * (-(1 / 2)) * 2 ^ s = - (128 * m) := by field_simp; ring
      rw [e1, e2]
      constructor <;> intro h <;> linarith
    rw [this]
    constructor
    · intro h; exact_mod_cast h
    · intro h; exact_mod_cast h
  have hfin : ∀ q' : ℤ, q' * (256 * m) ≤ T + 128 * m → T + 128 * m < (q' + 1) * (256 * m) →
      (T + 128 * m) / (256 * m) = q' := by
    intro q' a b
    have hD : 0 < 256 * m := by omega
    apply le_antisymm
    · exact Int.lt_add_one_iff.1 (Int.ediv_lt_of_lt_mul hD b)
    · exact (Int.le_ediv_iff_mul_le hD).2 a
  by_cases h : T + 128 * m < q * (256 * m)
  · rw [if_pos (hc.2 h), ← Z_one, Z_sub, Z_inj]
    refine (hfin (q - 1) ?_ ?_).symm
    · have : (q - 1) * (256 * m) = q * (256 * m) - 256 * m := by ring
      omega
    · have : (q - 1 + 1) * (256 * m) = q * (256 * m) := by ring
      omega
  · rw [if_neg (fun h' => h (hc.1 h')), ← Z_zero, Z_sub, Z_inj]
    refine (hfin (q - 0) ?_ ?_).symm
    · rw [sub_zero]; omega
    · rw [sub_zero]; exact g2

theorem quot_nonneg (mag : ℤ) (s : ℕ) (m : ℕ) (h0 : 0 ≤ mag) : 0 ≤ (mag * 2 ^ s + 128 * (m : ℤ)) / (256 * (m : ℤ)) :=
  Int.ediv_nonneg (by positivity) (by positivity)

/-- The sign put back: the kernel's clamped quotient with the value's sign is the reference's clamped signed quotient. -/
theorem sign_clip (v q : ℤ) (hq : 0 ≤ q) (hv : v = 0 → q = 0) :
    (if v < 0 then 0 - min q 127 else min q 127) = max (-127) (min 127 (v.sign * q)) := by
  rcases lt_trichotomy v 0 with h | h | h
  · rw [if_pos h, Int.sign_eq_neg_one_of_neg h]; omega
  · rw [if_neg (by omega), hv h, h]; simp
  · rw [if_neg (by omega), Int.sign_eq_one_of_pos h]; omega

theorem code_range (a : ℕ) (v : ℤ) : -127 ≤ code a v ∧ code a v ≤ 127 := by
  unfold code; omega

end Cert.Num

end
-- ==== Proof.Arith.Words.lean ====
/- 32-bit words as whole numbers: what each integer operation of the reference does to the word of a number. -/
module

public import proofs.«01_k».proof.Proof.Arith.Num

@[expose] public section

noncomputable section

namespace Cert.Num

open Idealize.ShloMosaic

/-- The 32-bit word of a whole number. -/
def B (z : ℤ) : BitVec 32 := BitVec.ofInt 32 z

/-- A whole number a 32-bit word holds. -/
def Fits (z : ℤ) : Prop := -2147483648 ≤ z ∧ z ≤ 2147483647

theorem toInt_B {z : ℤ} (h : Fits z) : (B z).toInt = z := toInt_ofInt32 z h.1 h.2

theorem B_toInt (x : BitVec 32) : B x.toInt = x := BitVec.ofInt_toInt

theorem fits_toInt (x : BitVec 32) : Fits x.toInt := by
  have h1 := BitVec.toInt_lt (x := x); have h2 := BitVec.le_toInt (x := x)
  unfold Fits; omega

theorem B_inj {a b : ℤ} (ha : Fits a) (hb : Fits b) : B a = B b ↔ a = b :=
  ⟨fun h => by rw [← toInt_B ha, h, toInt_B hb], fun h => by rw [h]⟩

theorem eq_B {x : BitVec 32} {z : ℤ} (h : x.toInt = z) : x = B z := by rw [← h, B_toInt]

theorem msb_B {z : ℤ} (h : Fits z) : (B z).msb = decide (z < 0) := by
  rw [BitVec.msb_eq_toInt, toInt_B h]

theorem B_ofNat (n : ℕ) : B (n : ℤ) = BitVec.ofNat 32 n := BitVec.ofInt_natCast 32 n

theorem toNat_B {z : ℤ} (h0 : 0 ≤ z) (h1 : z < 4294967296) : (B z).toNat = z.toNat := by
  obtain ⟨n, rfl⟩ := Int.eq_ofNat_of_zero_le h0
  rw [B_ofNat, BitVec.toNat_ofNat]
  simp only [Int.toNat_natCast]
  omega

theorem B_addi (a b : ℤ) : IntOp.addi (B a) (B b) = B (a + b) := (BitVec.ofInt_add ..).symm
theorem B_muli (a b : ℤ) : IntOp.muli (B a) (B b) = B (a * b) := (BitVec.ofInt_mul ..).symm
theorem B_subi (a b : ℤ) : IntOp.subi (B a) (B b) = B (a - b) := by
  unfold IntOp.subi B
  rw [sub_eq_add_neg, BitVec.ofInt_add, BitVec.ofInt_neg, BitVec.sub_eq_add_neg]

theorem slt_B {a b : ℤ} (ha : Fits a) (hb : Fits b) : (B a).slt (B b) = decide (a < b) := by
  unfold BitVec.slt; rw [toInt_B ha, toInt_B hb]

theorem B_maxsi {a b : ℤ} (ha : Fits a) (hb : Fits b) : IntOp.maxsi (B a) (B b) = B (max a b) := by
  unfold IntOp.maxsi
  rw [slt_B hb ha]
  by_cases h : b < a
  · rw [if_pos (by simpa using h), max_eq_left h.le]
  · rw [if_neg (by simpa using h), max_eq_right (not_lt.1 h)]

theorem B_minsi {a b : ℤ} (ha : Fits a) (hb : Fits b) : IntOp.minsi (B a) (B b) = B (min a b) := by
  unfold IntOp.minsi
  rw [slt_B ha hb]
  by_cases h : a < b
  · rw [if_pos (by simpa using h), min_eq_left h.le]
  · rw [if_neg (by simpa using h), min_eq_right (not_lt.1 h)]

theorem B_neg (z : ℤ) : -(B z) = B (-z) := (BitVec.ofInt_neg).symm

theorem B_absi {a : ℤ} (ha : Fits a) : IntOp.absi (B a) = B |a| := by
  unfold IntOp.absi
  rw [msb_B ha]
  by_cases h : a < 0
  · rw [if_pos (by simpa using h), B_neg, abs_of_neg h]
  · rw [if_neg (by simpa using h), abs_of_nonneg (not_lt.1 h)]

/-- The sign of a word, as the host computes it. -/
def sgn (x : BitVec 32) : BitVec 32 := if x = 0 then 0 else if x.msb then -1 else 1

theorem B_sgn {a : ℤ} (ha : Fits a) : sgn (B a) = B a.sign := by
  unfold sgn
  have e0 : B 0 = 0#32 := rfl
  have hz : (B a = 0) ↔ a = 0 := by
    rw [show (0 : BitVec 32) = B 0 from rfl]; exact B_inj ha (by unfold Fits; omega)
  rw [msb_B ha]
  rcases lt_trichotomy a 0 with h | h | h
  · rw [if_neg (fun e => by rw [hz.1 e] at h; omega), if_pos (by simpa using h), Int.sign_eq_neg_one_of_neg h]; rfl
  · rw [if_pos (hz.2 h), h]; rfl
  · rw [if_neg (fun e => by rw [hz.1 e] at h; omega), if_neg (by simpa using h.le), Int.sign_eq_one_of_pos h]; rfl

theorem B_shrsi (u : ArithUnit) {a : ℤ} (ha : Fits a) {s : ℤ} (hs0 : 0 ≤ s) (hs : s < 32) :
    IntOp.shrsi u (B a) (B s) = B (a / 2 ^ s.toNat) := by
  unfold IntOp.shrsi
  have e : (B s).toNat = s.toNat := toNat_B hs0 (by omega)
  rw [if_pos (by rw [e]; omega)]
  apply eq_B
  rw [BitVec.toInt_sshiftRight', toInt_B ha, e, Int.shiftRight_eq_div_pow]
  norm_cast

theorem B_shli (u : ArithUnit) (a : ℤ) {s : ℤ} (hs0 : 0 ≤ s) (hs : s < 32) :
    IntOp.shli u (B a) (B s) = B (a * 2 ^ s.toNat) := by
  unfold IntOp.shli
  have e : (B s).toNat = s.toNat := toNat_B hs0 (by omega)
  rw [if_pos (by rw [e]; omega), BitVec.shiftLeft_eq', e]
  have : B (a * 2 ^ s.toNat) = B a * B ((2 ^ s.toNat : ℕ) : ℤ) := by
    push_cast; exact BitVec.ofInt_mul ..
  rw [this, B_ofNat, BitVec.shiftLeft_eq_mul_twoPow]
  congr 1
  apply BitVec.eq_of_toNat_eq
  simp [BitVec.toNat_twoPow]

/-- The host's floor division of words: the quotient, lowered where the signs differ and a remainder is left. -/
def fdiv (x y : BitVec 32) : BitVec 32 :=
  Scalar.select (IntOp.andi (IntOp.cmpi .ne (sgn x) (sgn y)) (IntOp.cmpi .ne (IntOp.remsi .host x y) 0#32))
    (IntOp.subi (IntOp.divsi .host x y) 1#32) (IntOp.divsi .host x y)

theorem cmpi_ne (x y : BitVec 32) : IntOp.cmpi .ne x y = if x = y then 0#1 else 1#1 := by
  by_cases h : x = y
  · simp [IntOp.cmpi, h]
  · rw [if_neg h]; show BitVec.ofBool (x != y) = 1#1; rw [show (x != y) = true from bne_iff_ne.2 h]; rfl

theorem B_fdiv {a b : ℤ} (ha : Fits a) (hb : Fits b) (hpos : 0 < b) : fdiv (B a) (B b) = B (a / b) := by
  have hb0 : B b ≠ 0 := by
    rw [show (0 : BitVec 32) = B 0 from rfl]
    intro h; have := (B_inj hb (by unfold Fits; omega)).1 h; omega
  have hbm : B b ≠ -1#32 := by
    rw [show (-1#32 : BitVec 32) = B (-1) from rfl]
    intro h; have := (B_inj hb (by unfold Fits; omega)).1 h; omega
  have hcor : ¬ IntOp.SDivCorner (B a) (B b) := by
    unfold IntOp.SDivCorner
    rintro (h | ⟨_, h⟩)
    · exact hb0 h
    · exact hbm (by simpa using h)
  have hq : IntOp.divsi .host (B a) (B b) = B (a.tdiv b) := by
    unfold IntOp.divsi
    rw [if_neg hcor]
    apply eq_B
    rw [BitVec.toInt_sdiv_of_ne_or_ne _ _ (Or.inr (by simpa using hbm)), toInt_B ha, toInt_B hb]
  have hr : IntOp.remsi .host (B a) (B b) = B (a.tmod b) := by
    unfold IntOp.remsi
    rw [if_neg hcor]
    apply eq_B
    rw [BitVec.toInt_srem, toInt_B ha, toInt_B hb]
  have hfr : Fits (a.tmod b) := by
    have h1 := Int.tmod_lt_of_pos a hpos
    have h2 := Int.tmod_lt_of_pos (-a) hpos
    rw [Int.neg_tmod] at h2
    unfold Fits at *; omega
  have hfs : Fits a.sign := by
    rcases lt_trichotomy a 0 with h | h | h
    · rw [Int.sign_eq_neg_one_of_neg h]; unfold Fits; omega
    · rw [h]; unfold Fits; simp
    · rw [Int.sign_eq_one_of_pos h]; unfold Fits; omega
  unfold fdiv
  rw [hq, hr, B_sgn ha, B_sgn hb, cmpi_ne, cmpi_ne, Int.sign_eq_one_of_pos hpos, show (0#32) = B 0 from rfl,
    show (1#32) = B 1 from rfl, B_subi]
  simp only [B_inj hfs (show Fits 1 by unfold Fits; omega), B_inj hfr (show Fits 0 by unfold Fits; omega)]
  have hediv := Int.mul_tdiv_add_tmod a b
  have key : ∀ q : ℤ, q * b ≤ a → a < (q + 1) * b → a / b = q := fun q h1 h2 =>
    le_antisymm (Int.lt_add_one_iff.1 (Int.ediv_lt_of_lt_mul hpos h2)) ((Int.le_ediv_iff_mul_le hpos).2 h1)
  have h1 := Int.tmod_lt_of_pos a hpos
  have h2 := Int.tmod_lt_of_pos (-a) hpos
  rw [Int.neg_tmod] at h2
  have hcomm : b * a.tdiv b = a.tdiv b * b := mul_comm _ _
  have e1 : (a.tdiv b + 1) * b = a.tdiv b * b + b := by ring
  have e2 : (a.tdiv b - 1) * b = a.tdiv b * b - b := by ring
  have e3 : (a.tdiv b - 1 + 1) * b = a.tdiv b * b := by ring
  by_cases hm : a.tmod b = 0
  · rw [if_pos hm]
    have : a / b = a.tdiv b := key _ (by omega) (by omega)
    rw [this]
    split_ifs <;> rfl
  · rw [if_neg hm]
    rcases lt_trichotomy a 0 with h | h | h
    · rw [if_neg (by rw [Int.sign_eq_neg_one_of_neg h]; omega)]
      have hneg : 0 ≤ (-a).tmod b := Int.tmod_nonneg b (by omega)
      rw [Int.neg_tmod] at hneg
      have : a / b = a.tdiv b - 1 := key _ (by omega) (by omega)
      rw [this]; rfl
    · exact absurd (by rw [h]; simp) hm
    · rw [if_pos (Int.sign_eq_one_of_pos h)]
      have hp : 0 ≤ a.tmod b := Int.tmod_nonneg b h.le
      have : a / b = a.tdiv b := key _ (by omega) (by omega)
      rw [this]; rfl

end Cert.Num

end
-- ==== Proof.Arith.Rescale.lean ====
/- The rescaling of an accumulator: the kernel's shift, with its cases for shift amounts past 30, is the reference's plain
   shift, for every shift amount, as long as the shifted number has at most 30 bits. -/
module

public import proofs.«01_k».proof.Proof.Arith.Words

@[expose] public section

noncomputable section

namespace Cert.Num

open Idealize.ShloMosaic

/-- The reference: half added, shifted right, at any word `s`. -/
def refShift (v s : BitVec 32) : BitVec 32 :=
  IntOp.shrsi .host (IntOp.addi v (IntOp.shrsi .host (IntOp.shli .host 1#32 s) 1#32)) s

/-- The kernel's shift amount: clamped to [0, 30]. -/
def kClamp (s : BitVec 32) : BitVec 32 := IntOp.minsi 30#32 (IntOp.maxsi 0#32 s)

/-- The kernel: the shift at the clamped amount where that is the amount, else what is left past it. -/
def kShift (v s : BitVec 32) : BitVec 32 :=
  Scalar.select (IntOp.cmpi .eq s (kClamp s))
    (IntOp.shrsi .vector (IntOp.addi v (IntOp.shrsi .vector (IntOp.shli .vector 1#32 (kClamp s)) 1#32)) (kClamp s))
    (Scalar.select (IntOp.cmpi .eq s 31#32) 4294967295#32 (IntOp.shrsi .vector v 31#32))

theorem cmpi_eq (x y : BitVec 32) : IntOp.cmpi .eq x y = if x = y then 1#1 else 0#1 := by
  by_cases h : x = y
  · simp [IntOp.cmpi, h]
  · rw [if_neg h]; show BitVec.ofBool (x == y) = 0#1
    rw [show (x == y) = false from beq_eq_false_iff_ne.2 h]; rfl

theorem select_one {α : Type} (a b : α) : Scalar.select 1#1 a b = a := rfl
theorem select_zero {α : Type} (a b : α) : Scalar.select 0#1 a b = b := rfl

theorem p31 : (2 : ℤ) ^ (31 : ℤ).toNat = 2147483648 := by
  rw [show (31 : ℤ).toNat = 31 from rfl]; norm_num

theorem kClamp_eq (z : ℤ) (h : Fits z) : kClamp (B z) = B (min 30 (max 0 z)) := by
  unfold kClamp
  rw [show (0#32) = B 0 from rfl, show (30#32) = B 30 from rfl, B_maxsi (by unfold Fits; omega) h,
    B_minsi (by unfold Fits; omega) (by unfold Fits at *; omega)]

theorem shrsi_over (u : ArithUnit) {v : ℤ} (hv : Fits v) (s : BitVec 32) (hs : 32 ≤ s.toNat) :
    IntOp.shrsi u (B v) s = if v < 0 then B (-1) else B 0 := by
  unfold IntOp.shrsi
  rw [if_neg (by omega)]
  have e : IntOp.cornerWord u .shrsi (B v) s = if (B v).msb then BitVec.allOnes 32 else 0 := by
    unfold IntOp.cornerWord; simp
  rw [e, msb_B hv]
  by_cases h : v < 0
  · rw [if_pos h, if_pos (by simpa using h)]; rfl
  · rw [if_neg h, if_neg (by simpa using h)]; rfl

theorem kShift_eq (v : ℤ) (hv : -1073741824 ≤ v ∧ v < 1073741824) (s : BitVec 32) :
    kShift (B v) s = refShift (B v) s := by
  have hvf : Fits v := by unfold Fits; omega
  obtain ⟨z, hz, rfl⟩ : ∃ z, Fits z ∧ s = B z := ⟨s.toInt, fits_toInt s, (B_toInt s).symm⟩
  unfold kShift
  rw [kClamp_eq z hz, cmpi_eq, cmpi_eq, show (31#32) = B 31 from rfl]
  simp only [B_inj hz (show Fits (min 30 (max 0 z)) by unfold Fits at *; omega), B_inj hz (show Fits 31 by unfold Fits; omega)]
  unfold refShift
  by_cases h1 : 0 ≤ z ∧ z ≤ 30
  · have e : min 30 (max 0 z) = z := by omega
    rw [e, if_pos rfl, select_one]
    have u1 := B_shli .vector 1 h1.1 (by omega : z < 32)
    have u2 := B_shli .host 1 h1.1 (by omega : z < 32)
    rw [show (1#32) = B 1 from rfl, u1, u2]
    have hp : (2 : ℤ) ^ z.toNat ≤ 2 ^ 30 := pow_le_pow_right₀ (by norm_num) (by omega)
    have hp0 : (0 : ℤ) < 2 ^ z.toNat := by positivity
    norm_num at hp
    have hf : Fits (1 * 2 ^ z.toNat) := by unfold Fits; omega
    rw [B_shrsi .vector hf (s := 1) (by omega) (by omega), B_shrsi .host hf (s := 1) (by omega) (by omega), B_addi]
    have hf2 : Fits (v + 1 * 2 ^ z.toNat / 2 ^ (1 : ℤ).toNat) := by
      unfold Fits
      have : (1 * 2 ^ z.toNat / 2 ^ (1 : ℤ).toNat : ℤ) = 2 ^ z.toNat / 2 := by norm_num
      rw [this]; omega
    rw [B_shrsi .vector hf2 h1.1 (by omega), B_shrsi .host hf2 h1.1 (by omega)]
  · rw [if_neg (by omega), select_zero]
    by_cases h2 : z = 31
    · subst h2
      rw [if_pos rfl, select_one]
      have e1 : IntOp.shrsi .host (IntOp.shli .host 1#32 (B 31)) 1#32 = B (-1073741824) := by decide
      rw [e1, B_addi, B_shrsi .host (by unfold Fits; omega) (by omega) (by omega)]
      have : (v + -1073741824) / 2 ^ (31 : ℤ).toNat = -1 := by
        rw [p31]; omega
      rw [this]; rfl
    · rw [if_neg h2, select_zero]
      have hn : 32 ≤ (B z).toNat := by
        by_cases h0 : 0 ≤ z
        · rw [toNat_B h0 (by unfold Fits at hz; omega)]; omega
        · have h3 : (B z).toInt = z := toInt_B hz
          rw [BitVec.toInt_eq_toNat_cond] at h3
          split_ifs at h3 with h4
          · omega
          · unfold Fits at hz; omega
      have e1 : IntOp.shli .host 1#32 (B z) = 0#32 := by
        unfold IntOp.shli; rw [if_neg (by omega)]; rfl
      have e2 : IntOp.shrsi .host (0#32) 1#32 = 0#32 := by decide
      rw [e1, e2, show (0#32) = B 0 from rfl, B_addi, add_zero, shrsi_over .host hvf _ hn]
      rw [B_shrsi .vector hvf (s := 31) (by omega) (by omega)]
      by_cases h5 : v < 0
      · rw [if_pos h5, p31]; congr 1; omega
      · rw [if_neg h5, p31]; congr 1; omega

/-- The shift amounts are summed in another order. -/
theorem shift_sum (k e : BitVec 32) : IntOp.addi k (IntOp.subi e 8#32) = IntOp.subi (IntOp.addi k e) 8#32 := by
  unfold IntOp.addi IntOp.subi
  rw [BitVec.sub_eq_add_neg, BitVec.sub_eq_add_neg, BitVec.add_assoc]

/-- A number clamped to the range of a 13-bit signed activation. -/
def clip4 (z : ℤ) : ℤ := min 4095 (max (-4095) z)

theorem clip4_range (z : ℤ) : -4095 ≤ clip4 z ∧ clip4 z ≤ 4095 := by unfold clip4; omega

/-- What the rescaling of an accumulator gives: shifted and clamped. -/
def resc (v : ℤ) (s : BitVec 32) : ℤ := clip4 (refShift (B v) s).toInt

theorem k_clip (x : BitVec 32) :
    min (Ideal.ofBits .f32 0x457FF000#32) (max (Ideal.ofBits .f32 0xC57FF000#32) (FloatOps.sitofp (F := Ideal) FTy.f32 x)) = Z (clip4 x.toInt) := by
  rw [c_4095, c_m4095, sitofp_Z, Z_max, Z_min]; rfl

theorem r_clip (x : BitVec 32) : IntOp.minsi 4095#32 (IntOp.maxsi 4294963201#32 x) = B (clip4 x.toInt) := by
  have h := fits_toInt x
  conv_lhs => rw [← B_toInt x]
  rw [show (4294963201#32) = B (-4095) from rfl, show (4095#32) = B 4095 from rfl, B_maxsi (by unfold Fits; omega) h,
    B_minsi (by unfold Fits; omega) (by unfold Fits at *; omega)]
  rfl

end Cert.Num

end
-- ==== Proof.Arith.Silu.lean ====
/- The activation: `g * sigmoid(g)` by a power of two, a division and a rounding. What the kernel computes with floats on
   whole numbers of at most 4095 is the integer division of the reference. -/
module

public import proofs.«01_k».proof.Proof.Arith.Rescale

@[expose] public section

set_option maxRecDepth 16384

noncomputable section

namespace Cert.Num

open Idealize.ShloMosaic

/-- The exponent of the power of two, in 1/256ths. -/
def elog (a : ℕ) : ℕ := a + a / 2 - a / 16
/-- The power of two, as a whole number of 1/4096ths. -/
def epow (a : ℕ) : ℕ := (4096 - 8 * (elog a % 256)) / 2 ^ (elog a / 256)

/-- What is taken off `g`: the rounded quotient `a * e / (4096 + e)`, ties down. -/
def damp (a : ℕ) : ℤ := -(((4096 + epow a : ℕ) / 2 - (a * epow a : ℕ) : ℤ) / (4096 + epow a : ℕ))

/-- The activation. -/
def silu (g : ℤ) : ℤ := if 0 ≤ g then g - damp g.natAbs else - damp g.natAbs

/-- The hidden value. -/
def hid (g u : ℤ) : ℤ := (silu g * u + 32) / 64

/-! ## Facts of the 4096 magnitudes -/

theorem all_small (P : ℕ → Prop) [DecidablePred P]
    (h : ∀ i : Fin 64, ∀ j : Fin 64, P (64 * i.val + j.val)) (a : ℕ) (ha : a < 4096) : P a := by
  have := h ⟨a / 64, by omega⟩ ⟨a % 64, by omega⟩
  have e : 64 * (a / 64) + a % 64 = a := by omega
  simpa only [e] using this

theorem elog_lt (a : ℕ) (ha : a < 4096) : elog a < 5888 := by unfold elog; omega

theorem epow_le (a : ℕ) : epow a ≤ 4096 := by
  unfold epow
  exact le_trans (Nat.div_le_self _ _) (Nat.sub_le _ _)

theorem prod_le (a : ℕ) (ha : a < 4096) : a * epow a ≤ 100 * (4096 + epow a) := by
  apply all_small (fun a => a * epow a ≤ 100 * (4096 + epow a)) ?_ a ha
  decide +kernel

theorem damp_spec (a : ℕ) :
    ((damp a - 1) * (4096 + epow a : ℕ) < (a * epow a : ℕ) - ((4096 + epow a : ℕ) : ℤ) / 2)
    ∧ ((a * epow a : ℕ) - ((4096 + epow a : ℕ) : ℤ) / 2 ≤ damp a * (4096 + epow a : ℕ)) := by
  unfold damp
  set D : ℤ := ((4096 + epow a : ℕ) : ℤ) with hD
  have hDp : 0 < D := by rw [hD]; positivity
  set P : ℤ := ((a * epow a : ℕ) : ℤ)
  have e1 : D * ((D / 2 - P) / D) ≤ D / 2 - P := Int.mul_ediv_self_le hDp.ne'
  have e2 : D / 2 - P < D * ((D / 2 - P) / D) + D := Int.lt_mul_ediv_self_add hDp
  constructor <;> nlinarith

theorem damp_unique (a : ℕ) (t : ℤ)
    (h1 : (t - 1) * (4096 + epow a : ℕ) < (a * epow a : ℕ) - ((4096 + epow a : ℕ) : ℤ) / 2)
    (h2 : (a * epow a : ℕ) - ((4096 + epow a : ℕ) : ℤ) / 2 ≤ t * (4096 + epow a : ℕ)) : t = damp a := by
  obtain ⟨g1, g2⟩ := damp_spec a
  have hDp : (0 : ℤ) < ((4096 + epow a : ℕ) : ℤ) := by positivity
  set D : ℤ := ((4096 + epow a : ℕ) : ℤ)
  rcases lt_trichotomy t (damp a) with h | h | h
  · have : t * D ≤ (damp a - 1) * D := mul_le_mul_of_nonneg_right (by omega) hDp.le
    omega
  · exact h
  · have : damp a * D ≤ (t - 1) * D := mul_le_mul_of_nonneg_right (by omega) hDp.le
    omega

theorem damp_range (a : ℕ) (ha : a < 4096) : 0 ≤ damp a ∧ damp a ≤ 101 := by
  obtain ⟨g1, g2⟩ := damp_spec a
  have hp := prod_le a ha
  have hDp : (0 : ℤ) < ((4096 + epow a : ℕ) : ℤ) := by positivity
  have hP0 : (0 : ℤ) ≤ ((a * epow a : ℕ) : ℤ) := by positivity
  have hp' : ((a * epow a : ℕ) : ℤ) ≤ 100 * ((4096 + epow a : ℕ) : ℤ) := by exact_mod_cast hp
  set D : ℤ := ((4096 + epow a : ℕ) : ℤ)
  set P : ℤ := ((a * epow a : ℕ) : ℤ)
  constructor
  · by_contra h
    have : damp a * D ≤ (-1) * D := mul_le_mul_of_nonneg_right (by omega) hDp.le
    omega
  · by_contra h
    have : 101 * D ≤ (damp a - 1) * D := mul_le_mul_of_nonneg_right (by omega) hDp.le
    omega

theorem silu_range (g : ℤ) (h : -4095 ≤ g ∧ g ≤ 4095) : -101 ≤ silu g ∧ silu g ≤ 4095 := by
  have := damp_range g.natAbs (by omega)
  unfold silu
  split_ifs <;> omega

theorem silu_mul_range (g u : ℤ) (hg : -4095 ≤ g ∧ g ≤ 4095) (hu : -4095 ≤ u ∧ u ≤ 4095) :
    -16769025 ≤ silu g * u ∧ silu g * u ≤ 16769025 := by
  have h := silu_range g hg
  constructor <;> nlinarith

theorem hid_range (g u : ℤ) (hg : -4095 ≤ g ∧ g ≤ 4095) (hu : -4095 ≤ u ∧ u ≤ 4095) :
    -8388607 ≤ hid g u ∧ hid g u ≤ 8388607 := by
  have h := silu_mul_range g u hg hu
  unfold hid
  omega

/-! ## What the kernel computes -/

theorem floor_div_int (a b : ℤ) (hb : 0 < b) : ⌊(a : ℝ) / (b : ℝ)⌋ = a / b := by
  have hbr : (0 : ℝ) < b := by exact_mod_cast hb
  rw [Int.floor_eq_iff, le_div_iff₀ hbr, div_lt_iff₀ hbr]
  have h1 := Int.ediv_mul_le a hb.ne'
  have h2 := Int.lt_ediv_add_one_mul_self a hb
  exact ⟨by exact_mod_cast h1, by exact_mod_cast h2⟩

/-- A float's value from a positive normal pattern. -/
theorem ofBits_normal (e f : ℕ) (he0 : 0 < e) (he : e < 255) (hf : f < 8388608) :
    Ideal.ofBits .f32 (BitVec.ofNat 32 (e * 8388608 + f)) = (((8388608 + f : ℕ) * (2 : ℝ) ^ ((e : ℤ) - 150) : ℝ) : EReal) := by
  have hn : (BitVec.ofNat 32 (e * 8388608 + f)).toNat = e * 8388608 + f := by
    rw [BitVec.toNat_ofNat]; omega
  have h1 : (BitVec.extractLsb' 31 1 (BitVec.ofNat 32 (e * 8388608 + f)) == 1#1) = false := by
    rw [beq_eq_false_iff_ne]
    intro h
    have := congrArg BitVec.toNat h
    rw [BitVec.extractLsb'_toNat, hn] at this
    simp only [Nat.shiftRight_eq_div_pow, BitVec.toNat_ofNat] at this
    omega
  have h2 : (BitVec.extractLsb' 23 8 (BitVec.ofNat 32 (e * 8388608 + f))).toNat = e := by
    rw [BitVec.extractLsb'_toNat, hn, Nat.shiftRight_eq_div_pow]; omega
  have h3 : (BitVec.extractLsb' 0 23 (BitVec.ofNat 32 (e * 8388608 + f))).toNat = f := by
    rw [BitVec.extractLsb'_toNat, hn, Nat.shiftRight_eq_div_pow]; omega
  show Ideal.ieee 8 23 _ = _
  unfold Ideal.ieee
  simp only [show 8 + 23 = 31 from rfl, h1, h2, h3]
  rw [if_neg (by omega), if_neg (by omega)]
  congr 1
  have : ((e : ℤ) - (2 ^ (8 - 1) - 1) - ((23 : ℕ) : ℤ)) = (e : ℤ) - 150 := by norm_num; ring
  rw [this]
  norm_num

/-- The word whose bits are read as the power of two. -/
theorem k_bits (l : ℕ) (hl : l < 5888) :
    IntOp.subi 1166016512#32 (IntOp.shli .vector (BitVec.ofNat 32 l) 15#32) = BitVec.ofNat 32 (1166016512 - l * 32768) := by
  rw [← B_ofNat l, show (15#32) = B 15 from rfl, B_shli .vector _ (by omega) (by omega), show (1166016512#32) = B 1166016512 from rfl, B_subi,
    ← B_ofNat (1166016512 - l * 32768)]
  congr 1
  rw [show (15 : ℤ).toNat = 15 from rfl]
  omega

/-- The kernel's power of two: the bits of the word, rounded down. -/
theorem k_pow2 (l : ℕ) (hl : l < 5888) :
    Ideal.liftRound Int.floor (Ideal.ofBits .f32 (IntOp.subi 1166016512#32 (IntOp.shli .vector (BitVec.ofNat 32 l) 15#32)))
      = Z (((4096 - 8 * (l % 256)) / 2 ^ (l / 256) : ℕ) : ℤ) := by
  rw [k_bits l hl]
  have key : Ideal.ofBits .f32 (BitVec.ofNat 32 (1166016512 - l * 32768))
      = ((((4096 - 8 * (l % 256) : ℕ) : ℝ) / (2 ^ (l / 256) : ℕ) : ℝ) : EReal) := by
    have hq : l / 256 < 23 := by omega
    obtain ⟨q, hqe⟩ : ∃ q, l / 256 = q := ⟨_, rfl⟩
    obtain ⟨r, hre⟩ : ∃ r, l % 256 = r := ⟨_, rfl⟩
    have hr : r < 256 := by omega
    have hle : l = 256 * q + r := by omega
    rw [hqe] at hq ⊢
    rw [hre]
    have hp : (0 : ℝ) < 2 ^ q := by positivity
    by_cases h0 : r = 0
    · have e : 1166016512 - l * 32768 = (139 - q) * 8388608 + 0 := by omega
      rw [e, ofBits_normal _ _ (by omega) (by omega) (by omega), h0]
      congr 1
      have : (((139 - q : ℕ) : ℤ) - 150) = -11 - q := by omega
      rw [this, zpow_sub₀ (by norm_num), zpow_natCast]
      push_cast
      norm_num
      field_simp
      norm_num
    · have e : 1166016512 - l * 32768 = (138 - q) * 8388608 + (8388608 - r * 32768) := by omega
      rw [e, ofBits_normal _ _ (by omega) (by omega) (by omega)]
      congr 1
      have : (((138 - q : ℕ) : ℤ) - 150) = -12 - q := by omega
      rw [this, zpow_sub₀ (by norm_num), zpow_natCast]
      have e2 : (8388608 + (8388608 - r * 32768) : ℕ) = 4096 * (4096 - 8 * r) := by omega
      rw [e2]
      push_cast
      norm_num
      field_simp
  rw [key, floor_coe]
  congr 1
  exact floor_div_int _ _ (by positivity)

/-- The kernel's exponent. -/
theorem k_elog (a : ℕ) (ha : a < 4096) :
    IntOp.subi (IntOp.addi (BitVec.ofInt 32 (a : ℤ)) (IntOp.shrsi .vector (BitVec.ofInt 32 (a : ℤ)) 1#32))
      (IntOp.shrsi .vector (BitVec.ofInt 32 (a : ℤ)) 4#32) = BitVec.ofNat 32 (elog a) := by
  change IntOp.subi (IntOp.addi (B a) (IntOp.shrsi .vector (B a) (B 1))) (IntOp.shrsi .vector (B a) (B 4)) = _
  have hf : Fits (a : ℤ) := by unfold Fits; omega
  rw [B_shrsi _ hf (by omega) (by omega), B_shrsi _ hf (by omega) (by omega), B_addi, B_subi, ← B_ofNat]
  congr 1
  rw [show (1 : ℤ).toNat = 1 from rfl, show (4 : ℤ).toNat = 4 from rfl]
  unfold elog
  omega

/-- The kernel's rounded quotient is what the reference takes off. -/
theorem k_damp (a : ℕ) (ha : a < 4096) :
    Ideal.liftRound Ideal.roundHalfEven (Ideal.div (Z (a : ℤ) * Z (epow a : ℤ)) (Z (epow a : ℤ) + Ideal.ofBits .f32 0x45800008#32))
      = Z (damp a) := by
  have hD : Z (epow a : ℤ) + Ideal.ofBits .f32 0x45800008#32 = (((4096 + epow a : ℕ) + 1 / 256 : ℝ) : EReal) := by
    rw [c_one_e, Z_def, ← EReal.coe_add]; congr 1; push_cast; ring
  have hpos : (0 : ℝ) < (4096 + epow a : ℕ) + 1 / 256 := by positivity
  rw [hD, Ideal.div_coe hpos.ne', Z_mul, Z_def, ← EReal.coe_mul, even_coe]
  congr 1
  have hp := prod_le a ha
  set P : ℤ := (a : ℤ) * (epow a : ℤ) with hP
  set x : ℝ := (P : ℝ) * (1 / (((4096 + epow a : ℕ) : ℝ) + 1 / 256)) with hx
  have f1 := roundHalfEven_le x
  have f2 := le_roundHalfEven x
  set q := Ideal.roundHalfEven x
  have hPe : ((a * epow a : ℕ) : ℤ) = P := by push_cast; rfl
  have hP0 : 0 ≤ P := by positivity
  have hDr : (0 : ℝ) < ((4096 + epow a : ℕ) : ℝ) := by positivity
  have hPr : (P : ℝ) ≤ 100 * ((4096 + epow a : ℕ) : ℝ) := by
    rw [← hPe]; exact_mod_cast hp
  have hDi : (0 : ℤ) < ((4096 + epow a : ℕ) : ℤ) := by positivity
  have hcast : (((4096 + epow a : ℕ) : ℤ) : ℝ) = ((4096 + epow a : ℕ) : ℝ) := by push_cast; rfl
  have hP0r : (0 : ℝ) ≤ P := by exact_mod_cast hP0
  apply damp_unique
  all_goals rw [hPe]
  all_goals generalize hDz : ((4096 + epow a : ℕ) : ℤ) = D at *
  all_goals generalize hDn : ((4096 + epow a : ℕ) : ℝ) = R at *
  all_goals
    have hxR : x * (R + 1 / 256) = P := by rw [hx]; field_simp
    have hxle : x * R ≤ P := by
      have : 0 ≤ x := by rw [hx]; positivity
      nlinarith
    have hxge : (P : ℝ) - 100 / 256 ≤ x * R := by
      have : x ≤ 100 := by
        by_contra hcon
        have : 100 < x := not_le.1 hcon
        nlinarith
      nlinarith
  · -- (q - 1) D < P - D / 2
    have hfl : 2 * (D / 2) ≤ D := by omega
    rcases hP0.eq_or_lt with hz | hpp
    · have hx0 : x = 0 := by rw [hx, ← hz]; simp
      rw [hx0] at f1
      have hq0 : q ≤ 0 := by
        have : (q : ℝ) < 1 := by linarith
        have : q < 1 := by exact_mod_cast this
        omega
      have : (q - 1) * D ≤ (-1) * D := mul_le_mul_of_nonneg_right (by omega) hDi.le
      omega
    · have hlt : x * R < P := by
        have : 0 < x := by
          have : (0 : ℝ) < P := by exact_mod_cast hpp
          rw [hx]; positivity
        nlinarith
      have h3 : ((q : ℝ) - 1) * R < P - R / 2 := by nlinarith
      have h4 : 2 * ((q - 1) * D) < 2 * P - D := by
        have : 2 * (((q : ℝ) - 1) * (D : ℝ)) < 2 * P - D := by rw [hcast]; linarith
        exact_mod_cast this
      omega
  · have h3 : (P : ℝ) - 100 / 256 - R / 2 ≤ q * R := by nlinarith
    have h4 : 2 * P - 1 - D < 2 * (q * D) := by
      have : 2 * (P : ℝ) - 1 - D < 2 * (q * (D : ℝ)) := by rw [hcast]; linarith
      exact_mod_cast this
    omega

/-- What the kernel stores as a hidden value. -/
theorem k_hid (g u : ℤ) (hg : -4095 ≤ g ∧ g ≤ 4095) (l : BitVec 32) (hl : l = BitVec.ofNat 32 (elog g.natAbs)) :
    Ideal.liftRound Int.floor ((max (Z g) 0 - Ideal.liftRound Ideal.roundHalfEven (Ideal.div
        (Z |g| * Ideal.liftRound Int.floor (Ideal.ofBits .f32 (IntOp.subi 1166016512#32 (IntOp.shli .vector l 15#32))))
        (Ideal.liftRound Int.floor (Ideal.ofBits .f32 (IntOp.subi 1166016512#32 (IntOp.shli .vector l 15#32)))
          + Ideal.ofBits .f32 1166016520#32))) * Z u * Ideal.ofBits .f32 1015021568#32 + Ideal.ofBits .f32 1056964608#32)
      = Z (hid g u) := by
  have ha : g.natAbs < 4096 := by omega
  rw [hl, k_pow2 _ (elog_lt _ ha), Int.abs_eq_natAbs]
  change Ideal.liftRound Int.floor ((max (Z g) 0 - Ideal.liftRound Ideal.roundHalfEven (Ideal.div
        (Z (g.natAbs : ℤ) * Z (epow g.natAbs : ℤ)) (Z (epow g.natAbs : ℤ) + Ideal.ofBits .f32 0x45800008#32)))
          * Z u * Ideal.ofBits .f32 0x3C800000#32 + Ideal.ofBits .f32 0x3F000000#32) = _
  rw [k_damp _ ha, c_64th, c_half, ← Z_zero, Z_max, Z_sub, Z_mul, Z_def, ← EReal.coe_mul, ← EReal.coe_add, floor_coe]
  have hs : max g 0 - damp g.natAbs = silu g := by
    unfold silu
    split_ifs with h
    · rw [max_eq_left h]
    · rw [max_eq_right (by omega)]; ring
  rw [hs]
  congr 1
  unfold hid
  rw [show ((silu g * u : ℤ) : ℝ) * (1 / 64) + 1 / 2 = (((silu g * u + 32 : ℤ)) : ℝ) / ((64 : ℤ) : ℝ) by push_cast; ring]
  exact floor_div_int _ _ (by norm_num)

end Cert.Num

end
-- ==== Proof.Arith.Quant.lean ====
/- The quantiser and the activation as the reference computes them on words, the quantiser as the kernel does on floats, the
   largest magnitude of a row, and the sums of products. -/
module

public import proofs.«01_k».proof.Proof.Arith.Scale
public import proofs.«01_k».proof.Proof.Arith.Silu

@[expose] public section

set_option maxRecDepth 16384

noncomputable section

namespace Cert.Num

open Idealize.ShloMosaic

theorem fits_small {z : ℤ} (h : -1073741824 ≤ z ∧ z ≤ 1073741824) : Fits z := by unfold Fits; omega

/-! ## The quantiser on words -/

theorem r_mant {a : ℕ} (h1 : 1 ≤ a) (h2 : a < 8388608) :
    fdiv (IntOp.addi (IntOp.shli .host (B a) (BitVec.ofNat 32 (sh a))) 16256#32) 32512#32 = B (mant a) := by
  have hs : sh a < 23 := sh_lt
  have hr := sh_range h1 h2
  rw [← B_ofNat (sh a), B_shli _ _ (by omega) (by omega), show (16256#32) = B 16256 from rfl, B_addi,
    show (32512#32) = B 32512 from rfl, Int.toNat_natCast]
  have e : ((a : ℤ) * 2 ^ sh a + 16256) = ((a * 2 ^ sh a + 16256 : ℕ) : ℤ) := by push_cast; rfl
  rw [e, B_fdiv (fits_small (by omega)) (fits_small (by omega)) (by omega)]
  congr 1

/-- The reference's code of a value, on words. -/
def rCode (v shw mw : BitVec 32) : BitVec 32 :=
  IntOp.minsi 127#32 (IntOp.maxsi 4294967169#32 (IntOp.muli (sgn v)
    (fdiv (IntOp.addi (IntOp.shli .host (IntOp.absi v) shw) (IntOp.shrsi .host (IntOp.shli .host mw 8#32) 1#32))
      (IntOp.shli .host mw 8#32))))

theorem mag_range {a : ℕ} {v : ℤ} (h1 : 1 ≤ a) (h2 : a < 8388608) (hv : v.natAbs ≤ a) :
    0 ≤ |v| * 2 ^ sh a ∧ |v| * 2 ^ sh a < 8388608 := by
  have hr := sh_range h1 h2
  have hp : (0 : ℤ) < 2 ^ sh a := by positivity
  have h3 : |v| ≤ (a : ℤ) := by rw [Int.abs_eq_natAbs]; exact_mod_cast hv
  have h4 : |v| * 2 ^ sh a ≤ (a : ℤ) * 2 ^ sh a := mul_le_mul_of_nonneg_right h3 hp.le
  have h5 : ((a : ℤ) * 2 ^ sh a) < 8388608 := by exact_mod_cast hr.2
  have h6 : 0 ≤ |v| := abs_nonneg v
  exact ⟨by positivity, by omega⟩

theorem quot_range {a : ℕ} {v : ℤ} (h1 : 1 ≤ a) (h2 : a < 8388608) (hv : v.natAbs ≤ a) :
    0 ≤ (|v| * 2 ^ sh a + 128 * mant a) / (256 * mant a) ∧ (|v| * 2 ^ sh a + 128 * mant a) / (256 * mant a) < 8500000 := by
  have hm := mant_range h1 h2
  have ht := mag_range h1 h2 hv
  constructor
  · exact Int.ediv_nonneg (by omega) (by omega)
  · have : (|v| * 2 ^ sh a + 128 * mant a) / (256 * mant a) ≤ |v| * 2 ^ sh a + 128 * mant a := Int.ediv_le_self _ (by omega)
    omega

theorem r_code {a : ℕ} {v : ℤ} (h1 : 1 ≤ a) (h2 : a < 8388608) (hv : v.natAbs ≤ a) :
    rCode (B v) (BitVec.ofNat 32 (sh a)) (B (mant a)) = B (code a v) := by
  have hs : sh a < 23 := sh_lt
  have hm := mant_range h1 h2
  have ht := mag_range h1 h2 hv
  have hq := quot_range h1 h2 hv
  have hvf : Fits v := fits_small (by omega)
  unfold rCode
  rw [B_absi hvf, ← B_ofNat (sh a), B_shli _ _ (by omega) (by omega), Int.toNat_natCast, show (8#32) = B 8 from rfl,
    B_shli _ _ (by omega) (by omega), show (8 : ℤ).toNat = 8 from rfl, show (1#32) = B 1 from rfl,
    B_shrsi _ (fits_small (by omega)) (by omega) (by omega), B_addi, show (1 : ℤ).toNat = 1 from rfl]
  have e1 : ((mant a : ℤ) * 2 ^ 8) / 2 ^ 1 = 128 * mant a := by omega
  have e2 : ((mant a : ℤ) * 2 ^ 8) = 256 * mant a := by ring
  rw [e1, e2, B_fdiv (fits_small (by omega)) (fits_small (by omega)) (by omega), B_sgn hvf, B_muli,
    show (4294967169#32) = B (-127) from rfl, show (127#32) = B 127 from rfl]
  unfold code
  generalize (|v| * 2 ^ sh a + 128 * (mant a : ℤ)) / (256 * (mant a : ℤ)) = q at *
  have hsq : -8500000 ≤ v.sign * q ∧ v.sign * q ≤ 8500000 := by
    rcases lt_trichotomy v 0 with h | h | h
    · rw [Int.sign_eq_neg_one_of_neg h]; omega
    · rw [h]; simp
    · rw [Int.sign_eq_one_of_pos h]; omega
  rw [B_maxsi (fits_small (by omega)) (fits_small (by omega)), B_minsi (fits_small (by omega)) (fits_small (by omega))]
  congr 1
  omega

/-! ## The quantiser on floats -/

theorem k_mant {a : ℕ} (h1 : 1 ≤ a) (h2 : a < 8388608) :
    kMant (Z a * Ideal.ofBits .f32 (IntOp.shli .vector (IntOp.addi (BitVec.ofNat 32 (sh a)) 127#32) 23#32) + Ideal.ofBits .f32 0x467E0000#32)
      = Z (mant a) := by
  have hr := sh_range h1 h2
  rw [k_pow sh_lt, c_16256, Z_mul, Z_add]
  have e : ((a : ℤ) * 2 ^ sh a + 16256) = ((a * 2 ^ sh a + 16256 : ℕ) : ℤ) := by push_cast; rfl
  rw [e, kMant_eq _ (by omega) (by omega)]
  congr 1

/-- The kernel's step of a scale. -/
def kStep (m : EReal) (shw : BitVec 32) : EReal :=
  m * Ideal.ofBits .f32 0x43800000#32 * Ideal.ofBits .f32 (IntOp.shli .vector (IntOp.subi 127#32 shw) 23#32)

/-- The kernel's code of a value, as a float. -/
def kCode (v step : EReal) : EReal :=
  if v < 0 then 0 - min (kQuot (FloatOps.absf (F := Ideal) (φ := .f32) v) step) (Ideal.ofBits .f32 0x42FE0000#32)
  else min (kQuot (FloatOps.absf (F := Ideal) (φ := .f32) v) step) (Ideal.ofBits .f32 0x42FE0000#32)

theorem k_code {a : ℕ} {v : ℤ} (h1 : 1 ≤ a) (h2 : a < 8388608) (hv : v.natAbs ≤ a) :
    kCode (Z v) (kStep (Z (mant a)) (BitVec.ofNat 32 (sh a))) = Z (code a v) := by
  have hm := mant_range h1 h2
  have ht := mag_range h1 h2 hv
  have hq := quot_range h1 h2 hv
  unfold kCode kStep
  rw [Z_abs, k_ipow sh_lt, c_256, kQuot_eq |v| (sh a) (mant a) (abs_nonneg v) (by omega) ht.2, c_127, Z_min]
  rw [← Z_zero, Z_sub]
  simp only [Z_lt, Z_ite]
  congr 1
  unfold code
  refine sign_clip v _ hq.1 (fun h => ?_)
  rw [h, abs_zero, zero_mul, zero_add]
  exact Int.ediv_eq_zero_of_lt (by omega) (by omega)

theorem code_word (a : ℕ) (v : ℤ) : FloatOps.fptosi (F := Ideal) (φ := .f32) 32 (Z (code a v)) = B (code a v) := by
  have := code_range a v
  exact fptosi_Z _ (by omega) (by omega)

theorem mant_word {a : ℕ} (h1 : 1 ≤ a) (h2 : a < 8388608) : FloatOps.fptosi (F := Ideal) (φ := .f32) 32 (Z (mant a)) = B (mant a) := by
  have := mant_range h1 h2
  exact fptosi_Z _ (by omega) (by omega)

theorem len_word {a : ℕ} (h1 : 1 ≤ a) (h2 : a < 8388608) :
    IntOp.subi (32#32) (IntOp.ctlz (FloatOps.fptosi (F := Ideal) (φ := .f32) 32 (Z a))) = BitVec.ofNat 32 (len a) := by
  rw [fptosi_Z _ (by omega) (by omega), k_len h1 h2]

/-- The exponent of the scale, as a word. -/
def expo (a : ℕ) : BitVec 32 := IntOp.addi (IntOp.subi 15#32 (BitVec.ofNat 32 (len a))) 10#32

/-- A code cut to a byte and widened again is the code. -/
theorem code_byte (a : ℕ) (v : ℤ) : ((B (code a v)).setWidth 8).signExtend 32 = B (code a v) := by
  have h := code_range a v
  have hf : Fits (code a v) := fits_small (by omega)
  apply BitVec.eq_of_toInt_eq
  rw [BitVec.toInt_signExtend_of_le (by norm_num), toInt_B hf, BitVec.toInt_setWidth]
  unfold B
  rw [BitVec.toNat_ofInt]
  generalize code a v = c at *
  simp only [Int.bmod_def]
  omega

/-! ## The largest magnitude of a row -/

section RowMax

variable {ι : Type} [Fintype ι]

/-- The largest magnitude, at least 1. -/
def rowMax (f : ι → ℤ) : ℕ := max 1 (Finset.univ.sup fun c => (f c).natAbs)

theorem one_le_rowMax (f : ι → ℤ) : 1 ≤ rowMax f := le_max_left _ _

theorem natAbs_le_rowMax (f : ι → ℤ) (c : ι) : (f c).natAbs ≤ rowMax f :=
  le_trans (Finset.le_sup (f := fun c => (f c).natAbs) (Finset.mem_univ c)) (le_max_right _ _)

theorem rowMax_lt (f : ι → ℤ) (h : ∀ c, -8388607 ≤ f c ∧ f c ≤ 8388607) : rowMax f < 8388608 := by
  unfold rowMax
  have : (Finset.univ.sup fun c => (f c).natAbs) ≤ 8388607 := Finset.sup_le fun c _ => by have := h c; omega
  omega

theorem rowMax_le_iff (f : ι → ℤ) (n : ℕ) : rowMax f ≤ n ↔ 1 ≤ n ∧ ∀ c, (f c).natAbs ≤ n := by
  unfold rowMax
  rw [max_le_iff, Finset.sup_le_iff]
  simp

/-- The kernel's fold of magnitudes as floats, with 1. -/
theorem k_rowMax (f : ι → ℤ) : max (Finset.fold max (Ideal.ofBits .f32 4286578688#32) (fun c => Z |f c|) Finset.univ) 1 = Z (rowMax f : ℤ) := by
  apply eq_of_forall_ge_iff
  intro y
  rw [max_le_iff, Finset.fold_max_le, c_neginf]
  constructor
  · rintro ⟨⟨_, h⟩, h1⟩
    by_cases hx : ∃ c, rowMax f = (f c).natAbs
    · obtain ⟨c, hc⟩ := hx
      rw [hc, ← Int.abs_eq_natAbs]; exact h c (Finset.mem_univ c)
    · have : rowMax f = 1 := by
        by_contra hne
        have h2 : 1 < rowMax f := lt_of_le_of_ne (one_le_rowMax f) (Ne.symm hne)
        have h3 : rowMax f ≤ rowMax f - 1 := (rowMax_le_iff f _).2 ⟨by omega, fun c => by
          have := natAbs_le_rowMax f c
          have : rowMax f ≠ (f c).natAbs := fun e => hx ⟨c, e⟩
          omega⟩
        omega
      rw [this]; rw [show Z ((1 : ℕ) : ℤ) = 1 from Z_one]; exact h1
  · intro h
    refine ⟨⟨bot_le, fun c _ => le_trans ?_ h⟩, le_trans ?_ h⟩
    · rw [Z_le, Int.abs_eq_natAbs]; exact_mod_cast natAbs_le_rowMax f c
    · rw [← Z_one, Z_le]; exact_mod_cast one_le_rowMax f

/-- The reference's fold of magnitudes as words, with 1. -/
theorem r_rowMax (f : ι → ℤ) (h : ∀ c, Fits (f c)) (hh : ∀ c, -8388607 ≤ f c ∧ f c ≤ 8388607) :
    IntOp.maxsi (Finset.fold IntOp.maxsi 2147483648#32 (fun c => IntOp.absi (B (f c))) Finset.univ) 1#32 = B (rowMax f : ℤ) := by
  classical
  have key : ∀ s : Finset ι, ∃ z : ℤ, Fits z ∧ Finset.fold IntOp.maxsi 2147483648#32 (fun c => IntOp.absi (B (f c))) s = B z
      ∧ max z 1 = ((max 1 (s.sup fun c => (f c).natAbs) : ℕ) : ℤ) := by
    intro s
    induction s using Finset.induction_on with
    | empty => exact ⟨-2147483648, by unfold Fits; omega, by rw [Finset.fold_empty]; rfl, by simp⟩
    | insert c s hc ih =>
      obtain ⟨z, hz, hf, hm⟩ := ih
      have hc' := hh c
      refine ⟨max |f c| z, ?_, ?_, ?_⟩
      · unfold Fits at *
        rcases abs_cases (f c) with h4 | h4 <;> omega
      · rw [Finset.fold_insert hc, hf, B_absi (h c), B_maxsi _ hz]
        unfold Fits
        rcases abs_cases (f c) with h4 | h4 <;> omega
      · rw [Finset.sup_insert]
        rw [Int.abs_eq_natAbs]
        simp only [Nat.cast_max] at hm ⊢
        push_cast at hm ⊢
        omega
  obtain ⟨z, hz, hf, hm⟩ := key Finset.univ
  rw [hf, show (1#32) = B 1 from rfl, B_maxsi hz (fits_small (by omega)), hm]
  rfl

end RowMax

/-! ## The activation on words -/

/-- The reference's power of two, on words. -/
def rPow (a : BitVec 32) : BitVec 32 :=
  IntOp.shrsi .host (IntOp.subi 4096#32 (IntOp.shli .host (IntOp.andi (IntOp.subi (IntOp.addi a (IntOp.shrsi .host a 1#32)) (IntOp.shrsi .host a 4#32)) 255#32) 3#32))
    (IntOp.shrsi .host (IntOp.subi (IntOp.addi a (IntOp.shrsi .host a 1#32)) (IntOp.shrsi .host a 4#32)) 8#32)

/-- The reference's activation, on words. -/
def rSilu (g : BitVec 32) : BitVec 32 :=
  fdiv (IntOp.addi (IntOp.muli g (Scalar.select (IntOp.cmpi .sge g 0#32) 4096#32 (rPow (IntOp.absi g))))
      (IntOp.shrsi .host (IntOp.addi 4096#32 (rPow (IntOp.absi g))) 1#32))
    (IntOp.addi 4096#32 (rPow (IntOp.absi g)))

theorem B_and255 (l : ℕ) (hl : l < 5888) : IntOp.andi (B l) 255#32 = B ((l % 256 : ℕ) : ℤ) := by
  rw [B_ofNat, B_ofNat]
  unfold IntOp.andi
  apply BitVec.eq_of_toNat_eq
  rw [BitVec.toNat_and, BitVec.toNat_ofNat, BitVec.toNat_ofNat, BitVec.toNat_ofNat, Nat.mod_eq_of_lt (by omega : l < 2 ^ 32),
    show 255 % 2 ^ 32 = 2 ^ 8 - 1 from rfl, Nat.and_two_pow_sub_one_eq_mod]
  omega

theorem r_pow (a : ℕ) (ha : a < 4096) : rPow (B a) = B (epow a) := by
  have hf : Fits (a : ℤ) := fits_small (by omega)
  have hl := elog_lt a ha
  have e : IntOp.subi (IntOp.addi (B a) (IntOp.shrsi .host (B a) 1#32)) (IntOp.shrsi .host (B a) 4#32) = B (elog a) := by
    rw [show (1#32) = B 1 from rfl, show (4#32) = B 4 from rfl, B_shrsi _ hf (by omega) (by omega), B_shrsi _ hf (by omega) (by omega),
      B_addi, B_subi]
    congr 1
    rw [show (1 : ℤ).toNat = 1 from rfl, show (4 : ℤ).toNat = 4 from rfl]
    unfold elog
    omega
  unfold rPow
  rw [e, B_and255 _ hl, show (3#32) = B 3 from rfl, B_shli _ _ (by omega) (by omega), show (8#32) = B 8 from rfl,
    B_shrsi _ (fits_small (by omega)) (by omega) (by omega), show (4096#32) = B 4096 from rfl, B_subi]
  have e8 : ((elog a : ℤ) / 2 ^ (8 : ℤ).toNat) = ((elog a / 256 : ℕ) : ℤ) := by
    rw [show (8 : ℤ).toNat = 8 from rfl]; push_cast; norm_num
  rw [e8, show (3 : ℤ).toNat = 3 from rfl, B_shrsi _ (fits_small (by omega)) (by omega) (by omega), Int.toNat_natCast]
  congr 1
  unfold epow
  have : (4096 - ((elog a % 256 : ℕ) : ℤ) * 2 ^ 3) = ((4096 - 8 * (elog a % 256) : ℕ) : ℤ) := by omega
  rw [this]; norm_cast

theorem cmpi_sge0 (g : ℤ) (h : Fits g) : IntOp.cmpi .sge (B g) 0#32 = if 0 ≤ g then 1#1 else 0#1 := by
  have e : IntOp.cmpi .sge (B g) 0#32 = BitVec.ofBool ((0#32).sle (B g)) := rfl
  rw [e]
  unfold BitVec.sle
  rw [toInt_B h]
  by_cases hg : 0 ≤ g
  · rw [if_pos hg]; simp [hg]
  · rw [if_neg hg]; simp [hg]

theorem r_silu (g : ℤ) (hg : -4095 ≤ g ∧ g ≤ 4095) : rSilu (B g) = B (silu g) := by
  have hf : Fits g := fits_small (by omega)
  have ha : g.natAbs < 4096 := by omega
  have he := epow_le g.natAbs
  obtain ⟨d1, d2⟩ := damp_spec g.natAbs
  unfold rSilu
  rw [B_absi hf, Int.abs_eq_natAbs, r_pow _ ha, cmpi_sge0 g hf, show (4096#32) = B 4096 from rfl, B_addi,
    show (1#32) = B 1 from rfl, B_shrsi _ (fits_small (by omega)) (by omega) (by omega), show (1 : ℤ).toNat = 1 from rfl]
  have hprod : ((g.natAbs * epow g.natAbs : ℕ) : ℤ) = (g.natAbs : ℤ) * (epow g.natAbs : ℤ) := by push_cast; rfl
  have hDe : ((4096 + epow g.natAbs : ℕ) : ℤ) = 4096 + (epow g.natAbs : ℤ) := by push_cast; rfl
  rw [hprod, hDe] at d1 d2
  have key : ∀ N q : ℤ, q * (4096 + (epow g.natAbs : ℤ)) ≤ N → N < (q + 1) * (4096 + (epow g.natAbs : ℤ)) → N / (4096 + (epow g.natAbs : ℤ)) = q :=
    fun N q h1 h2 => le_antisymm (Int.lt_add_one_iff.1 (Int.ediv_lt_of_lt_mul (by omega) h2)) ((Int.le_ediv_iff_mul_le (by omega)).2 h1)
  unfold silu
  generalize damp g.natAbs = t at *
  by_cases h : 0 ≤ g
  · rw [if_pos h, if_pos h, select_one, B_muli, B_addi, B_fdiv (fits_small (by omega)) (fits_small (by omega)) (by omega)]
    congr 1
    have hga : (g.natAbs : ℤ) = g := by omega
    rw [hga] at d1 d2
    apply key
    · have : (g - t) * (4096 + (epow g.natAbs : ℤ)) = g * 4096 + g * (epow g.natAbs : ℤ) - t * (4096 + (epow g.natAbs : ℤ)) := by ring
      omega
    · have : (g - t + 1) * (4096 + (epow g.natAbs : ℤ)) = g * 4096 + g * (epow g.natAbs : ℤ) - (t - 1) * (4096 + (epow g.natAbs : ℤ)) := by ring
      omega
  · have hb : -16773120 ≤ g * (epow g.natAbs : ℤ) ∧ g * (epow g.natAbs : ℤ) ≤ 0 := by constructor <;> nlinarith
    rw [if_neg h, if_neg h, select_zero, B_muli, B_addi, B_fdiv (fits_small (by omega)) (fits_small (by omega)) (by omega)]
    congr 1
    have hga : (g.natAbs : ℤ) = -g := by omega
    rw [hga] at d1 d2
    have hng : -g * (epow g.natAbs : ℤ) = -(g * (epow g.natAbs : ℤ)) := by ring
    rw [hng] at d1 d2
    apply key
    · have : (-t) * (4096 + (epow g.natAbs : ℤ)) = - (t * (4096 + (epow g.natAbs : ℤ))) := by ring
      omega
    · have : (-t + 1) * (4096 + (epow g.natAbs : ℤ)) = - ((t - 1) * (4096 + (epow g.natAbs : ℤ))) := by ring
      omega

theorem r_hid (g u : ℤ) (hg : -4095 ≤ g ∧ g ≤ 4095) (hu : -4095 ≤ u ∧ u ≤ 4095) :
    IntOp.shrsi .host (IntOp.addi (IntOp.muli (rSilu (B g)) (B u)) (IntOp.shrsi .host (IntOp.shli .host 1#32 6#32) 1#32)) 6#32 = B (hid g u) := by
  have h := silu_mul_range g u hg hu
  have e : IntOp.shrsi .host (IntOp.shli .host 1#32 6#32) 1#32 = B 32 := by decide
  rw [r_silu g hg, B_muli, e, B_addi, show (6#32) = B 6 from rfl, B_shrsi _ (fits_small (by omega)) (by omega) (by omega)]
  congr 1

end Cert.Num

end
-- ==== Proof.Arith.Dot.lean ====
/- The packed weights and the product with them, and the whole computation of a row as whole numbers. -/
module

public import proofs.«01_k».proof.Proof.Arith.Quant
public import Idealize.ShloMosaic.Lib.Pointwise.Sums

@[expose] public section

set_option maxRecDepth 16384

noncomputable section

namespace Cert.Num

open Idealize.ShloMosaic

/-! ## A byte's two signed nibbles -/

/-- The low nibble, signed. -/
def nlo (b : BitVec 8) : ℤ := (((b.toNat % 16 + 8) % 16 : ℕ) : ℤ) - 8
/-- The high nibble, signed. -/
def nhi (b : BitVec 8) : ℤ := (((b.toNat / 16 + 8) % 16 : ℕ) : ℤ) - 8

theorem nlo_range (b : BitVec 8) : -8 ≤ nlo b ∧ nlo b ≤ 7 := by unfold nlo; omega
theorem nhi_range (b : BitVec 8) : -8 ≤ nhi b ∧ nhi b ≤ 7 := by unfold nhi; omega

/-- The word the kernel makes of a byte: the sign-extended low nibble in its low half, the high one in its high half. -/
def kWord (b : BitVec 8) : BitVec 32 :=
  IntOp.ori (IntOp.andi (IntOp.shrsi .vector (IntOp.shli .vector (b.setWidth 32) 28#32) 28#32) 65535#32)
    (IntOp.shli .vector (IntOp.shrsi .vector (IntOp.shli .vector (b.setWidth 32) 24#32) 28#32) 16#32)

theorem all_bytes (P : BitVec 8 → Prop) (h : ∀ i : Fin 16, ∀ j : Fin 16, P (BitVec.ofNat 8 (16 * i.val + j.val))) (b : BitVec 8) : P b := by
  have hb := b.isLt
  have := h ⟨b.toNat / 16, by omega⟩ ⟨b.toNat % 16, by omega⟩
  have e : 16 * (b.toNat / 16) + b.toNat % 16 = b.toNat := by omega
  simpa only [e, BitVec.ofNat_toNat, BitVec.setWidth_eq] using this

theorem k_lo (b : BitVec 8) : ((kWord b).extractLsb' 0 16).toInt = nlo b := by
  apply all_bytes (fun b => ((kWord b).extractLsb' 0 16).toInt = nlo b)
  decide +kernel

theorem k_hi (b : BitVec 8) : ((kWord b).extractLsb' 16 16).toInt = nhi b := by
  apply all_bytes (fun b => ((kWord b).extractLsb' 16 16).toInt = nhi b)
  decide +kernel

/-- The reference's sign extension of four bits, cut to a byte and widened. -/
def rNib (x : BitVec 32) : BitVec 32 :=
  ((IntOp.subi x (IntOp.muli 16#32 ((IntOp.cmpi .sge x 8#32).setWidth 32))).setWidth 8).signExtend 32

theorem r_lo (b : BitVec 8) : rNib (IntOp.andi (b.setWidth 32) 15#32) = B (nlo b) := by
  apply all_bytes (fun b => rNib (IntOp.andi (b.setWidth 32) 15#32) = B (nlo b))
  decide +kernel

theorem r_hi (b : BitVec 8) : rNib (IntOp.shrsi .host (b.setWidth 32) 4#32) = B (nhi b) := by
  apply all_bytes (fun b => rNib (IntOp.shrsi .host (b.setWidth 32) 4#32) = B (nhi b))
  decide +kernel

/-! ## The product of a row's codes with a column of weights -/

/-- The weight of input `j`: the low nibble of its byte at an even input, the high nibble at an odd one. -/
def wgt (w : Fin 2048 → BitVec 8) (j : Fin 4096) : ℤ :=
  if j.val % 2 = 0 then nlo (w ⟨j.val / 2, by omega⟩) else nhi (w ⟨j.val / 2, by omega⟩)

/-- The even and the odd inputs of a pair. -/
def even (k : Fin 2048) : Fin 4096 := ⟨2 * k.val, by omega⟩
def odd (k : Fin 2048) : Fin 4096 := ⟨2 * k.val + 1, by omega⟩

/-- The accumulator. -/
def acc (c : Fin 4096 → ℤ) (w : Fin 2048 → BitVec 8) : ℤ :=
  ∑ k, c (even k) * nlo (w k) + ∑ k, c (odd k) * nhi (w k)

theorem wgt_even (w : Fin 2048 → BitVec 8) (k : Fin 2048) : wgt w (even k) = nlo (w k) := by
  have e : (even k).val = 2 * k.val := rfl
  unfold wgt
  rw [if_pos (by omega)]
  exact congrArg (fun i => nlo (w i)) (Fin.ext (by show (even k).val / 2 = k.val; omega))

theorem wgt_odd (w : Fin 2048 → BitVec 8) (k : Fin 2048) : wgt w (odd k) = nhi (w k) := by
  have e : (odd k).val = 2 * k.val + 1 := rfl
  unfold wgt
  rw [if_neg (by omega)]
  exact congrArg (fun i => nhi (w i)) (Fin.ext (by show (odd k).val / 2 = k.val; omega))

theorem acc_eq (c : Fin 4096 → ℤ) (w : Fin 2048 → BitVec 8) : ∑ j, c j * wgt w j = acc c w := by
  rw [Fin.sum_univ_tiles 2048 2 rfl]
  unfold acc
  rw [← Finset.sum_add_distrib]
  refine Finset.sum_congr rfl fun k _ => ?_
  rw [Fin.sum_univ_two]
  have h0 : ∀ h, (⟨k.val * 2 + (0 : Fin 2).val, h⟩ : Fin 4096) = even k := fun h => Fin.ext (by show k.val * 2 + 0 = 2 * k.val; omega)
  have h1 : ∀ h, (⟨k.val * 2 + (1 : Fin 2).val, h⟩ : Fin 4096) = odd k := fun h => Fin.ext (by show k.val * 2 + 1 = 2 * k.val + 1; omega)
  rw [h0, h1, wgt_even, wgt_odd]

theorem k_acc (c : Fin 4096 → ℤ) (w : Fin 2048 → BitVec 8) : ∑ j, Z (c j) * Z (wgt w j) = Z (acc c w) := by
  rw [← acc_eq, ← Z_sum]
  exact Finset.sum_congr rfl fun j _ => Z_mul _ _

theorem fold_addi {ι : Type} (s : Finset ι) (f : ι → ℤ) : s.fold IntOp.addi 0#32 (fun k => B (f k)) = B (∑ k ∈ s, f k) := by
  classical
  induction s using Finset.induction_on with
  | empty => rfl
  | insert a s h ih => rw [Finset.fold_insert h, ih, B_addi, Finset.sum_insert h]

theorem r_acc (c : Fin 4096 → ℤ) (w : Fin 2048 → BitVec 8) :
    IntOp.addi (Finset.univ.fold IntOp.addi 0#32 (fun k => IntOp.muli (B (c (even k))) (B (nlo (w k)))))
      (Finset.univ.fold IntOp.addi 0#32 (fun k => IntOp.muli (B (c (odd k))) (B (nhi (w k))))) = B (acc c w) := by
  simp only [B_muli]
  rw [fold_addi, fold_addi, B_addi]
  rfl

theorem sum_bound (f : Fin 2048 → ℤ) (h : ∀ k, -1016 ≤ f k ∧ f k ≤ 1016) : -2080768 ≤ ∑ k, f k ∧ ∑ k, f k ≤ 2080768 := by
  constructor
  · have := Finset.card_nsmul_le_sum Finset.univ f (-1016) (fun k _ => (h k).1)
    simpa using this
  · have := Finset.sum_le_card_nsmul Finset.univ f 1016 (fun k _ => (h k).2)
    simpa using this

theorem prod_bound {c n : ℤ} (hc : -127 ≤ c ∧ c ≤ 127) (hn : -8 ≤ n ∧ n ≤ 7) : -1016 ≤ c * n ∧ c * n ≤ 1016 := by
  constructor <;> nlinarith

theorem acc_range (c : Fin 4096 → ℤ) (w : Fin 2048 → BitVec 8) (h : ∀ j, -127 ≤ c j ∧ c j ≤ 127) :
    -4161536 ≤ acc c w ∧ acc c w ≤ 4161536 := by
  have h1 := sum_bound (fun k => c (even k) * nlo (w k)) (fun k => prod_bound (h _) (nlo_range _))
  have h2 := sum_bound (fun k => c (odd k) * nhi (w k)) (fun k => prod_bound (h _) (nhi_range _))
  unfold acc
  omega

/-! ## A row's whole computation -/

/-- The codes of a row. -/
def rowCode {ι : Type} [Fintype ι] (f : ι → ℤ) (j : ι) : ℤ := code (rowMax f) (f j)

/-- One projection of a row, rescaled and clamped. -/
def proj (f : Fin 4096 → ℤ) (w : Fin 2048 → BitVec 8) (e : BitVec 32) : ℤ :=
  resc (acc (rowCode f) w * mant (rowMax f)) (IntOp.subi (IntOp.addi (expo (rowMax f)) e) 8#32)

/-- One hidden value of a row. -/
def hval (f : Fin 4096 → ℤ) (wg : Fin 2048 → BitVec 8) (eg : BitVec 32) (wu : Fin 2048 → BitVec 8) (eu : BitVec 32) : ℤ :=
  hid (proj f wg eg) (proj f wu eu)

theorem proj_range (f : Fin 4096 → ℤ) (w : Fin 2048 → BitVec 8) (e : BitVec 32) : -4095 ≤ proj f w e ∧ proj f w e ≤ 4095 :=
  clip4_range _

theorem hval_range (f : Fin 4096 → ℤ) (wg : Fin 2048 → BitVec 8) (eg : BitVec 32) (wu : Fin 2048 → BitVec 8) (eu : BitVec 32) :
    -8388607 ≤ hval f wg eg wu eu ∧ hval f wg eg wu eu ≤ 8388607 :=
  hid_range _ _ (proj_range f wg eg) (proj_range f wu eu)

theorem scaled_range (f : Fin 4096 → ℤ) (hf : ∀ c, -8388607 ≤ f c ∧ f c ≤ 8388607) (w : Fin 2048 → BitVec 8) :
    -1073741824 ≤ acc (rowCode f) w * mant (rowMax f) ∧ acc (rowCode f) w * mant (rowMax f) < 1073741824 := by
  have h := acc_range (rowCode f) w (fun j => code_range _ _)
  have hm := mant_range (one_le_rowMax f) (rowMax_lt f hf)
  constructor <;> nlinarith

theorem acc_word (f : Fin 4096 → ℤ) (w : Fin 2048 → BitVec 8) :
    FloatOps.fptosi (F := Ideal) (φ := .f32) 32 (Z (acc (rowCode f) w)) = B (acc (rowCode f) w) := by
  have h := acc_range (rowCode f) w (fun j => code_range _ _)
  exact fptosi_Z _ (by omega) (by omega)

/-- The kernel's shift of the scaled accumulator, clamped, is the projection. -/
theorem k_proj (f : Fin 4096 → ℤ) (hf : ∀ c, -8388607 ≤ f c ∧ f c ≤ 8388607) (w : Fin 2048 → BitVec 8) (e : BitVec 32) :
    clip4 (kShift (IntOp.muli (B (acc (rowCode f) w)) (B (mant (rowMax f)))) (IntOp.addi (expo (rowMax f)) (IntOp.subi e 8#32))).toInt
      = proj f w e := by
  rw [B_muli, shift_sum, kShift_eq _ (scaled_range f hf w)]
  rfl

/-- The reference's shift of the scaled accumulator, clamped, is the projection. -/
theorem r_proj (f : Fin 4096 → ℤ) (w : Fin 2048 → BitVec 8) (e : BitVec 32) :
    IntOp.minsi 4095#32 (IntOp.maxsi 4294963201#32
      (refShift (IntOp.muli (B (acc (rowCode f) w)) (B (mant (rowMax f)))) (IntOp.subi (IntOp.addi (expo (rowMax f)) e) 8#32)))
      = B (proj f w e) := by
  rw [B_muli, r_clip]
  rfl

end Cert.Num

end
-- ==== Proof.Value.RowPay.lean ====
/- The first region's payloads: what the body computes of a block of rows, at each index, as whole numbers. -/
module

public import proofs.«01_k».proof.Proof.Gen.KernelIdeal.Skeleton
public import proofs.«01_k».proof.Proof.Arith.Dot
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen Cert.Num

/-- A row of words as whole numbers. -/
abbrev row (x : Vec Ideal S256x4096 .i32) (r : Fin 256) : Fin 4096 → ℤ := fun c => (x (ix2 r c)).toInt

/-- Every entry of a row is at most 2^23 - 1 in magnitude. -/
abbrev Small {ι : Type} (f : ι → ℤ) : Prop := ∀ c, -8388607 ≤ f c ∧ f c ≤ 8388607

variable (x : Vec Ideal S256x4096 .i32) (r : Fin 256)

theorem red_at (v : FVec Ideal S256x4096 .f32) :
    multiReduction .maximumf [1] S256 v 0xFF800000#32 reduces_S256x4096_S256 (.inl rfl) rfl (ix1 r)
      = Finset.fold max (Ideal.ofBits FTy.f32 4286578688#32) (fun c => v (ix2 r c)) Finset.univ := by
  pointwise

theorem cast_at (v : FVec Ideal S256 .f32) : shapeCast S256x1 v shapeCasts_S256_S256x1 (ix2 r 0) = v (ix1 r) := by
  pointwise

theorem max_at (v : FVec Ideal S256x1 .f32) :
    maximumf v (broadcast S256x1 (Scalar.ofBits (F := Ideal) .f32 0x3F800000#32)) (ix2 r 0) = max (v (ix2 r 0)) 1 := by
  pointwise

theorem pay3_at : k0_pay3 (F := Ideal) x (ix2 r 0) = Z (rowMax (row x r) : ℤ) := by
  have e : ∀ c : Fin 4096, absf (k0_pay2 (F := Ideal) x) (ix2 r c) = Z |row x r c| := by
    intro c
    pointwise [k0_pay2]
    rw [sitofp_Z, Z_abs]
  refine (max_at r _).trans ?_
  rw [cast_at, red_at]
  simp only [e]
  exact k_rowMax _

theorem pay4_at (h : Small (row x r)) : k0_pay4 (F := Ideal) x (ix2 r 0) = BitVec.ofNat 32 (len (rowMax (row x r))) := by
  have e : k0_pay4 (F := Ideal) x (ix2 r 0) = IntOp.subi 32#32 (IntOp.ctlz (FloatOps.fptosi 32 (k0_pay3 (F := Ideal) x (ix2 r 0)))) := by
    unfold k0_pay4
    generalize k0_pay3 (F := Ideal) x = p
    pointwise
  rw [e, pay3_at]
  exact len_word (one_le_rowMax _) (rowMax_lt _ h)

theorem pay5_at (h : Small (row x r)) : k0_pay5 (F := Ideal) x (ix2 r 0) = BitVec.ofNat 32 (sh (rowMax (row x r))) := by
  have e : k0_pay5 (F := Ideal) x (ix2 r 0) = IntOp.subi 23#32 (k0_pay4 (F := Ideal) x (ix2 r 0)) := by
    unfold k0_pay5
    generalize k0_pay4 (F := Ideal) x = p
    pointwise
  rw [e, pay4_at x r h]
  exact k_sh (one_le_rowMax _) (rowMax_lt _ h)

/-- The mantissa, from a column of row maxima and a column of shifts. -/
def mantOf (p : FVec Ideal S256x1 .f32) (q : IVec S256x1 32) : FVec Ideal S256x1 .f32 :=
  have v14 : IVec S256x1 32 := broadcast S256x1 127#32
  have v15 : IVec S256x1 32 := addi q v14
  have v16 : IVec S256x1 32 := broadcast S256x1 23#32
  have v17 : IVec S256x1 32 := shli v15 v16
  have v18 : FVec Ideal S256x1 .f32 := bitcastToFloat .f32 v17
  have v19 : FVec Ideal S256x1 .f32 := mulf p v18
  have cst_3 : Ideal .f32 := Scalar.ofBits (F := Ideal) .f32 0x467E0000#32
  have v20 : FVec Ideal S256x1 .f32 := broadcast S256x1 cst_3
  have v21 : FVec Ideal S256x1 .f32 := addf v19 v20
  have cst_4 : Ideal .f32 := Scalar.ofBits (F := Ideal) .f32 0x38010204#32
  have v22 : FVec Ideal S256x1 .f32 := broadcast S256x1 cst_4
  have v23 : FVec Ideal S256x1 .f32 := mulf v21 v22
  have v24 : FVec Ideal S256x1 .f32 := floor v23
  have cst_5 : Ideal .f32 := Scalar.ofBits (F := Ideal) .f32 0x46FE0000#32
  have v25 : FVec Ideal S256x1 .f32 := broadcast S256x1 cst_5
  have v26 : FVec Ideal S256x1 .f32 := mulf v24 v25
  have v27 : FVec Ideal S256x1 .f32 := subf v21 v26
  have cst_6 : Ideal .f32 := Scalar.ofBits (F := Ideal) .f32 0x46FE0000#32
  have v28 : FVec Ideal S256x1 .f32 := broadcast S256x1 cst_6
  have v29 : IVec S256x1 1 := cmpf .oge v27 v28
  have cst_7 : Ideal .f32 := Scalar.ofBits (F := Ideal) .f32 0x3F800000#32
  have cst_8 : Ideal .f32 := Scalar.ofBits (F := Ideal) .f32 0x00000000#32
  have v30 : FVec Ideal S256x1 .f32 := broadcast S256x1 cst_7
  have v31 : FVec Ideal S256x1 .f32 := broadcast S256x1 cst_8
  have v32 : FVec Ideal S256x1 .f32 := select v29 v30 v31
  have v33 : FVec Ideal S256x1 .f32 := addf v24 v32
  have cst_9 : Ideal .f32 := Scalar.ofBits (F := Ideal) .f32 0x00000000#32
  have v34 : FVec Ideal S256x1 .f32 := broadcast S256x1 cst_9
  have v35 : IVec S256x1 1 := cmpf .olt v27 v34
  have cst_10 : Ideal .f32 := Scalar.ofBits (F := Ideal) .f32 0x3F800000#32
  have cst_11 : Ideal .f32 := Scalar.ofBits (F := Ideal) .f32 0x00000000#32
  have v36 : FVec Ideal S256x1 .f32 := broadcast S256x1 cst_10
  have v37 : FVec Ideal S256x1 .f32 := broadcast S256x1 cst_11
  have v38 : FVec Ideal S256x1 .f32 := select v35 v36 v37
  have v39 : FVec Ideal S256x1 .f32 := subf v33 v38
  v39

theorem mantOf_at (p : FVec Ideal S256x1 .f32) (q : IVec S256x1 32) :
    mantOf p q (ix2 r 0) = kMant (p (ix2 r 0) * Ideal.ofBits .f32 (IntOp.shli .vector (IntOp.addi (q (ix2 r 0)) 127#32) 23#32)
      + Ideal.ofBits .f32 0x467E0000#32) := by
  pointwise [mantOf]
  rfl

theorem pay6_at (h : Small (row x r)) : k0_pay6 (F := Ideal) x (ix2 r 0) = Z (mant (rowMax (row x r)) : ℤ) := by
  refine (show k0_pay6 (F := Ideal) x (ix2 r 0) = mantOf (k0_pay3 x) (k0_pay5 x) (ix2 r 0) from rfl).trans ?_
  rw [mantOf_at, pay3_at, pay5_at x r h]
  exact k_mant (one_le_rowMax _) (rowMax_lt _ h)

theorem pay9_eq (v2 : FVec Ideal S256x4096 .f32) (v13 : IVec S256x1 32) (v39 : FVec Ideal S256x1 .f32) (d : Fin 4096) :
    k0_pay9 (F := Ideal) v2 v13 v39 (ix2 r d) = kCode (v2 (ix2 r d)) (kStep (v39 (ix2 r 0)) (v13 (ix2 r 0))) := by
  pointwise [k0_pay9]
  rfl

theorem pay2_at (d : Fin 4096) : k0_pay2 (F := Ideal) x (ix2 r d) = Z (row x r d) := by
  pointwise [k0_pay2]
  rfl

theorem pay9_at (h : Small (row x r)) (d : Fin 4096) :
    k0_pay9 (F := Ideal) (k0_pay2 x) (k0_pay5 x) (k0_pay6 x) (ix2 r d) = Z (rowCode (row x r) d) := by
  rw [pay9_eq, pay2_at, pay5_at x r h, pay6_at x r h]
  exact k_code (one_le_rowMax _) (rowMax_lt _ h) (natAbs_le_rowMax (row x r) d)

theorem pay10_at (h : Small (row x r)) (d : Fin 4096) :
    k0_pay10 (F := Ideal) (k0_pay2 x) (k0_pay5 x) (k0_pay6 x) (ix2 r d) = (B (rowCode (row x r) d)).setWidth 8 := by
  refine (show k0_pay10 (F := Ideal) (k0_pay2 x) (k0_pay5 x) (k0_pay6 x) (ix2 r d)
      = (FloatOps.fptosi 32 (k0_pay9 (F := Ideal) (k0_pay2 x) (k0_pay5 x) (k0_pay6 x) (ix2 r d))).setWidth 8 from rfl).trans ?_
  rw [pay9_at x r h d]
  exact congrArg _ (code_word _ _)

theorem pay11_at (h : Small (row x r)) (d : Fin 4096) :
    k0_pay11 (F := Ideal) (k0_pay2 x) (k0_pay5 x) (k0_pay6 x) (ix2 r d) = Z (rowCode (row x r) d) := by
  exact pay9_at x r h d

theorem pay12_eq (v : FVec Ideal S256x1 .f32) (d : Fin 128) :
    k0_pay12 (F := Ideal) v (ix2 r d) = FloatOps.fptosi 32 (v (ix2 r 0)) := by
  pointwise [k0_pay12]

theorem pay1_eq (n : IVec S256x1 32) (d : Fin 128) :
    k0_pay1 (k0_pay8 n k0_pay7) (ix2 r d) = IntOp.addi (IntOp.subi 15#32 (n (ix2 r 0))) 10#32 := by
  pointwise [k0_pay1, k0_pay8, k0_pay7]

theorem pay12_at (h : Small (row x r)) (d : Fin 128) :
    k0_pay12 (F := Ideal) (k0_pay6 x) (ix2 r d) = B (mant (rowMax (row x r))) := by
  rw [pay12_eq, pay6_at x r h]
  exact mant_word (one_le_rowMax _) (rowMax_lt _ h)

theorem pay1_at (h : Small (row x r)) (d : Fin 128) :
    k0_pay1 (k0_pay8 (k0_pay4 x) k0_pay7) (ix2 r d) = expo (rowMax (row x r)) := by
  rw [pay1_eq, pay4_at x r h]
  rfl

end Cert.KernelIdeal.Value

end
-- ==== Proof.Value.ProjPay.lean ====
/- The second region's payloads: the weights, the two projections and the hidden value of a block, at each index, as whole numbers. -/
module

public import proofs.«01_k».proof.Proof.Gen.KernelIdeal.Skeleton
public import proofs.«01_k».proof.Proof.Value.RowPay
public import Idealize.ShloMosaic.Lib.BitcastPair
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen Cert.Num

/-! ## The weights -/

theorem wpay_eq (v : Vec Ideal S2048x256 .i8) (k : Fin 4096) (d : Fin 256) :
    k1_pay12 (F := Ideal) v (ix2 k d)
      = FloatOps.sitofp (F := Ideal) FTy.bf16 (((kWord (v (ix2 ⟨k.val / 2, by omega⟩ d))).extractLsb' (16 * (k.val % 2)) 16)) := by
  have e : k1_pay12 (F := Ideal) v = sitofp .bf16 (bitcast S4096x256 16 (fun i => kWord (v i)) bitcasts_S2048x256_w32_S4096x256_w16) := rfl
  rw [e]
  generalize hg : (fun i => kWord (v i) : S2048x256.Idx → BitVec 32) = g
  have hb := bitcast_32_16 g bitcasts_S2048x256_w32_S4096x256_w16 (ix2 k d)
  have hr : S4096x256.row (ix2 k d) = k.val := rfl
  refine (congrArg (FloatOps.sitofp (F := Ideal) FTy.bf16) hb).trans ?_
  refine congrArg (fun w : BitVec 32 => FloatOps.sitofp (F := Ideal) FTy.bf16 (w.extractLsb' (16 * (k.val % 2)) 16)) ?_
  rw [← hg]
  refine congrArg (fun i => kWord (v i)) ?_
  funext a
  match a with
  | ⟨0, _⟩ => exact Fin.ext (Shape.Bitcasts.srcIdx_row _ _ _ _ ⟨0, Nat.zero_lt_two⟩ rfl)
  | ⟨1, _⟩ => exact Fin.ext (Shape.Bitcasts.srcIdx_other _ _ _ _ ⟨1, Nat.one_lt_two⟩ (by show ¬ 1 + 2 = 2; omega))

theorem wpay_at (v : Vec Ideal S2048x256 .i8) (k : Fin 4096) (d : Fin 256) :
    k1_pay12 (F := Ideal) v (ix2 k d) = Z (wgt (fun j => v (ix2 j d)) k) := by
  rw [wpay_eq, sitofp_Z]
  congr 1
  unfold wgt
  rcases Nat.mod_two_eq_zero_or_one k.val with h | h
  · rw [if_pos h, h]; exact k_lo _
  · rw [if_neg (by omega), h]; exact k_hi _

theorem wpay13_at (v : Vec Ideal S2048x256 .i8) (k : Fin 4096) (d : Fin 256) :
    k1_pay13 (F := Ideal) v (ix2 k d) = Z (wgt (fun j => v (ix2 j d)) k) :=
  wpay_at v k d

/-! ## One projection -/

section

variable (r : Fin 256) (d : Fin 256)

theorem pay7_eq (v16 : FVec Ideal S4096x256 .bf16) (v41 : Vec Ideal S256x4096 .bf16) (v44 v47 : Vec Ideal S256x1 .i32) (v53 : Vec Ideal S1x256 .i32) :
    k1_pay7 (F := Ideal) v16 v41 v44 v47 v53 (ix2 r d)
      = FloatOps.sitofp (F := Ideal) FTy.f32 (kShift (IntOp.muli (FloatOps.fptosi (F := Ideal) (φ := .f32) 32 (∑ x, v41 (ix2 r x) * v16 (ix2 x d))) (v44 (ix2 r 0)))
          (IntOp.addi (v47 (ix2 r 0)) (IntOp.subi (v53 (ix2 0 d)) 8#32))) := by
  pointwise [k1_pay7, k1_pay3, k1_pay4, k1_pay5]
  rfl

theorem pay6_eq (v33 : FVec Ideal S4096x256 .bf16) (v41 : Vec Ideal S256x4096 .bf16) :
    k1_pay6 (F := Ideal) v33 v41 (ix2 r d) = FloatOps.fptosi (F := Ideal) (φ := .f32) 32 (∑ x, v41 (ix2 r x) * v33 (ix2 x d)) := by
  pointwise [k1_pay6, k1_pay3]

theorem pay8_eq (v80 : FVec Ideal S256x256 .f32) :
    k1_pay8 (F := Ideal) v80 (ix2 r d) = min (Ideal.ofBits .f32 0x457FF000#32) (max (Ideal.ofBits .f32 0xC57FF000#32) (v80 (ix2 r d))) := by
  pointwise [k1_pay8]

theorem pay9'_eq (v45 v48 : IVec S256x1 32) (v52 : IVec S256x256 32) (v85 : Vec Ideal S1x256 .i32) :
    k1_pay9 (F := Ideal) v45 v48 v52 v85 (ix2 r d)
      = min (Ideal.ofBits .f32 0x457FF000#32) (max (Ideal.ofBits .f32 0xC57FF000#32)
          (FloatOps.sitofp (F := Ideal) FTy.f32 (kShift (IntOp.muli (v52 (ix2 r d)) (v45 (ix2 r 0)))
            (IntOp.addi (v48 (ix2 r 0)) (IntOp.subi (v85 (ix2 0 d)) 8#32))))) := by
  pointwise [k1_pay9]
  rfl

theorem pay11'_eq (v80 : FVec Ideal S256x256 .f32) :
    k1_pay11 (F := Ideal) v80 (ix2 r d)
      = (let a := FloatOps.fptosi (F := Ideal) (φ := .f32) 32 (k1_pay10 (F := Ideal) v80 (ix2 r d))
         IntOp.subi (IntOp.addi a (IntOp.shrsi .vector a 1#32)) (IntOp.shrsi .vector a 4#32)) := by
  unfold k1_pay11
  generalize k1_pay10 (F := Ideal) v80 = p
  pointwise

theorem pay10'_eq (v80 : FVec Ideal S256x256 .f32) :
    k1_pay10 (F := Ideal) v80 (ix2 r d) = FloatOps.absf (F := Ideal) (φ := .f32) (k1_pay8 (F := Ideal) v80 (ix2 r d)) := by
  unfold k1_pay10
  generalize k1_pay8 (F := Ideal) v80 = p
  pointwise

/-- The hidden value, from the four values it is computed of. -/
def kHid (g u a : EReal) (l : BitVec 32) : EReal :=
  Ideal.liftRound Int.floor ((max g 0 - Ideal.liftRound Ideal.roundHalfEven (Ideal.div
        (a * Ideal.liftRound Int.floor (Ideal.ofBits .f32 (IntOp.subi 1166016512#32 (IntOp.shli .vector l 15#32))))
        (Ideal.liftRound Int.floor (Ideal.ofBits .f32 (IntOp.subi 1166016512#32 (IntOp.shli .vector l 15#32)))
          + Ideal.ofBits .f32 1166016520#32))) * u * Ideal.ofBits .f32 1015021568#32 + Ideal.ofBits .f32 1056964608#32)

/-- The word of the power of two. -/
def powWord (v124 : IVec S256x256 32) : IVec S256x256 32 :=
  have v125 : IVec S256x256 32 := broadcast S256x256 15#32
  have v126 : IVec S256x256 32 := shli v124 v125
  have v127 : IVec S256x256 32 := broadcast S256x256 1166016512#32
  have v128 : IVec S256x256 32 := subi v127 v126
  v128

/-- The hidden value from the power of two. -/
def hidOf (v84 v116 v117 v130 : FVec Ideal S256x256 .f32) : FVec Ideal S256x256 .f32 :=
  have cst_39 : Ideal .f32 := Scalar.ofBits (F := Ideal) .f32 0x45800008#32
  have v131 : FVec Ideal S256x256 .f32 := broadcast S256x256 cst_39
  have v132 : FVec Ideal S256x256 .f32 := addf v130 v131
  have cst_40 : Ideal .f32 := Scalar.ofBits (F := Ideal) .f32 0x00000000#32
  have v133 : FVec Ideal S256x256 .f32 := broadcast S256x256 cst_40
  have v134 : FVec Ideal S256x256 .f32 := maximumf v84 v133
  have v135 : FVec Ideal S256x256 .f32 := mulf v117 v130
  have v136 : FVec Ideal S256x256 .f32 := divf v135 v132
  have v137 : FVec Ideal S256x256 .f32 := roundeven v136
  have v138 : FVec Ideal S256x256 .f32 := subf v134 v137
  have v139 : FVec Ideal S256x256 .f32 := mulf v138 v116
  have cst_41 : Ideal .f32 := Scalar.ofBits (F := Ideal) .f32 0x3C800000#32
  have v140 : FVec Ideal S256x256 .f32 := broadcast S256x256 cst_41
  have v141 : FVec Ideal S256x256 .f32 := mulf v139 v140
  have cst_42 : Ideal .f32 := Scalar.ofBits (F := Ideal) .f32 0x3F000000#32
  have v142 : FVec Ideal S256x256 .f32 := broadcast S256x256 cst_42
  have v143 : FVec Ideal S256x256 .f32 := addf v141 v142
  have v144 : FVec Ideal S256x256 .f32 := floor v143
  v144

theorem powWord_at (v : IVec S256x256 32) :
    powWord v (ix2 r d) = IntOp.subi 1166016512#32 (IntOp.shli .vector (v (ix2 r d)) 15#32) := by
  pointwise [powWord]

theorem pow_at (w : IVec S256x256 32) :
    floor (bitcastToFloat (F := Ideal) .f32 w) (ix2 r d) = Ideal.liftRound Int.floor (Ideal.ofBits .f32 (w (ix2 r d))) := by
  pointwise

theorem hidOf_at (v84 v116 v117 v130 : FVec Ideal S256x256 .f32) :
    hidOf v84 v116 v117 v130 (ix2 r d)
      = Ideal.liftRound Int.floor ((max (v84 (ix2 r d)) 0 - Ideal.liftRound Ideal.roundHalfEven (Ideal.div
        (v117 (ix2 r d) * v130 (ix2 r d)) (v130 (ix2 r d) + Ideal.ofBits .f32 1166016520#32))) * v116 (ix2 r d) * Ideal.ofBits .f32 1015021568#32
          + Ideal.ofBits .f32 1056964608#32) := by
  pointwise [hidOf]

theorem pay1'_eq (v84 v116 v117 : FVec Ideal S256x256 .f32) (v124 : IVec S256x256 32) :
    k1_pay1 (F := Ideal) v84 v116 v117 v124 (ix2 r d) = kHid (v84 (ix2 r d)) (v116 (ix2 r d)) (v117 (ix2 r d)) (v124 (ix2 r d)) := by
  refine (show k1_pay1 (F := Ideal) v84 v116 v117 v124 (ix2 r d)
    = hidOf v84 v116 v117 (floor (bitcastToFloat (F := Ideal) .f32 (powWord v124))) (ix2 r d) from rfl).trans ?_
  rw [hidOf_at, pow_at, powWord_at]
  unfold kHid
  with_reducible rfl

theorem hid_eq (v84 v116 v117 : FVec Ideal S256x256 .f32) (v124 : IVec S256x256 32) (g u : ℤ) (hg : -4095 ≤ g ∧ g ≤ 4095)
    (h84 : v84 (ix2 r d) = Z g) (h116 : v116 (ix2 r d) = Z u) (h117 : v117 (ix2 r d) = Z |g|)
    (h124 : v124 (ix2 r d) = BitVec.ofNat 32 (elog g.natAbs)) : k1_pay1 (F := Ideal) v84 v116 v117 v124 (ix2 r d) = Z (hid g u) := by
  rw [pay1'_eq, h84, h116, h117]
  unfold kHid
  exact k_hid g u hg _ h124

theorem pay4'_at (v : Vec Ideal S256x1 .i32) : k1_pay4 (F := Ideal) v (ix2 r 0) = v (ix2 r 0) := by
  pointwise [k1_pay4]

theorem pay5'_at (v : Vec Ideal S256x1 .i32) : k1_pay5 (F := Ideal) v (ix2 r 0) = v (ix2 r 0) := by
  pointwise [k1_pay5]

variable (f : Fin 4096 → ℤ) (hf : Small f) (v41 : Vec Ideal S256x4096 .bf16) (h41 : ∀ x, v41 (ix2 r x) = Z (rowCode f x))
  (wg wu : Vec Ideal S2048x256 .i8)

include h41 in
theorem acc_at (v16 : FVec Ideal S4096x256 .bf16) (w : Fin 2048 → BitVec 8) (hw : ∀ k, v16 (ix2 k d) = Z (wgt w k)) :
    FloatOps.fptosi (F := Ideal) (φ := .f32) 32 (∑ x, v41 (ix2 r x) * v16 (ix2 x d)) = B (acc (rowCode f) w) := by
  rw [← acc_word, ← k_acc]
  refine congrArg _ (Finset.sum_congr rfl fun x _ => ?_)
  rw [h41, hw]

variable (v44 v47 : Vec Ideal S256x1 .i32) (h44 : v44 (ix2 r 0) = B (mant (rowMax f))) (h47 : v47 (ix2 r 0) = expo (rowMax f))
  (v53 v85 : Vec Ideal S1x256 .i32)

include hf h41 h44 h47

theorem gate_at : k1_pay8 (F := Ideal) (k1_pay7 (k1_pay12 wg) v41 v44 v47 v53) (ix2 r d) = Z (proj f (fun j => wg (ix2 j d)) (v53 (ix2 0 d))) := by
  rw [pay8_eq, pay7_eq, acc_at r d f v41 h41 _ (fun j => wg (ix2 j d)) (fun k => wpay_at wg k d), h44, h47, k_clip, k_proj f hf]

theorem up_at : k1_pay9 (F := Ideal) (k1_pay4 v44) (k1_pay5 v47) (k1_pay6 (k1_pay13 wu) v41) v85 (ix2 r d)
    = Z (proj f (fun j => wu (ix2 j d)) (v85 (ix2 0 d))) := by
  rw [pay9'_eq, pay6_eq, acc_at r d f v41 h41 _ (fun j => wu (ix2 j d)) (fun k => wpay13_at wu k d), pay4'_at, pay5'_at, h44, h47, k_clip, k_proj f hf]

/-- The hidden value of a block, from the codes of its rows and its columns of weights. -/
theorem hidden_at :
    k1_pay1 (F := Ideal) (k1_pay8 (k1_pay7 (k1_pay12 wg) v41 v44 v47 v53))
        (k1_pay9 (k1_pay4 v44) (k1_pay5 v47) (k1_pay6 (k1_pay13 wu) v41) v85)
        (k1_pay10 (k1_pay7 (k1_pay12 wg) v41 v44 v47 v53)) (k1_pay11 (k1_pay7 (k1_pay12 wg) v41 v44 v47 v53)) (ix2 r d)
      = Z (hval f (fun j => wg (ix2 j d)) (v53 (ix2 0 d)) (fun j => wu (ix2 j d)) (v85 (ix2 0 d))) := by
  have hg := gate_at r d f hf v41 h41 wg v44 v47 h44 h47 v53
  have hu := up_at r d f hf v41 h41 wu v44 v47 h44 h47 v85
  have hr := proj_range f (fun j => wg (ix2 j d)) (v53 (ix2 0 d))
  have ha : k1_pay10 (F := Ideal) (k1_pay7 (k1_pay12 wg) v41 v44 v47 v53) (ix2 r d) = Z |proj f (fun j => wg (ix2 j d)) (v53 (ix2 0 d))| := by
    rw [pay10'_eq, hg, Z_abs]
  refine hid_eq r d _ _ _ _ _ _ hr hg hu ha ?_
  rw [pay11'_eq, ha]
  dsimp only
  rw [Int.abs_eq_natAbs, fptosi_Z _ (by omega) (by omega)]
  exact k_elog _ (by omega)

omit hf h41 h44 h47

/-- The two halves of a column of lanes. -/
def lo128 (l : Fin 128) : Fin 256 := ⟨l.val, by omega⟩
def hi128 (l : Fin 128) : Fin 256 := ⟨128 + l.val, by omega⟩

theorem absAt (v : FVec Ideal S256x256 .f32) : absf v (ix2 r d) = FloatOps.absf (F := Ideal) (φ := .f32) (v (ix2 r d)) := by
  pointwise

/-- The lanes' maxima, from the old ones and the absolute values of a block. -/
def laneOf (v147 : FVec Ideal S256x256 .f32) (v149 : Vec Ideal S256x128 .f32) : FVec Ideal S256x128 .f32 :=
  have v150 : FVec Ideal S256x128 .f32 := shapeCast S256x128 v149 shapeCasts_S256x128_S256x128
  have v151 : FVec Ideal S256x128 .f32 := extractStridedSlice S256x128 ![0, 0] v147 slices_S256x256_o0_0_S256x128
  have v152 : FVec Ideal S256x128 .f32 := extractStridedSlice S256x128 ![0, 128] v147 slices_S256x256_o0_128_S256x128
  have v153 : FVec Ideal S256x128 .f32 := maximumf v151 v152
  have v154 : FVec Ideal S256x128 .f32 := maximumf v150 v153
  v154

theorem laneOf_at (v147 : FVec Ideal S256x256 .f32) (v149 : Vec Ideal S256x128 .f32) (l : Fin 128) :
    laneOf v147 v149 (ix2 r l) = max (v149 (ix2 r l)) (max (v147 (ix2 r (lo128 l))) (v147 (ix2 r (hi128 l)))) := by
  pointwise [laneOf]
  rfl

theorem lane_at (v84 v116 v117 : FVec Ideal S256x256 .f32) (v124 : IVec S256x256 32) (v149 : Vec Ideal S256x128 .f32) (l : Fin 128)
    (a b : ℤ) (ha : k1_pay1 (F := Ideal) v84 v116 v117 v124 (ix2 r (lo128 l)) = Z a) (hb : k1_pay1 (F := Ideal) v84 v116 v117 v124 (ix2 r (hi128 l)) = Z b) :
    k1_pay2 (F := Ideal) v84 v116 v117 v124 v149 (ix2 r l) = max (v149 (ix2 r l)) (max (Z |a|) (Z |b|)) := by
  refine (show k1_pay2 (F := Ideal) v84 v116 v117 v124 v149 (ix2 r l) = laneOf (absf (k1_pay1 v84 v116 v117 v124)) v149 (ix2 r l) from rfl).trans ?_
  rw [laneOf_at, absAt, absAt, ha, hb, Z_abs, Z_abs]

end

end Cert.KernelIdeal.Value

end
-- ==== Proof.Value.ProjLoop.lean ====
/- The second region's loop: what its trips leave in the two output buffers. -/
module

public import proofs.«01_k».proof.Proof.Gen.KernelIdeal.Skeleton
public import proofs.«01_k».proof.Proof.Value.ProjPay
public import proofs.«01_k».proof.Proof.Ideal.Trip
public import Idealize.ShloMosaic.Lib.WritesUnit
public import Idealize.ShloMosaic.Lib.VecWindow
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen Cert.Num

/-! ## The offsets -/

theorem off1_eq : ∀ k : Fin k1_t1_loop.trips, k1_off1 k = ![256 * k.val, 0] := by decide +kernel
theorem off2_eq : ∀ k : Fin k1_t1_loop.trips, k1_off2 k = ![256 * k.val, 0] := by decide +kernel
theorem off3_eq : ∀ k : Fin k1_t1_loop.trips, k1_off3 k = ![256 * k.val, 0] := by decide +kernel
theorem off4_eq : ∀ k : Fin k1_t1_loop.trips, k1_off4 k = ![256 * k.val, 0] := by decide +kernel
theorem trips_eq : k1_t1_loop.trips = 6 := by decide +kernel

section

variable (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole)
  (v16 v33 : FVec Ideal S4096x256 .bf16) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X7 : BufTy.Contents (Elt Ideal) arg7.view.ty)

/-! ## One trip -/

/-- The loads of trip `k`. -/
def ld1 (k : Fin k1_t1_loop.trips) : Vec Ideal S256x4096 .bf16 :=
  View.readAt (Elt Ideal) arg1.view (Rect.unit (s := S1536x4096) (k1_off1 k) S256x4096.size (k1_off1_inb k)).toLoadRect X1
def ld2 (k : Fin k1_t1_loop.trips) : Vec Ideal S256x1 .i32 :=
  View.readAt (Elt Ideal) arg2.view (Rect.unit (s := S1536x128) (k1_off2 k) S256x1.size (k1_off2_inb k)).toLoadRect X2
def ld3 (k : Fin k1_t1_loop.trips) : Vec Ideal S256x1 .i32 :=
  View.readAt (Elt Ideal) arg3.view (Rect.unit (s := S1536x128) (k1_off2 k) S256x1.size (k1_off2_inb k)).toLoadRect X3
def ld5 : Vec Ideal S1x256 .i32 :=
  View.readAt (Elt Ideal) arg5.view (Rect.unit (s := S1x256) ![0, 0] S1x256.size inb_S1x256_S1x256_0_0).toLoadRect X5
def ld7 : Vec Ideal S1x256 .i32 :=
  View.readAt (Elt Ideal) arg7.view (Rect.unit (s := S1x256) ![0, 0] S1x256.size inb_S1x256_S1x256_0_0).toLoadRect X7
def ld9 (k : Fin k1_t1_loop.trips) (g : BufTy.Contents (Elt Ideal) arg9.view.ty) : Vec Ideal S256x128 .f32 :=
  View.readAt (Elt Ideal) arg9.view (Rect.unit (s := S1536x128) (k1_off4 k) S256x128.size (k1_off4_inb k)).toLoadRect g

/-- The gate, before the clamp. -/
def gate (k : Fin k1_t1_loop.trips) : FVec Ideal S256x256 .f32 :=
  k1_pay7 v16 (ld1 arg1 X1 k) (ld2 arg2 X2 k) (ld3 arg3 X3 k) (ld5 arg5 X5)
/-- The other projection. -/
def upv (k : Fin k1_t1_loop.trips) : FVec Ideal S256x256 .f32 :=
  k1_pay9 (k1_pay4 (ld2 arg2 X2 k)) (k1_pay5 (ld3 arg3 X3 k)) (k1_pay6 v33 (ld1 arg1 X1 k)) (ld7 arg7 X7)

/-- What a trip stores. -/
def hblk (k : Fin k1_t1_loop.trips) : FVec Ideal S256x256 .f32 :=
  k1_pay1 (k1_pay8 (gate arg1 arg2 arg3 arg5 v16 X1 X2 X3 X5 k)) (upv arg1 arg2 arg3 arg7 v33 X1 X2 X3 X7 k)
    (k1_pay10 (gate arg1 arg2 arg3 arg5 v16 X1 X2 X3 X5 k)) (k1_pay11 (gate arg1 arg2 arg3 arg5 v16 X1 X2 X3 X5 k))
def lblk (k : Fin k1_t1_loop.trips) (g : BufTy.Contents (Elt Ideal) arg9.view.ty) : FVec Ideal S256x128 .f32 :=
  k1_pay2 (k1_pay8 (gate arg1 arg2 arg3 arg5 v16 X1 X2 X3 X5 k)) (upv arg1 arg2 arg3 arg7 v33 X1 X2 X3 X7 k)
    (k1_pay10 (gate arg1 arg2 arg3 arg5 v16 X1 X2 X3 X5 k)) (k1_pay11 (gate arg1 arg2 arg3 arg5 v16 X1 X2 X3 X5 k)) (ld9 arg9 k g)

theorem trip_pieces (k : Fin k1_t1_loop.trips) (f : BufTy.Contents (Elt Ideal) arg8.view.ty) (g : BufTy.Contents (Elt Ideal) arg9.view.ty) :
    tripL_k1_t1 (F := Ideal) Variants.none c none i arg1 harg1 arg2 harg2 arg3 harg3 arg4 harg4 arg5 harg5 arg6 harg6 arg7 harg7 arg8 harg8 arg9 harg9 v16 v33 0#32 X1 X2 X3 X5 X7 k f g
      = ([⟨Rect.unit (s := S1536x256) (k1_off3 k) S256x256.size (k1_off3_inb k), hblk arg1 arg2 arg3 arg5 arg7 v16 v33 X1 X2 X3 X5 X7 k⟩],
         [⟨Rect.unit (s := S1536x128) (k1_off4 k) S256x128.size (k1_off4_inb k), lblk arg1 arg2 arg3 arg5 arg7 arg9 v16 v33 X1 X2 X3 X5 X7 k g⟩]) := by
  unfold tripL_k1_t1 trip_k1_t1
  rfl

/-! ## The loads, at each index -/

/-- Row `r` of trip `k`. -/
def rowAt (k : Fin k1_t1_loop.trips) (r : Fin 256) : Fin 1536 := ⟨256 * k.val + r.val, by have := k.isLt; have := trips_eq; omega⟩

theorem ld1_at (k : Fin k1_t1_loop.trips) (r : Fin 256) (x : Fin 4096) :
    ld1 arg1 X1 k (ix2 r x) = arg1.view.read (Elt Ideal) X1 (ix2 (rowAt k r) x) := by
  unfold ld1
  rw [View.readAt_unit arg1.view X1 _ (off1_eq k) (by rw [← off1_eq k]; exact k1_off1_inb k)]
  unfold VecWindow.window
  refine congrArg (View.read (Elt Ideal) arg1.view X1) (funext fun a => ?_)
  match a with
  | ⟨0, _⟩ => exact Fin.ext (by show 256 * k.val + 1 * r.val = 256 * k.val + r.val; omega)
  | ⟨1, _⟩ => exact Fin.ext (by show 0 + 1 * x.val = x.val; omega)

theorem ld2_at (k : Fin k1_t1_loop.trips) (r : Fin 256) :
    ld2 arg2 X2 k (ix2 r 0) = arg2.view.read (Elt Ideal) X2 (ix2 (rowAt k r) 0) := by
  unfold ld2
  rw [View.readAt_unit arg2.view X2 _ (off2_eq k) (by rw [← off2_eq k]; exact k1_off2_inb k)]
  unfold VecWindow.window
  refine congrArg (View.read (Elt Ideal) arg2.view X2) (funext fun a => ?_)
  match a with
  | ⟨0, _⟩ => exact Fin.ext (by show 256 * k.val + 1 * r.val = 256 * k.val + r.val; omega)
  | ⟨1, _⟩ => exact Fin.ext (by show 0 + 1 * 0 = 0; omega)

theorem ld3_at (k : Fin k1_t1_loop.trips) (r : Fin 256) :
    ld3 arg3 X3 k (ix2 r 0) = arg3.view.read (Elt Ideal) X3 (ix2 (rowAt k r) 0) := by
  unfold ld3
  rw [View.readAt_unit arg3.view X3 _ (off2_eq k) (by rw [← off2_eq k]; exact k1_off2_inb k)]
  unfold VecWindow.window
  refine congrArg (View.read (Elt Ideal) arg3.view X3) (funext fun a => ?_)
  match a with
  | ⟨0, _⟩ => exact Fin.ext (by show 256 * k.val + 1 * r.val = 256 * k.val + r.val; omega)
  | ⟨1, _⟩ => exact Fin.ext (by show 0 + 1 * 0 = 0; omega)

theorem ld9_at (k : Fin k1_t1_loop.trips) (g : BufTy.Contents (Elt Ideal) arg9.view.ty) (r : Fin 256) (l : Fin 128) :
    ld9 arg9 k g (ix2 r l) = arg9.view.read (Elt Ideal) g (ix2 (rowAt k r) l) := by
  unfold ld9
  rw [View.readAt_unit arg9.view g _ (off4_eq k) (by rw [← off4_eq k]; exact k1_off4_inb k)]
  unfold VecWindow.window
  refine congrArg (View.read (Elt Ideal) arg9.view g) (funext fun a => ?_)
  match a with
  | ⟨0, _⟩ => exact Fin.ext (by show 256 * k.val + 1 * r.val = 256 * k.val + r.val; omega)
  | ⟨1, _⟩ => exact Fin.ext (by show 0 + 1 * l.val = l.val; omega)

theorem ld5_eq : ld5 arg5 X5 = arg5.view.read (Elt Ideal) X5 := View.readAt_full _ _ _
theorem ld7_eq : ld7 arg7 X7 = arg7.view.read (Elt Ideal) X7 := View.readAt_full _ _ _

/-! ## The trips -/

variable (f : Fin 1536 → Fin 4096 → ℤ) (hf : ∀ R, Small (f R)) (wg wu : Vec Ideal S2048x256 .i8)
  (h1 : ∀ R x, arg1.view.read (Elt Ideal) X1 (ix2 R x) = Z (rowCode (f R) x))
  (h2 : ∀ R, arg2.view.read (Elt Ideal) X2 (ix2 R 0) = B (mant (rowMax (f R))))
  (h3 : ∀ R, arg3.view.read (Elt Ideal) X3 (ix2 R 0) = expo (rowMax (f R)))

/-- The hidden values of a block of columns. -/
def hv (f : Fin 1536 → Fin 4096 → ℤ) (wg wu : Vec Ideal S2048x256 .i8) (eg eu : Vec Ideal S1x256 .i32) (R : Fin 1536) (d : Fin 256) : ℤ :=
  hval (f R) (fun j => wg (ix2 j d)) (eg (ix2 0 d)) (fun j => wu (ix2 j d)) (eu (ix2 0 d))

include hf h1 h2 h3

theorem hblk_at (k : Fin k1_t1_loop.trips) (r : Fin 256) (d : Fin 256) :
    hblk arg1 arg2 arg3 arg5 arg7 (k1_pay12 wg) (k1_pay13 wu) X1 X2 X3 X5 X7 k (ix2 r d)
      = Z (hv f wg wu (arg5.view.read (Elt Ideal) X5) (arg7.view.read (Elt Ideal) X7) (rowAt k r) d) := by
  unfold hblk gate upv hv
  rw [← ld5_eq, ← ld7_eq]
  exact hidden_at r d (f (rowAt k r)) (hf _) (ld1 arg1 X1 k) (fun x => (ld1_at arg1 X1 k r x).trans (h1 _ _)) wg wu
    (ld2 arg2 X2 k) (ld3 arg3 X3 k) ((ld2_at arg2 X2 k r).trans (h2 _)) ((ld3_at arg3 X3 k r).trans (h3 _)) (ld5 arg5 X5) (ld7 arg7 X7)

theorem lblk_at (k : Fin k1_t1_loop.trips) (g : BufTy.Contents (Elt Ideal) arg9.view.ty) (r : Fin 256) (l : Fin 128) :
    lblk arg1 arg2 arg3 arg5 arg7 arg9 (k1_pay12 wg) (k1_pay13 wu) X1 X2 X3 X5 X7 k g (ix2 r l)
      = max (arg9.view.read (Elt Ideal) g (ix2 (rowAt k r) l))
          (max (Z |hv f wg wu (arg5.view.read (Elt Ideal) X5) (arg7.view.read (Elt Ideal) X7) (rowAt k r) (lo128 l)|)
            (Z |hv f wg wu (arg5.view.read (Elt Ideal) X5) (arg7.view.read (Elt Ideal) X7) (rowAt k r) (hi128 l)|)) := by
  have ha := hblk_at arg1 arg2 arg3 arg5 arg7 X1 X2 X3 X5 X7 f hf wg wu h1 h2 h3 k r (lo128 l)
  have hb := hblk_at arg1 arg2 arg3 arg5 arg7 X1 X2 X3 X5 X7 f hf wg wu h1 h2 h3 k r (hi128 l)
  unfold hblk at ha hb
  unfold lblk
  rw [lane_at r _ _ _ _ _ l _ _ ha hb, ld9_at]

/-- After the trips before `n`: the rows of those trips hold the hidden values, and the lanes' maxima of those rows have
    taken them in; the other rows' maxima are as they were. -/
theorem loop_at (G8 : BufTy.Contents (Elt Ideal) arg8.view.ty) (G9 : BufTy.Contents (Elt Ideal) arg9.view.ty) (n : ℕ) (hn : n ≤ 6) :
    (∀ (R : Fin 1536) (d : Fin 256), R.val < 256 * n →
      arg8.view.read (Elt Ideal) (arg8.view.writes (Elt Ideal) G8 (pb_k1_t1 (F := Ideal) Variants.none c none i arg1 harg1 arg2 harg2 arg3 harg3 arg4 harg4 arg5 harg5 arg6 harg6 arg7 harg7 arg8 harg8 arg9 harg9 (k1_pay12 wg) (k1_pay13 wu) 0#32 X1 X2 X3 X5 X7 G8 G9 n).1) (ix2 R d)
        = Z (hv f wg wu (arg5.view.read (Elt Ideal) X5) (arg7.view.read (Elt Ideal) X7) R d))
    ∧ (∀ (R : Fin 1536) (l : Fin 128),
      arg9.view.read (Elt Ideal) (arg9.view.writes (Elt Ideal) G9 (pb_k1_t1 (F := Ideal) Variants.none c none i arg1 harg1 arg2 harg2 arg3 harg3 arg4 harg4 arg5 harg5 arg6 harg6 arg7 harg7 arg8 harg8 arg9 harg9 (k1_pay12 wg) (k1_pay13 wu) 0#32 X1 X2 X3 X5 X7 G8 G9 n).2) (ix2 R l)
        = if R.val < 256 * n then max (arg9.view.read (Elt Ideal) G9 (ix2 R l))
            (max (Z |hv f wg wu (arg5.view.read (Elt Ideal) X5) (arg7.view.read (Elt Ideal) X7) R (lo128 l)|)
              (Z |hv f wg wu (arg5.view.read (Elt Ideal) X5) (arg7.view.read (Elt Ideal) X7) R (hi128 l)|))
          else arg9.view.read (Elt Ideal) G9 (ix2 R l)) := by
  induction n with
  | zero =>
    refine ⟨fun R d h => absurd h (by omega), fun R l => ?_⟩
    rw [if_neg (by omega)]
    rfl
  | succ n ih =>
    obtain ⟨ih8, ih9⟩ := ih (by omega)
    have hk : n < k1_t1_loop.trips := by rw [trips_eq]; omega
    have hs := pb_k1_t1_succ (F := Ideal) Variants.none c none i arg1 harg1 arg2 harg2 arg3 harg3 arg4 harg4 arg5 harg5 arg6 harg6 arg7 harg7 arg8 harg8 arg9 harg9 (k1_pay12 wg) (k1_pay13 wu) 0#32 X1 X2 X3 X5 X7 G8 G9 ⟨n, hk⟩
    rw [trip_pieces] at hs
    dsimp only at hs
    rw [hs]
    generalize hp : pb_k1_t1 (F := Ideal) Variants.none c none i arg1 harg1 arg2 harg2 arg3 harg3 arg4 harg4 arg5 harg5 arg6 harg6 arg7 harg7 arg8 harg8 arg9 harg9 (k1_pay12 wg) (k1_pay13 wu) 0#32 X1 X2 X3 X5 X7 G8 G9 n = p at ih8 ih9 ⊢
    constructor
    · intro R d h
      by_cases hr : R.val < 256 * n
      · refine (View.read_writes_cons_unit_of_not_mem arg8.view G8 _ _ p.1 _ (off3_eq ⟨n, hk⟩) 0 (Or.inl hr)).trans ?_
        exact ih8 R d hr
      · have hR : rowAt ⟨n, hk⟩ ⟨R.val - 256 * n, by omega⟩ = R := Fin.ext (by show 256 * n + (R.val - 256 * n) = R.val; omega)
        refine (View.read_writes_cons_unit_of_mem arg8.view G8 _ _ p.1 _ (ix2 ⟨R.val - 256 * n, by omega⟩ d) (off3_eq ⟨n, hk⟩) ?_).trans ?_
        · rw [Fin.forall_fin_two]
          exact ⟨by show R.val = 256 * n + (R.val - 256 * n); omega, (Nat.zero_add _).symm⟩
        · refine (hblk_at arg1 arg2 arg3 arg5 arg7 X1 X2 X3 X5 X7 f hf wg wu h1 h2 h3 ⟨n, hk⟩ _ d).trans ?_
          rw [hR]
    · intro R l
      by_cases hr : R.val < 256 * n
      · refine (View.read_writes_cons_unit_of_not_mem arg9.view G9 _ _ p.2 _ (off4_eq ⟨n, hk⟩) 0 (Or.inl hr)).trans ?_
        rw [ih9, if_pos hr, if_pos (by omega)]
      · by_cases hr2 : R.val < 256 * (n + 1)
        · have hR : rowAt ⟨n, hk⟩ ⟨R.val - 256 * n, by omega⟩ = R := Fin.ext (by show 256 * n + (R.val - 256 * n) = R.val; omega)
          refine (View.read_writes_cons_unit_of_mem arg9.view G9 _ _ p.2 _ (ix2 ⟨R.val - 256 * n, by omega⟩ l) (off4_eq ⟨n, hk⟩) ?_).trans ?_
          · rw [Fin.forall_fin_two]
            exact ⟨by show R.val = 256 * n + (R.val - 256 * n); omega, (Nat.zero_add _).symm⟩
          · refine (lblk_at arg1 arg2 arg3 arg5 arg7 arg9 X1 X2 X3 X5 X7 f hf wg wu h1 h2 h3 ⟨n, hk⟩ _ _ l).trans ?_
            rw [hR, ih9, if_neg hr, if_pos hr2]
        · refine (View.read_writes_cons_unit_of_not_mem arg9.view G9 _ _ p.2 _ (off4_eq ⟨n, hk⟩) 0 (Or.inr ?_)).trans ?_
          · show 256 * n + 256 ≤ R.val
            omega
          · rw [ih9, if_neg hr, if_neg hr2]

end

end Cert.KernelIdeal.Value

end
-- ==== Proof.Value.HidPay.lean ====
/- The third region's payloads: the quantisation of a block of hidden rows, at each index, as whole numbers. -/
module

public import proofs.«01_k».proof.Proof.Gen.KernelIdeal.Skeleton
public import proofs.«01_k».proof.Proof.Value.RowPay
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen Cert.Num

/-- The maxima of the 128 lanes of row `r`, with 1, are the largest magnitude of the values `f`. -/
abbrev MaxOf (v : Vec Ideal S128x128 .f32) (r : Fin 128) (f : Fin 11008 → ℤ) : Prop :=
  max (Finset.fold max (Ideal.ofBits FTy.f32 4286578688#32) (fun l => v (ix2 r l)) Finset.univ) 1 = Z (rowMax f : ℤ)

variable (v : Vec Ideal S128x128 .f32) (r : Fin 128) (f : Fin 11008 → ℤ)

theorem redH_at (w : FVec Ideal S128x128 .f32) :
    multiReduction .maximumf [1] S128 w 0xFF800000#32 reduces_S128x128_S128 (.inl rfl) rfl (ix1 r)
      = Finset.fold max (Ideal.ofBits FTy.f32 4286578688#32) (fun c => w (ix2 r c)) Finset.univ := by
  pointwise

theorem castH_at (w : FVec Ideal S128 .f32) : shapeCast S128x1 w shapeCasts_S128_S128x1 (ix2 r 0) = w (ix1 r) := by
  pointwise

theorem maxH_at (w : FVec Ideal S128x1 .f32) :
    maximumf w (broadcast S128x1 (Scalar.ofBits (F := Ideal) .f32 0x3F800000#32)) (ix2 r 0) = max (w (ix2 r 0)) 1 := by
  pointwise

theorem sameH_at (l : Fin 128) : shapeCast S128x128 v shapeCasts_S128x128_S128x128 (ix2 r l) = v (ix2 r l) := by
  pointwise

theorem hpay2_at (h : MaxOf v r f) : k2_pay2 (F := Ideal) v (ix2 r 0) = Z (rowMax f : ℤ) := by
  refine (maxH_at r _).trans ?_
  rw [castH_at, redH_at]
  exact (congrArg (fun g : Fin 128 → EReal => max (Finset.fold max (Ideal.ofBits FTy.f32 4286578688#32) g Finset.univ) 1)
    (funext fun l => sameH_at v r l)).trans h

variable (hs : Small f)
include hs

theorem hpay3_at (h : MaxOf v r f) : k2_pay3 (F := Ideal) v (ix2 r 0) = BitVec.ofNat 32 (len (rowMax f)) := by
  have e : k2_pay3 (F := Ideal) v (ix2 r 0) = IntOp.subi 32#32 (IntOp.ctlz (FloatOps.fptosi 32 (k2_pay2 (F := Ideal) v (ix2 r 0)))) := by
    unfold k2_pay3
    generalize k2_pay2 (F := Ideal) v = p
    pointwise
  rw [e, hpay2_at v r f h]
  exact len_word (one_le_rowMax _) (rowMax_lt _ hs)

theorem hpay4_at (h : MaxOf v r f) : k2_pay4 (F := Ideal) v (ix2 r 0) = BitVec.ofNat 32 (sh (rowMax f)) := by
  have e : k2_pay4 (F := Ideal) v (ix2 r 0) = IntOp.subi 23#32 (k2_pay3 (F := Ideal) v (ix2 r 0)) := by
    unfold k2_pay4
    generalize k2_pay3 (F := Ideal) v = p
    pointwise
  rw [e, hpay3_at v r f hs h]
  exact k_sh (one_le_rowMax _) (rowMax_lt _ hs)

/-- The mantissa, from a column of row maxima and a column of shifts. -/
def mantOfH (p : FVec Ideal S128x1 .f32) (q : IVec S128x1 32) : FVec Ideal S128x1 .f32 :=
  have v14 : IVec S128x1 32 := broadcast S128x1 127#32
  have v15 : IVec S128x1 32 := addi q v14
  have v16 : IVec S128x1 32 := broadcast S128x1 23#32
  have v17 : IVec S128x1 32 := shli v15 v16
  have v18 : FVec Ideal S128x1 .f32 := bitcastToFloat .f32 v17
  have v19 : FVec Ideal S128x1 .f32 := mulf p v18
  have cst_3 : Ideal .f32 := Scalar.ofBits (F := Ideal) .f32 0x467E0000#32
  have v20 : FVec Ideal S128x1 .f32 := broadcast S128x1 cst_3
  have v21 : FVec Ideal S128x1 .f32 := addf v19 v20
  have cst_4 : Ideal .f32 := Scalar.ofBits (F := Ideal) .f32 0x38010204#32
  have v22 : FVec Ideal S128x1 .f32 := broadcast S128x1 cst_4
  have v23 : FVec Ideal S128x1 .f32 := mulf v21 v22
  have v24 : FVec Ideal S128x1 .f32 := floor v23
  have cst_5 : Ideal .f32 := Scalar.ofBits (F := Ideal) .f32 0x46FE0000#32
  have v25 : FVec Ideal S128x1 .f32 := broadcast S128x1 cst_5
  have v26 : FVec Ideal S128x1 .f32 := mulf v24 v25
  have v27 : FVec Ideal S128x1 .f32 := subf v21 v26
  have cst_6 : Ideal .f32 := Scalar.ofBits (F := Ideal) .f32 0x46FE0000#32
  have v28 : FVec Ideal S128x1 .f32 := broadcast S128x1 cst_6
  have v29 : IVec S128x1 1 := cmpf .oge v27 v28
  have cst_7 : Ideal .f32 := Scalar.ofBits (F := Ideal) .f32 0x3F800000#32
  have cst_8 : Ideal .f32 := Scalar.ofBits (F := Ideal) .f32 0x00000000#32
  have v30 : FVec Ideal S128x1 .f32 := broadcast S128x1 cst_7
  have v31 : FVec Ideal S128x1 .f32 := broadcast S128x1 cst_8
  have v32 : FVec Ideal S128x1 .f32 := select v29 v30 v31
  have v33 : FVec Ideal S128x1 .f32 := addf v24 v32
  have cst_9 : Ideal .f32 := Scalar.ofBits (F := Ideal) .f32 0x00000000#32
  have v34 : FVec Ideal S128x1 .f32 := broadcast S128x1 cst_9
  have v35 : IVec S128x1 1 := cmpf .olt v27 v34
  have cst_10 : Ideal .f32 := Scalar.ofBits (F := Ideal) .f32 0x3F800000#32
  have cst_11 : Ideal .f32 := Scalar.ofBits (F := Ideal) .f32 0x00000000#32
  have v36 : FVec Ideal S128x1 .f32 := broadcast S128x1 cst_10
  have v37 : FVec Ideal S128x1 .f32 := broadcast S128x1 cst_11
  have v38 : FVec Ideal S128x1 .f32 := select v35 v36 v37
  have v39 : FVec Ideal S128x1 .f32 := subf v33 v38
  v39

omit hs in
theorem mantOfH_at (p : FVec Ideal S128x1 .f32) (q : IVec S128x1 32) :
    mantOfH p q (ix2 r 0) = kMant (p (ix2 r 0) * Ideal.ofBits .f32 (IntOp.shli .vector (IntOp.addi (q (ix2 r 0)) 127#32) 23#32)
      + Ideal.ofBits .f32 0x467E0000#32) := by
  pointwise [mantOfH]
  rfl

theorem hpay5_at (h : MaxOf v r f) : k2_pay5 (F := Ideal) v (ix2 r 0) = Z (mant (rowMax f) : ℤ) := by
  refine (show k2_pay5 (F := Ideal) v (ix2 r 0) = mantOfH (k2_pay2 v) (k2_pay4 v) (ix2 r 0) from rfl).trans ?_
  rw [mantOfH_at, hpay2_at v r f h, hpay4_at v r f hs h]
  exact k_mant (one_le_rowMax _) (rowMax_lt _ hs)

omit hs in
/-- The code of one value, as a float, from a shift, a mantissa and the value. -/
theorem hpay8_eq (v11 : IVec S128x1 32) (v37 : FVec Ideal S128x1 .f32) (v52 : Vec Ideal S128x11008 .f32) (d : Fin 11008) :
    k2_pay8 (F := Ideal) v11 v37 v52 (ix2 r d)
      = (FloatOps.fptosi (F := Ideal) (φ := .f32) 32 (kCode (v52 (ix2 r d)) (kStep (v37 (ix2 r 0)) (v11 (ix2 r 0))))).setWidth 8 := by
  pointwise [k2_pay8]
  rfl

theorem hpay8_at (h : MaxOf v r f) (w : Vec Ideal S128x11008 .f32) (d : Fin 11008) (hw : w (ix2 r d) = Z (f d)) :
    k2_pay8 (F := Ideal) (k2_pay4 v) (k2_pay5 v) w (ix2 r d) = (B (rowCode f d)).setWidth 8 := by
  rw [hpay8_eq, hw, hpay4_at v r f hs h, hpay5_at v r f hs h,
    k_code (one_le_rowMax _) (rowMax_lt _ hs) (natAbs_le_rowMax f d)]
  exact congrArg _ (code_word _ _)

omit hs in
theorem hpay9_eq (w : FVec Ideal S128x1 .f32) (d : Fin 128) :
    k2_pay9 (F := Ideal) w (ix2 r d) = FloatOps.fptosi 32 (w (ix2 r 0)) := by
  pointwise [k2_pay9]

theorem hpay9_at (h : MaxOf v r f) (d : Fin 128) : k2_pay9 (F := Ideal) (k2_pay5 v) (ix2 r d) = B (mant (rowMax f)) := by
  rw [hpay9_eq, hpay5_at v r f hs h]
  exact mant_word (one_le_rowMax _) (rowMax_lt _ hs)

omit hs in
theorem hpay1_eq (n : IVec S128x1 32) (d : Fin 128) :
    k2_pay1 (k2_pay7 n 10#32) (ix2 r d) = IntOp.addi (n (ix2 r 0)) 10#32 := by
  pointwise [k2_pay1, k2_pay7]

theorem hpay1_at (h : MaxOf v r f) (d : Fin 128) :
    k2_pay1 (k2_pay7 (k2_pay6 (F := Ideal) v) 10#32) (ix2 r d) = expo (rowMax f) := by
  have e : k2_pay6 (F := Ideal) v (ix2 r 0) = IntOp.subi 15#32 (k2_pay3 (F := Ideal) v (ix2 r 0)) := by
    unfold k2_pay6
    generalize k2_pay3 (F := Ideal) v = p
    pointwise
  rw [hpay1_eq, e, hpay3_at v r f hs h]
  rfl

end Cert.KernelIdeal.Value

end
-- ==== Proof.Value.RowOut.lean ====
/- What the first region leaves in its four output arrays: the row quantisation of the argument's rows. -/
module

public import proofs.«01_k».proof.Proof.Ideal.RegionX
public import proofs.«01_k».proof.Proof.Value.RowPay

@[expose] public section

set_option maxRecDepth 16384

noncomputable section

namespace Cert.KernelIdeal.Value

open Idealize.ShloMosaic Idealize.ShloMosaic.TcCoe Idealize.SL.Sem
open Cert.KernelIdeal Cert.KernelIdeal.Gen Cert.Num

variable (V : (c : Dev nD) → (b : Ref sig .tc) → Buf (Elt Ideal) ((c : Thread nD τ).loc b))

theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] :=
  (by decide +kernel : ∀ t : Fin grid0.N, _)

/-- Row `R` of the first region's input array, as whole numbers. -/
def rowX (c : Dev nD) (R : Fin 1536) : Fin 4096 → ℤ :=
  fun j => ((show S1536x4096.Idx → BitVec 32 from V c main_v0) (ix2 R j)).toInt

theorem row_blk1 (c : Dev nD) (t : Fin cfg0.N) (r : Fin 256) (d : Fin 4096) :
    row (iblk0 V c 0 t) r = rowX V c ((((cfg0.win 1).blk t).view.emb (ix2 r d : S256x4096.Idx)) 0) := by
  funext j
  refine congrArg BitVec.toInt ?_
  blk_ext [iblk0, idx0 t]

theorem row_blk2 (c : Dev nD) (t : Fin cfg0.N) (r : Fin 256) (d : Fin 4096) :
    row (iblk0 V c 0 t) r = rowX V c ((((cfg0.win 2).blk t).view.emb (ix2 r d : S256x4096.Idx)) 0) := by
  funext j
  refine congrArg BitVec.toInt ?_
  blk_ext [iblk0, idx0 t]

theorem row_blk3 (c : Dev nD) (t : Fin cfg0.N) (r : Fin 256) (d : Fin 128) :
    row (iblk0 V c 0 t) r = rowX V c ((((cfg0.win 3).blk t).view.emb (ix2 r d : S256x128.Idx)) 0) := by
  funext j
  refine congrArg BitVec.toInt ?_
  blk_ext [iblk0, idx0 t]

theorem row_blk4 (c : Dev nD) (t : Fin cfg0.N) (r : Fin 256) (d : Fin 128) :
    row (iblk0 V c 0 t) r = rowX V c ((((cfg0.win 4).blk t).view.emb (ix2 r d : S256x128.Idx)) 0) := by
  funext j
  refine congrArg BitVec.toInt ?_
  blk_ext [iblk0, idx0 t]

theorem col_blk1 (t : Fin cfg0.N) (r : Fin 256) (d : Fin 4096) :
    (((cfg0.win 1).blk t).view.emb (ix2 r d : S256x4096.Idx)) 1 = d := by
  apply Fin.ext
  blk_simp [idx0 t]

theorem col_blk2 (t : Fin cfg0.N) (r : Fin 256) (d : Fin 4096) :
    (((cfg0.win 2).blk t).view.emb (ix2 r d : S256x4096.Idx)) 1 = d := by
  apply Fin.ext
  blk_simp [idx0 t]

variable (hX : ∀ (c : Dev nD) (R : Fin 1536), Small (rowX V c R))
include hX

/-- The four results of the row quantisation, of all rows `f`. -/
def codes8 (f : Fin 1536 → Fin 4096 → ℤ) : S1536x4096.Idx → BitVec 8 := fun i => (B (rowCode (f (i 0)) (i 1))).setWidth 8
def codesZ (f : Fin 1536 → Fin 4096 → ℤ) : S1536x4096.Idx → EReal := fun i => Z (rowCode (f (i 0)) (i 1))
def mants {n : ℕ} (f : Fin 1536 → Fin n → ℤ) : S1536x128.Idx → BitVec 32 := fun i => B (mant (rowMax (f (i 0))))
def expos {n : ℕ} (f : Fin 1536 → Fin n → ℤ) : S1536x128.Idx → BitVec 32 := fun i => expo (rowMax (f (i 0)))

theorem point1 (c : Dev nD) (t : Fin cfg0.N) (r : Fin 256) (d : Fin 4096) :
    k0_pay10 (F := Ideal) (k0_pay2 (iblk0 V c 0 t)) (k0_pay5 (iblk0 V c 0 t)) (k0_pay6 (iblk0 V c 0 t)) (ix2 r d)
      = codes8 (rowX V c) ((((cfg0.win 1).blk t).view.emb (ix2 r d : S256x4096.Idx))) := by
  refine (pay10_at (iblk0 V c 0 t) r (by rw [row_blk1 V c t r d]; exact hX c _) d).trans ?_
  unfold codes8
  rw [row_blk1 V c t r d, col_blk1]

theorem x_codes (c : Dev nD) : (dat0 V c).arrAt 1 cfg0.N = codes8 (rowX V c) := by
  refine (dat0 V c).arrAt_eq_of_covers 1 _ (by decide +kernel) fun t _ y => ?_
  blk_simp
  rw [after0_1]
  unfold out0_1 k0_pay13 k0_pay14 k0_pay15
  frame_out
  rw [eq_ix2 y]
  exact point1 V hX c t (y 0) (y 1)

theorem point2 (c : Dev nD) (t : Fin cfg0.N) (r : Fin 256) (d : Fin 4096) :
    k0_pay11 (F := Ideal) (k0_pay2 (iblk0 V c 0 t)) (k0_pay5 (iblk0 V c 0 t)) (k0_pay6 (iblk0 V c 0 t)) (ix2 r d)
      = codesZ (rowX V c) ((((cfg0.win 2).blk t).view.emb (ix2 r d : S256x4096.Idx))) := by
  refine (pay11_at (iblk0 V c 0 t) r (by rw [row_blk2 V c t r d]; exact hX c _) d).trans ?_
  unfold codesZ
  rw [row_blk2 V c t r d, col_blk2]

theorem x_rows (c : Dev nD) : (dat0 V c).arrAt 2 cfg0.N = codesZ (rowX V c) := by
  refine (dat0 V c).arrAt_eq_of_covers 2 _ (by decide +kernel) fun t _ y => ?_
  blk_simp
  rw [after0_2]
  unfold out0_2 k0_pay13 k0_pay14 k0_pay15
  frame_out
  rw [eq_ix2 y]
  exact point2 V hX c t (y 0) (y 1)

theorem point3 (c : Dev nD) (t : Fin cfg0.N) (r : Fin 256) (d : Fin 128) :
    k0_pay12 (F := Ideal) (k0_pay6 (iblk0 V c 0 t)) (ix2 r d)
      = mants (rowX V c) ((((cfg0.win 3).blk t).view.emb (ix2 r d : S256x128.Idx))) := by
  refine (pay12_at (iblk0 V c 0 t) r (by rw [row_blk3 V c t r d]; exact hX c _) d).trans ?_
  unfold mants
  rw [row_blk3 V c t r d]

theorem x_mant (c : Dev nD) : (dat0 V c).arrAt 3 cfg0.N = mants (rowX V c) := by
  refine (dat0 V c).arrAt_eq_of_covers 3 _ (by decide +kernel) fun t _ y => ?_
  blk_simp
  rw [after0_3]
  unfold out0_3 k0_pay15
  frame_out
  rw [eq_ix2 y]
  exact point3 V hX c t (y 0) (y 1)

theorem point4 (c : Dev nD) (t : Fin cfg0.N) (r : Fin 256) (d : Fin 128) :
    k0_pay1 (k0_pay8 (k0_pay4 (F := Ideal) (iblk0 V c 0 t)) k0_pay7) (ix2 r d)
      = expos (rowX V c) ((((cfg0.win 4).blk t).view.emb (ix2 r d : S256x128.Idx))) := by
  refine (pay1_at (iblk0 V c 0 t) r (by rw [row_blk4 V c t r d]; exact hX c _) d).trans ?_
  unfold expos
  rw [row_blk4 V c t r d]

theorem x_expo (c : Dev nD) : (dat0 V c).arrAt 4 cfg0.N = expos (rowX V c) := by
  refine (dat0 V c).arrAt_eq_of_covers 4 _ (by decide +kernel) fun t _ y => ?_
  blk_simp
  rw [after0_4]
  unfold out0_4
  frame_out
  rw [eq_ix2 y]
  exact point4 V hX c t (y 0) (y 1)

end Cert.KernelIdeal.Value

end
-- ==== Proof.Value.HidOut.lean ====
/- What the third region leaves in its three output arrays: the row quantisation of the hidden rows. -/
module

public import proofs.«01_k».proof.Proof.Ideal.RegionH
public import proofs.«01_k».proof.Proof.Value.HidPay
public import proofs.«01_k».proof.Proof.Value.RowOut

@[expose] public section

set_option maxRecDepth 16384

noncomputable section

namespace Cert.KernelIdeal.Value

open Idealize.ShloMosaic Idealize.ShloMosaic.TcCoe Idealize.SL.Sem
open Cert.KernelIdeal Cert.KernelIdeal.Gen Cert.Num

variable (V : (c : Dev nD) → (b : Ref sig .tc) → Buf (Elt Ideal) ((c : Thread nD τ).loc b))

theorem idx2 : ∀ t : Fin cfg2.N, win2_0.index t = ![t.val, 0] ∧ win2_1.index t = ![t.val, 0] ∧ win2_2.index t = ![t.val, 0]
    ∧ win2_3.index t = ![t.val, 0] ∧ win2_4.index t = ![t.val, 0] :=
  (by decide +kernel : ∀ t : Fin grid2.N, _)

/-- The third region's inputs: the hidden values, and the lanes' maxima. -/
def hArr (c : Dev nD) : S1536x11008.Idx → EReal := V c main_v4_0
def mArr (c : Dev nD) : S1536x128.Idx → EReal := V c main_v4_1

/-- The lanes' maxima bound what the magnitudes of their columns bound. -/
abbrev Lanes (M : S1536x128.Idx → EReal) (H : Fin 1536 → Fin 11008 → ℤ) : Prop :=
  ∀ (R : Fin 1536) (l : Fin 128) (y : EReal), M (ix2 R l) ≤ y ↔ 0 ≤ y ∧ ∀ j : Fin 11008, j.val % 128 = l.val → Z |H R j| ≤ y

theorem lanes_max {M : S1536x128.Idx → EReal} {H : Fin 1536 → Fin 11008 → ℤ} (h : Lanes M H) (R : Fin 1536) :
    max (Finset.fold max (Ideal.ofBits FTy.f32 4286578688#32) (fun l => M (ix2 R l)) Finset.univ) 1 = Z (rowMax (H R) : ℤ) := by
  rw [← k_rowMax]
  apply eq_of_forall_ge_iff
  intro y
  rw [max_le_iff, max_le_iff, Finset.fold_max_le, Finset.fold_max_le]
  constructor
  · rintro ⟨⟨h0, h1⟩, h2⟩
    refine ⟨⟨h0, fun j _ => ?_⟩, h2⟩
    exact ((h R ⟨j.val % 128, Nat.mod_lt _ (by norm_num)⟩ y).1 (h1 _ (Finset.mem_univ _))).2 j rfl
  · rintro ⟨⟨h0, h1⟩, h2⟩
    refine ⟨⟨h0, fun l _ => ?_⟩, h2⟩
    exact (h R l y).2 ⟨le_trans zero_le_one h2, fun j _ => h1 j (Finset.mem_univ _)⟩

variable (H : Fin 1536 → Fin 11008 → ℤ) (hH : ∀ R, Small (H R))

theorem blkM2 (c : Dev nD) (t : Fin cfg2.N) (r : Fin 128) (d : Fin 11008) (l : Fin 128) :
    (iblk2 V c 1 t : S128x128.Idx → EReal) (ix2 r l) = mArr V c (ix2 ((((cfg2.win 2).blk t).view.emb (ix2 r d : S128x11008.Idx)) 0) l) := by
  blk_ext [iblk2, mArr, idx2 t]

theorem blkM3 (c : Dev nD) (t : Fin cfg2.N) (r : Fin 128) (d : Fin 128) (l : Fin 128) :
    (iblk2 V c 1 t : S128x128.Idx → EReal) (ix2 r l) = mArr V c (ix2 ((((cfg2.win 3).blk t).view.emb (ix2 r d : S128x128.Idx)) 0) l) := by
  blk_ext [iblk2, mArr, idx2 t]

theorem blkM4 (c : Dev nD) (t : Fin cfg2.N) (r : Fin 128) (d : Fin 128) (l : Fin 128) :
    (iblk2 V c 1 t : S128x128.Idx → EReal) (ix2 r l) = mArr V c (ix2 ((((cfg2.win 4).blk t).view.emb (ix2 r d : S128x128.Idx)) 0) l) := by
  blk_ext [iblk2, mArr, idx2 t]

theorem blkH2 (c : Dev nD) (t : Fin cfg2.N) (r : Fin 128) (d : Fin 11008) :
    (iblk2 V c 0 t : S128x11008.Idx → EReal) (ix2 r d) = hArr V c (((cfg2.win 2).blk t).view.emb (ix2 r d : S128x11008.Idx)) := by
  blk_ext [iblk2, hArr, idx2 t]

theorem colH2 (t : Fin cfg2.N) (r : Fin 128) (d : Fin 11008) :
    (((cfg2.win 2).blk t).view.emb (ix2 r d : S128x11008.Idx)) 1 = d := by
  apply Fin.ext
  blk_simp [idx2 t]

/-- The codes of all rows. -/
def hcodes8 (f : Fin 1536 → Fin 11008 → ℤ) : S1536x11008.Idx → BitVec 8 := fun i => (B (rowCode (f (i 0)) (i 1))).setWidth 8

theorem maxof2 (c : Dev nD) (hM : Lanes (mArr V c) H) (t : Fin cfg2.N) (r : Fin 128) (d : Fin 11008) :
    MaxOf (iblk2 V c 1 t) r (H ((((cfg2.win 2).blk t).view.emb (ix2 r d : S128x11008.Idx)) 0)) := by
  refine Eq.trans ?_ (lanes_max hM _)
  exact congrArg (fun g : Fin 128 → EReal => max (Finset.fold max (Ideal.ofBits FTy.f32 4286578688#32) g Finset.univ) 1)
    (funext fun l => blkM2 V c t r d l)

theorem maxof3 (c : Dev nD) (hM : Lanes (mArr V c) H) (t : Fin cfg2.N) (r : Fin 128) (d : Fin 128) :
    MaxOf (iblk2 V c 1 t) r (H ((((cfg2.win 3).blk t).view.emb (ix2 r d : S128x128.Idx)) 0)) := by
  refine Eq.trans ?_ (lanes_max hM _)
  exact congrArg (fun g : Fin 128 → EReal => max (Finset.fold max (Ideal.ofBits FTy.f32 4286578688#32) g Finset.univ) 1)
    (funext fun l => blkM3 V c t r d l)

theorem maxof4 (c : Dev nD) (hM : Lanes (mArr V c) H) (t : Fin cfg2.N) (r : Fin 128) (d : Fin 128) :
    MaxOf (iblk2 V c 1 t) r (H ((((cfg2.win 4).blk t).view.emb (ix2 r d : S128x128.Idx)) 0)) := by
  refine Eq.trans ?_ (lanes_max hM _)
  exact congrArg (fun g : Fin 128 → EReal => max (Finset.fold max (Ideal.ofBits FTy.f32 4286578688#32) g Finset.univ) 1)
    (funext fun l => blkM4 V c t r d l)

include hH

theorem hpoint2 (c : Dev nD) (hA : hArr V c = fun i => Z (H (i 0) (i 1))) (hM : Lanes (mArr V c) H) (t : Fin cfg2.N) (r : Fin 128) (d : Fin 11008) :
    k2_pay8 (F := Ideal) (k2_pay4 (iblk2 V c 1 t)) (k2_pay5 (iblk2 V c 1 t)) (iblk2 V c 0 t) (ix2 r d)
      = hcodes8 H (((cfg2.win 2).blk t).view.emb (ix2 r d : S128x11008.Idx)) := by
  refine (hpay8_at (iblk2 V c 1 t) r _ (hH _) (maxof2 V H c hM t r d) (iblk2 V c 0 t) d ?_).trans ?_
  · refine (blkH2 V c t r d).trans ?_
    rw [hA]
    dsimp only
    rw [colH2]
  · unfold hcodes8
    rw [colH2]

theorem h_codes (c : Dev nD) (hA : hArr V c = fun i => Z (H (i 0) (i 1))) (hM : Lanes (mArr V c) H) :
    (dat2 V c).arrAt 2 cfg2.N = hcodes8 H := by
  refine (dat2 V c).arrAt_eq_of_covers 2 _ (by decide +kernel) fun t _ y => ?_
  blk_simp
  rw [after2_2]
  unfold out2_2 k2_pay10
  frame_out
  rw [eq_ix2 y]
  exact hpoint2 V H hH c hA hM t (y 0) (y 1)

theorem hpoint3 (c : Dev nD) (hM : Lanes (mArr V c) H) (t : Fin cfg2.N) (r : Fin 128) (d : Fin 128) :
    k2_pay9 (F := Ideal) (k2_pay5 (iblk2 V c 1 t)) (ix2 r d)
      = mants H (((cfg2.win 3).blk t).view.emb (ix2 r d : S128x128.Idx)) := by
  refine (hpay9_at (iblk2 V c 1 t) r _ (hH _) (maxof3 V H c hM t r d) d).trans ?_
  rfl

theorem h_mant (c : Dev nD) (hM : Lanes (mArr V c) H) : (dat2 V c).arrAt 3 cfg2.N = mants H := by
  refine (dat2 V c).arrAt_eq_of_covers 3 _ (by decide +kernel) fun t _ y => ?_
  blk_simp
  rw [after2_3]
  unfold out2_3 k2_pay10
  frame_out
  rw [eq_ix2 y]
  exact hpoint3 V H hH c hM t (y 0) (y 1)

theorem hpoint4 (c : Dev nD) (hM : Lanes (mArr V c) H) (t : Fin cfg2.N) (r : Fin 128) (d : Fin 128) :
    k2_pay1 (k2_pay7 (k2_pay6 (F := Ideal) (iblk2 V c 1 t)) 10#32) (ix2 r d)
      = expos H (((cfg2.win 4).blk t).view.emb (ix2 r d : S128x128.Idx)) := by
  refine (hpay1_at (iblk2 V c 1 t) r _ (hH _) (maxof4 V H c hM t r d) d).trans ?_
  rfl

theorem h_expo (c : Dev nD) (hM : Lanes (mArr V c) H) : (dat2 V c).arrAt 4 cfg2.N = expos H := by
  refine (dat2 V c).arrAt_eq_of_covers 4 _ (by decide +kernel) fun t _ y => ?_
  blk_simp
  rw [after2_4]
  unfold out2_4
  frame_out
  rw [eq_ix2 y]
  exact hpoint4 V H hH c hM t (y 0) (y 1)

end Cert.KernelIdeal.Value

end
-- ==== Proof.Value.ProjOut.lean ====
/- What the second region leaves in its two output arrays: the hidden values, and the running maxima of each lane. -/
module

public import proofs.«01_k».proof.Proof.Ideal.RegionProj
public import proofs.«01_k».proof.Proof.Value.ProjLoop
public import proofs.«01_k».proof.Proof.Value.HidOut

@[expose] public section

set_option maxRecDepth 16384

noncomputable section

namespace Cert.KernelIdeal.Value

open Idealize.ShloMosaic Idealize.ShloMosaic.TcCoe Idealize.SL.Sem
open Cert.KernelIdeal Cert.KernelIdeal.Gen Cert.Num

/-! ## The body, at any buffers -/

section

variable (c : Dev nD) (i : grid1.Coords) (arg1 : Memref sig .tc .vmem S1536x4096 .bf16) (harg1 : arg1.IsWhole) (arg2 : Memref sig .tc .vmem S1536x128 .i32) (harg2 : arg2.IsWhole) (arg3 : Memref sig .tc .vmem S1536x128 .i32) (harg3 : arg3.IsWhole) (arg4 : Memref sig .tc .vmem S2048x256 .i8) (harg4 : arg4.IsWhole) (arg5 : Memref sig .tc .vmem S1x256 .i32) (harg5 : arg5.IsWhole) (arg6 : Memref sig .tc .vmem S2048x256 .i8) (harg6 : arg6.IsWhole) (arg7 : Memref sig .tc .vmem S1x256 .i32) (harg7 : arg7.IsWhole) (arg8 : Memref sig .tc .vmem S1536x256 .f32) (harg8 : arg8.IsWhole) (arg9 : Memref sig .tc .vmem S1536x128 .f32) (harg9 : arg9.IsWhole)
  (x0 : Vec Ideal S1536x4096 .bf16) (x1 : Vec Ideal S1536x128 .i32) (x2 : Vec Ideal S1536x128 .i32) (x3 : Vec Ideal S2048x256 .i8) (x4 : Vec Ideal S1x256 .i32) (x5 : Vec Ideal S2048x256 .i8) (x6 : Vec Ideal S1x256 .i32)
  (f : Fin 1536 → Fin 4096 → ℤ) (hf : ∀ R, Small (f R))
  (h1 : ∀ R x, x0 (ix2 R x) = Z (rowCode (f R) x))
  (h2 : ∀ R, x1 (ix2 R 0) = B (mant (rowMax (f R))))
  (h3 : ∀ R, x2 (ix2 R 0) = expo (rowMax (f R)))

theorem w12 : k1_pay12 (F := Ideal) (View.readAt (Elt Ideal) arg4.view (Rect.unit (s := S2048x256) ![0, 0] S2048x256.size inb_S2048x256_S2048x256_0_0).toLoadRect (harg4.unread x3)) = k1_pay12 x3 :=
  congrArg k1_pay12 ((View.readAt_full _ _ _).trans (harg4.read_unread x3))
theorem w13 : k1_pay13 (F := Ideal) (View.readAt (Elt Ideal) arg6.view (Rect.unit (s := S2048x256) ![0, 0] S2048x256.size inb_S2048x256_S2048x256_0_0).toLoadRect (harg6.unread x5)) = k1_pay13 x5 :=
  congrArg k1_pay13 ((View.readAt_full _ _ _).trans (harg6.read_unread x5))

theorem pay14_at (R : Fin 1536) (l : Fin 128) : k1_pay14 (F := Ideal) (ix2 R l) = 0 := by
  pointwise [k1_pay14]

include hf h1 h2 h3

theorem body_at (G9 : BufTy.Contents (Elt Ideal) arg9.view.ty) :
    (∀ (R : Fin 1536) (d : Fin 256), arg8.view.read (Elt Ideal) (arg8.view.writes (Elt Ideal) arg8.view.junk (pb_k1_t1 (F := Ideal) Variants.none c none i arg1 harg1 arg2 harg2 arg3 harg3 arg4 harg4 arg5 harg5 arg6 harg6 arg7 harg7 arg8 harg8 arg9 harg9 (k1_pay12 x3) (k1_pay13 x5) 0#32 (harg1.unread x0) (harg2.unread x1) (harg3.unread x2) (harg5.unread x4) (harg7.unread x6) arg8.view.junk G9 6).1) (ix2 R d) = Z (hv f x3 x5 x4 x6 R d))
    ∧ (∀ (R : Fin 1536) (l : Fin 128), arg9.view.read (Elt Ideal) (arg9.view.writes (Elt Ideal) G9 (pb_k1_t1 (F := Ideal) Variants.none c none i arg1 harg1 arg2 harg2 arg3 harg3 arg4 harg4 arg5 harg5 arg6 harg6 arg7 harg7 arg8 harg8 arg9 harg9 (k1_pay12 x3) (k1_pay13 x5) 0#32 (harg1.unread x0) (harg2.unread x1) (harg3.unread x2) (harg5.unread x4) (harg7.unread x6) arg8.view.junk G9 6).2) (ix2 R l)
        = max (arg9.view.read (Elt Ideal) G9 (ix2 R l)) (max (Z |hv f x3 x5 x4 x6 R (lo128 l)|) (Z |hv f x3 x5 x4 x6 R (hi128 l)|))) := by
  have h := loop_at c i arg1 harg1 arg2 harg2 arg3 harg3 arg4 harg4 arg5 harg5 arg6 harg6 arg7 harg7 arg8 harg8 arg9 harg9 (harg1.unread x0) (harg2.unread x1) (harg3.unread x2) (harg5.unread x4) (harg7.unread x6) f hf x3 x5
    (fun R x => (congrFun (harg1.read_unread x0) _).trans (h1 R x)) (fun R => (congrFun (harg2.read_unread x1) _).trans (h2 R))
    (fun R => (congrFun (harg3.read_unread x2) _).trans (h3 R)) arg8.view.junk G9 6 (le_refl 6)
  rw [harg5.read_unread x4, harg7.read_unread x6] at h
  exact ⟨fun R d => h.1 R d (by omega), fun R l => (h.2 R l).trans (if_pos (by omega))⟩

theorem outA7_at (hc0 : cond1_0 i) (R : Fin 1536) (d : Fin 256) :
    out1_A_7 (F := Ideal) c i arg1 harg1 arg2 harg2 arg3 harg3 arg4 harg4 arg5 harg5 arg6 harg6 arg7 harg7 arg8 harg8 arg9 harg9 hc0 x0 x1 x2 x3 x4 x5 x6 (ix2 R d) = Z (hv f x3 x5 x4 x6 R d) := by
  have hb := (body_at c i arg1 harg1 arg2 harg2 arg3 harg3 arg4 harg4 arg5 harg5 arg6 harg6 arg7 harg7 arg8 harg8 arg9 harg9 x0 x1 x2 x3 x4 x5 x6 f hf h1 h2 h3 (arg9.view.writes (Elt Ideal) arg9.view.junk [⟨Rect.unit (s := S1536x128) ![0, 0] S1536x128.size inb_S1536x128_S1536x128_0_0, k1_pay14 (F := Ideal)⟩])).1 R d
  rw [← w12 arg4 harg4 x3, ← w13 arg6 harg6 x5] at hb
  exact (congrFun (View.read_writes_of_cover _ _ arg8.view arg8.view.junk _ (cover1_A_7 c i arg1 harg1 arg2 harg2 arg3 harg3 arg4 harg4 arg5 harg5 arg6 harg6 arg7 harg7 arg8 harg8 arg9 harg9 hc0 x0 x1 x2 x3 x4 x5 x6)) _).trans hb

theorem outA8_at (hc0 : cond1_0 i) (R : Fin 1536) (l : Fin 128) :
    out1_A_8 (F := Ideal) c i arg1 harg1 arg2 harg2 arg3 harg3 arg4 harg4 arg5 harg5 arg6 harg6 arg7 harg7 arg8 harg8 arg9 harg9 hc0 x0 x1 x2 x3 x4 x5 x6 (ix2 R l) = max 0 (max (Z |hv f x3 x5 x4 x6 R (lo128 l)|) (Z |hv f x3 x5 x4 x6 R (hi128 l)|)) := by
  have hb := (body_at c i arg1 harg1 arg2 harg2 arg3 harg3 arg4 harg4 arg5 harg5 arg6 harg6 arg7 harg7 arg8 harg8 arg9 harg9 x0 x1 x2 x3 x4 x5 x6 f hf h1 h2 h3 (arg9.view.writes (Elt Ideal) arg9.view.junk [⟨Rect.unit (s := S1536x128) ![0, 0] S1536x128.size inb_S1536x128_S1536x128_0_0, k1_pay14 (F := Ideal)⟩])).2 R l
  rw [← w12 arg4 harg4 x3, ← w13 arg6 harg6 x5] at hb
  have h0 : arg9.view.read (Elt Ideal) (arg9.view.writes (Elt Ideal) arg9.view.junk [⟨Rect.unit (s := S1536x128) ![0, 0] S1536x128.size inb_S1536x128_S1536x128_0_0, k1_pay14 (F := Ideal)⟩]) (ix2 R l) = 0 :=
    (congrFun (View.read_writes_full (Val := Elt Ideal) arg9.view arg9.view.junk inb_S1536x128_S1536x128_0_0 (k1_pay14 (F := Ideal)) []) (ix2 R l)).trans (pay14_at R l)
  refine (congrFun (View.read_writes_of_cover _ _ arg9.view arg9.view.junk _ (cover1_A_8 c i arg1 harg1 arg2 harg2 arg3 harg3 arg4 harg4 arg5 harg5 arg6 harg6 arg7 harg7 arg8 harg8 arg9 harg9 hc0 x0 x1 x2 x3 x4 x5 x6)) _).trans ?_
  refine (congrFun (congrArg (View.read (Elt Ideal) arg9.view) (View.writes_append arg9.view arg9.view.junk _ _)) _).trans ?_
  refine hb.trans ?_
  rw [h0]

theorem outB7_at (hc0 : ¬cond1_0 i) (xo8 : Vec Ideal S1536x128 .f32) (R : Fin 1536) (d : Fin 256) :
    out1_B_7 (F := Ideal) c i arg1 harg1 arg2 harg2 arg3 harg3 arg4 harg4 arg5 harg5 arg6 harg6 arg7 harg7 arg8 harg8 arg9 harg9 hc0 x0 x1 x2 x3 x4 x5 x6 xo8 (ix2 R d) = Z (hv f x3 x5 x4 x6 R d) := by
  have hb := (body_at c i arg1 harg1 arg2 harg2 arg3 harg3 arg4 harg4 arg5 harg5 arg6 harg6 arg7 harg7 arg8 harg8 arg9 harg9 x0 x1 x2 x3 x4 x5 x6 f hf h1 h2 h3 (harg9.unread xo8)).1 R d
  rw [← w12 arg4 harg4 x3, ← w13 arg6 harg6 x5] at hb
  exact (congrFun (View.read_writes_of_cover _ _ arg8.view arg8.view.junk _ (cover1_B_7 c i arg1 harg1 arg2 harg2 arg3 harg3 arg4 harg4 arg5 harg5 arg6 harg6 arg7 harg7 arg8 harg8 arg9 harg9 hc0 x0 x1 x2 x3 x4 x5 x6 xo8)) _).trans hb

theorem outB8_at (hc0 : ¬cond1_0 i) (xo8 : Vec Ideal S1536x128 .f32) (R : Fin 1536) (l : Fin 128) :
    out1_B_8 (F := Ideal) c i arg1 harg1 arg2 harg2 arg3 harg3 arg4 harg4 arg5 harg5 arg6 harg6 arg7 harg7 arg8 harg8 arg9 harg9 hc0 x0 x1 x2 x3 x4 x5 x6 xo8 (ix2 R l) = max (xo8 (ix2 R l)) (max (Z |hv f x3 x5 x4 x6 R (lo128 l)|) (Z |hv f x3 x5 x4 x6 R (hi128 l)|)) := by
  have hb := (body_at c i arg1 harg1 arg2 harg2 arg3 harg3 arg4 harg4 arg5 harg5 arg6 harg6 arg7 harg7 arg8 harg8 arg9 harg9 x0 x1 x2 x3 x4 x5 x6 f hf h1 h2 h3 (harg9.unread xo8)).2 R l
  rw [← w12 arg4 harg4 x3, ← w13 arg6 harg6 x5] at hb
  refine (congrFun (View.read_writes_of_cover _ _ arg9.view (harg9.unread xo8) _ (cover1_B_8 c i arg1 harg1 arg2 harg2 arg3 harg3 arg4 harg4 arg5 harg5 arg6 harg6 arg7 harg7 arg8 harg8 arg9 harg9 hc0 x0 x1 x2 x3 x4 x5 x6 xo8)) _).trans ?_
  refine hb.trans ?_
  rw [harg9.read_unread xo8]

end

/-! ## The arrays -/

variable (V : (c : Dev nD) → (b : Ref sig .tc) → Buf (Elt Ideal) ((c : Thread nD τ).loc b))

theorem idx1 : ∀ t : Fin cfg1.N, win1_0.index t = ![0, 0] ∧ win1_1.index t = ![0, 0] ∧ win1_2.index t = ![0, 0]
    ∧ win1_3.index t = ![0, t.val] ∧ win1_4.index t = ![0, t.val] ∧ win1_5.index t = ![0, t.val] ∧ win1_6.index t = ![0, t.val]
    ∧ win1_7.index t = ![0, t.val] ∧ win1_8.index t = ![0, 0] :=
  (by decide +kernel : ∀ t : Fin grid1.N, _)

/-- The second region's inputs. -/
def xArr (c : Dev nD) : S1536x4096.Idx → EReal := V c main_v1_1
def xmArr (c : Dev nD) : S1536x128.Idx → BitVec 32 := V c main_v1_2
def xkArr (c : Dev nD) : S1536x128.Idx → BitVec 32 := V c main_v1_3
def gArr (c : Dev nD) : S2048x11008.Idx → BitVec 8 := V c main_arg1
def geArr (c : Dev nD) : S1x11008.Idx → BitVec 32 := V c main_v2
def uArr (c : Dev nD) : S2048x11008.Idx → BitVec 8 := V c main_arg3
def ueArr (c : Dev nD) : S1x11008.Idx → BitVec 32 := V c main_v3

theorem N43 : cfg1.N = 43 := N_1
theorem at42 : 42 < cfg1.N := lt_of_lt_of_eq (by norm_num) N43.symm

theorem colAt_lt (t : Fin cfg1.N) (d : Fin 256) : 256 * t.val + d.val < 11008 := by
  have h1 : t.val < 43 := lt_of_lt_of_eq t.isLt N_1
  omega

/-- The array's column of column `d` of point `t`'s block. -/
def colAt (t : Fin cfg1.N) (d : Fin 256) : Fin 11008 := ⟨256 * t.val + d.val, colAt_lt t d⟩

theorem pblk0 (c : Dev nD) (t : Fin cfg1.N) (R : Fin 1536) (x : Fin 4096) :
    (iblk1 V c 0 t : S1536x4096.Idx → EReal) (ix2 R x) = xArr V c (ix2 R x) := by
  blk_ext [iblk1, xArr, idx1 t]
theorem pblk1 (c : Dev nD) (t : Fin cfg1.N) (R : Fin 1536) (x : Fin 128) :
    (iblk1 V c 1 t : S1536x128.Idx → BitVec 32) (ix2 R x) = xmArr V c (ix2 R x) := by
  blk_ext [iblk1, xmArr, idx1 t]
theorem pblk2 (c : Dev nD) (t : Fin cfg1.N) (R : Fin 1536) (x : Fin 128) :
    (iblk1 V c 2 t : S1536x128.Idx → BitVec 32) (ix2 R x) = xkArr V c (ix2 R x) := by
  blk_ext [iblk1, xkArr, idx1 t]
theorem pblk3 (c : Dev nD) (t : Fin cfg1.N) (j : Fin 2048) (d : Fin 256) :
    (iblk1 V c 3 t : S2048x256.Idx → BitVec 8) (ix2 j d) = gArr V c (ix2 j (colAt t d)) := by
  blk_ext [iblk1, gArr, idx1 t, colAt]
theorem pblk4 (c : Dev nD) (t : Fin cfg1.N) (d : Fin 256) :
    (iblk1 V c 4 t : S1x256.Idx → BitVec 32) (ix2 0 d) = geArr V c (ix2 0 (colAt t d)) := by
  blk_ext [iblk1, geArr, idx1 t, colAt]
theorem pblk5 (c : Dev nD) (t : Fin cfg1.N) (j : Fin 2048) (d : Fin 256) :
    (iblk1 V c 5 t : S2048x256.Idx → BitVec 8) (ix2 j d) = uArr V c (ix2 j (colAt t d)) := by
  blk_ext [iblk1, uArr, idx1 t, colAt]
theorem pblk6 (c : Dev nD) (t : Fin cfg1.N) (d : Fin 256) :
    (iblk1 V c 6 t : S1x256.Idx → BitVec 32) (ix2 0 d) = ueArr V c (ix2 0 (colAt t d)) := by
  blk_ext [iblk1, ueArr, idx1 t, colAt]

/-- The hidden values of every row and column. -/
def hid (f : Fin 1536 → Fin 4096 → ℤ) (g : S2048x11008.Idx → BitVec 8) (ge : S1x11008.Idx → BitVec 32)
    (u : S2048x11008.Idx → BitVec 8) (ue : S1x11008.Idx → BitVec 32) (R : Fin 1536) (j : Fin 11008) : ℤ :=
  hval (f R) (fun k => g (ix2 k j)) (ge (ix2 0 j)) (fun k => u (ix2 k j)) (ue (ix2 0 j))

/-- The hidden values, of the region's inputs. -/
abbrev hidV (f : Fin 1536 → Fin 4096 → ℤ) (c : Dev nD) : Fin 1536 → Fin 11008 → ℤ := hid f (gArr V c) (geArr V c) (uArr V c) (ueArr V c)

theorem hv_blk (f : Fin 1536 → Fin 4096 → ℤ) (c : Dev nD) (t : Fin cfg1.N) (R : Fin 1536) (d : Fin 256) :
    hv f (iblk1 V c 3 t) (iblk1 V c 5 t) (iblk1 V c 4 t) (iblk1 V c 6 t) R d = hidV V f c R (colAt t d) := by
  unfold hv hidV hid
  rw [show (fun j => (iblk1 V c 3 t : S2048x256.Idx → BitVec 8) (ix2 j d)) = _ from funext fun j => pblk3 V c t j d,
    show (fun j => (iblk1 V c 5 t : S2048x256.Idx → BitVec 8) (ix2 j d)) = _ from funext fun j => pblk5 V c t j d,
    pblk4, pblk6]

variable (f : Fin 1536 → Fin 4096 → ℤ) (hf : ∀ R, Small (f R)) (c : Dev nD)
  (hx : xArr V c = codesZ f) (hm : xmArr V c = mants f) (hk : xkArr V c = expos f)

include hf hx hm hk

theorem outs7_at (t : Fin cfg1.N) (R : Fin 1536) (d : Fin 256) :
    (outsAt1 V c t.val t.isLt).1 (ix2 R d) = Z (hidV V f c R (colAt t d)) := by
  by_cases h0 : t.val % 43 = 0
  · rw [outsAt1_A V c t h0, ← hv_blk]
    exact outA7_at c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (iblk1 V c 6 t) f hf (fun R x => (pblk0 V c t R x).trans (congrFun hx _)) (fun R => (pblk1 V c t R 0).trans (congrFun hm _)) (fun R => (pblk2 V c t R 0).trans (congrFun hk _)) ((hcond1_0 t).mpr h0) R d
  · rw [outsAt1_B V c t h0, ← hv_blk]
    exact outB7_at c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (iblk1 V c 6 t) f hf (fun R x => (pblk0 V c t R x).trans (congrFun hx _)) (fun R => (pblk1 V c t R 0).trans (congrFun hm _)) (fun R => (pblk2 V c t R 0).trans (congrFun hk _)) (fun h => h0 ((hcond1_0 t).mp h)) _ R d

theorem outs8_A (t : Fin cfg1.N) (h0 : t.val % 43 = 0) (R : Fin 1536) (l : Fin 128) :
    (outsAt1 V c t.val t.isLt).2 (ix2 R l) = max 0 (max (Z |hidV V f c R (colAt t (lo128 l))|) (Z |hidV V f c R (colAt t (hi128 l))|)) := by
  rw [outsAt1_A V c t h0, ← hv_blk, ← hv_blk]
  exact outA8_at c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (iblk1 V c 6 t) f hf (fun R x => (pblk0 V c t R x).trans (congrFun hx _)) (fun R => (pblk1 V c t R 0).trans (congrFun hm _)) (fun R => (pblk2 V c t R 0).trans (congrFun hk _)) ((hcond1_0 t).mpr h0) R l

theorem outs8_B (t : Fin cfg1.N) (h0 : ¬ t.val % 43 = 0) (R : Fin 1536) (l : Fin 128) :
    (outsAt1 V c t.val t.isLt).2 (ix2 R l) = max ((outsAt1 V c (t.val - 1) (Nat.lt_of_le_of_lt (Nat.sub_le _ _) t.isLt)).2 (ix2 R l))
      (max (Z |hidV V f c R (colAt t (lo128 l))|) (Z |hidV V f c R (colAt t (hi128 l))|)) := by
  rw [outsAt1_B V c t h0, ← hv_blk, ← hv_blk]
  exact outB8_at c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (iblk1 V c 6 t) f hf (fun R x => (pblk0 V c t R x).trans (congrFun hx _)) (fun R => (pblk1 V c t R 0).trans (congrFun hm _)) (fun R => (pblk2 V c t R 0).trans (congrFun hk _)) (fun h => h0 ((hcond1_0 t).mp h)) _ R l

/-- After point `n` a lane's maximum bounds what its columns' magnitudes so far bound. -/
theorem lanes_upto (R : Fin 1536) (l : Fin 128) (y : EReal) (n : ℕ) (hn : n < cfg1.N) :
    (outsAt1 V c n hn).2 (ix2 R l) ≤ y ↔ 0 ≤ y ∧ ∀ j : Fin 11008, j.val < 256 * (n + 1) → j.val % 128 = l.val → Z |hidV V f c R j| ≤ y := by
  have hlt := N43
  have two : ∀ (t : Fin cfg1.N) (P : Fin 11008 → Prop), (∀ j : Fin 11008, j.val < 256 * (t.val + 1) → j.val % 128 = l.val → P j)
      ↔ (∀ j : Fin 11008, j.val < 256 * t.val → j.val % 128 = l.val → P j) ∧ P (colAt t (lo128 l)) ∧ P (colAt t (hi128 l)) := by
    intro t P
    have hl := l.isLt
    constructor
    · intro h
      refine ⟨fun j hj hm => h j (by omega) hm, h _ ?_ ?_, h _ ?_ ?_⟩
      · show 256 * t.val + l.val < _; omega
      · show (256 * t.val + l.val) % 128 = _; omega
      · show 256 * t.val + (128 + l.val) < _; omega
      · show (256 * t.val + (128 + l.val)) % 128 = _; omega
    · rintro ⟨h, hlo, hhi⟩ j hj hm
      by_cases hj2 : j.val < 256 * t.val
      · exact h j hj2 hm
      · by_cases hj3 : j.val < 256 * t.val + 128
        · have : j = colAt t (lo128 l) := Fin.ext (by show j.val = 256 * t.val + l.val; omega)
          rw [this]; exact hlo
        · have : j = colAt t (hi128 l) := Fin.ext (by show j.val = 256 * t.val + (128 + l.val); omega)
          rw [this]; exact hhi
  induction n with
  | zero =>
    rw [outs8_A V f hf c hx hm hk ⟨0, hn⟩ rfl, max_le_iff, max_le_iff, two ⟨0, hn⟩]
    refine and_congr Iff.rfl ⟨fun h => ⟨fun j hj => absurd hj (by show ¬ j.val < 256 * 0; omega), h⟩, fun h => h.2⟩
  | succ n ih =>
    have hB := outs8_B V f hf c hx hm hk ⟨n + 1, hn⟩ (by show ¬ (n + 1) % 43 = 0; omega) R l
    rw [show (outsAt1 V c (n + 1) hn).2 (ix2 R l) = _ from hB, max_le_iff, max_le_iff, two ⟨n + 1, hn⟩]
    refine (and_congr (ih (by omega)) Iff.rfl).trans ?_
    rw [and_assoc]

theorem hid_arr : (dat1 V c).arrAt 7 cfg1.N = (fun i => Z (hidV V f c (i 0) (i 1)) : S1536x11008.Idx → EReal) := by
  refine (dat1 V c).arrAt_eq_of_covers 7 _ (by decide +kernel) fun t _ y => ?_
  blk_simp
  rw [after1_7, eq_ix2 y]
  refine (outs7_at V f hf c hx hm hk t (y 0) (y 1)).trans ?_
  have e0 : (((cfg1.win 7).blk t).view.emb (ix2 (y 0) (y 1) : S1536x256.Idx)) 0 = y 0 := by
    apply Fin.ext
    blk_simp [idx1 t]
  have e1 : (((cfg1.win 7).blk t).view.emb (ix2 (y 0) (y 1) : S1536x256.Idx)) 1 = colAt t (y 1) := by
    apply Fin.ext
    blk_simp [idx1 t, colAt]
    show t.val * 256 + (y 1).val = 256 * t.val + (y 1).val
    omega
  exact congrArg Z (congrArg₂ (hidV V f c) e0.symm e1.symm)

theorem lane_arr : Lanes ((dat1 V c).arrAt 8 cfg1.N) (hidV V f c) := by
  have e : (dat1 V c).arrAt 8 cfg1.N = ((outsAt1 V c 42 at42).2 : S1536x128.Idx → EReal) := by
    refine (dat1 V c).arrAt_eq_of_after_last 8 ⟨42, at42⟩ (by decide +kernel) _ fun j => ?_
    rw [after1_8]
    rfl
  intro R l y
  rw [e]
  refine (lanes_upto V f hf c hx hm hk R l y 42 _).trans (and_congr Iff.rfl ⟨fun h j hm => h j (by have := j.isLt; omega) hm, fun h j _ hm => h j hm⟩)

end Cert.KernelIdeal.Value

end
-- ==== Proof.Value.HostOut.lean ====
/- The host's reshapes and slices before, between and after the three regions, at each index. -/
module

public import proofs.«01_k».proof.Proof.Gen.KernelIdeal.Launch
public import proofs.«01_k».proof.Proof.Arith.Dot
public import Idealize.ShloMosaic.Lib.Claim
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen Cert.Num

/-- The flattened row of batch `a`, position `b`. -/
def rowOf (a : Fin 3) (b : Fin 512) : Fin 1536 := ⟨a.val * 512 + b.val, by omega⟩

theorem rowOf_surj (R : Fin 1536) : ∃ a b, R = rowOf a b :=
  ⟨⟨R.val / 512, by omega⟩, ⟨R.val % 512, by omega⟩, Fin.ext (by show R.val = R.val / 512 * 512 + R.val % 512; omega)⟩

variable (V : Valuation τ sig (Elt Ideal))

theorem flat_x (x : S3x512x4096.Idx → BitVec 32) (a : Fin 3) (b : Fin 512) (j : Fin 4096) :
    shapeCast S1536x4096 x shapeCasts_S3x512x4096_S1536x4096 (ix2 (rowOf a b) j) = x (ix3 a b j) := by
  pointwise [rowOf]
theorem split_x {α : Type} (x : S1536x4096.Idx → α) (a : Fin 3) (b : Fin 512) (j : Fin 4096) :
    shapeCast S3x512x4096 x shapeCasts_S1536x4096_S3x512x4096 (ix3 a b j) = x (ix2 (rowOf a b) j) := by
  pointwise [rowOf]
theorem split_h {α : Type} (x : S1536x11008.Idx → α) (a : Fin 3) (b : Fin 512) (j : Fin 11008) :
    shapeCast S3x512x11008 x shapeCasts_S1536x11008_S3x512x11008 (ix3 a b j) = x (ix2 (rowOf a b) j) := by
  pointwise [rowOf]
theorem split_s {α : Type} (x : S1536x128.Idx → α) (a : Fin 3) (b : Fin 512) :
    shapeCast S3x512 (shapeCast S1536 (extractStridedSlice S1536x1 ![0, 0] x slices_S1536x128_S1536x1_0_0) shapeCasts_S1536x1_S1536) shapeCasts_S1536_S3x512 (ix2 a b) = x (ix2 (rowOf a b) 0) := by
  pointwise [rowOf]
theorem lift_e {α : Type} (x : S11008.Idx → α) (j : Fin 11008) :
    shapeCast S1x11008 x shapeCasts_S11008_S1x11008 (ix2 0 j) = x (ix1 j) := by
  pointwise

theorem v0_at (a : Fin 3) (b : Fin 512) (j : Fin 4096) :
    (StableHlo.after (hostOps0 (F := Ideal)) V (Proc.devRef .tc main_v0) : S1536x4096.Idx → BitVec 32) (ix2 (rowOf a b) j)
      = (V (Proc.devRef .tc main_arg0) : S3x512x4096.Idx → BitVec 32) (ix3 a b j) := by
  entry_read
  exact flat_x _ a b j
theorem v2_at (j : Fin 11008) :
    (StableHlo.after (hostOps1 (F := Ideal)) V (Proc.devRef .tc main_v2) : S1x11008.Idx → BitVec 32) (ix2 0 j)
      = (V (Proc.devRef .tc main_arg2) : S11008.Idx → BitVec 32) (ix1 j) := by
  entry_read
  exact lift_e _ j
theorem v3_at (j : Fin 11008) :
    (StableHlo.after (hostOps1 (F := Ideal)) V (Proc.devRef .tc main_v3) : S1x11008.Idx → BitVec 32) (ix2 0 j)
      = (V (Proc.devRef .tc main_arg4) : S11008.Idx → BitVec 32) (ix1 j) := by
  entry_read
  exact lift_e _ j
theorem v6_at (a : Fin 3) (b : Fin 512) (j : Fin 11008) :
    (StableHlo.after (hostOps3 (F := Ideal)) V (Proc.devRef .tc main_v6) : S3x512x11008.Idx → BitVec 8) (ix3 a b j)
      = (V (Proc.devRef .tc main_v5_0) : S1536x11008.Idx → BitVec 8) (ix2 (rowOf a b) j) := by
  entry_read
  exact split_h _ a b j
theorem v9_at (a : Fin 3) (b : Fin 512) :
    (StableHlo.after (hostOps3 (F := Ideal)) V (Proc.devRef .tc main_v9) : S3x512.Idx → BitVec 32) (ix2 a b)
      = (V (Proc.devRef .tc main_v5_1) : S1536x128.Idx → BitVec 32) (ix2 (rowOf a b) 0) := by
  entry_read
  exact split_s _ a b
theorem v12_at (a : Fin 3) (b : Fin 512) :
    (StableHlo.after (hostOps3 (F := Ideal)) V (Proc.devRef .tc main_v12) : S3x512.Idx → BitVec 32) (ix2 a b)
      = (V (Proc.devRef .tc main_v5_2) : S1536x128.Idx → BitVec 32) (ix2 (rowOf a b) 0) := by
  entry_read
  exact split_s _ a b
theorem v13_at (a : Fin 3) (b : Fin 512) (j : Fin 4096) :
    (StableHlo.after (hostOps3 (F := Ideal)) V (Proc.devRef .tc main_v13) : S3x512x4096.Idx → BitVec 8) (ix3 a b j)
      = (V (Proc.devRef .tc main_v1_0) : S1536x4096.Idx → BitVec 8) (ix2 (rowOf a b) j) := by
  entry_read
  exact split_x _ a b j
theorem v16_at (a : Fin 3) (b : Fin 512) :
    (StableHlo.after (hostOps3 (F := Ideal)) V (Proc.devRef .tc main_v16) : S3x512.Idx → BitVec 32) (ix2 a b)
      = (V (Proc.devRef .tc main_v1_2) : S1536x128.Idx → BitVec 32) (ix2 (rowOf a b) 0) := by
  entry_read
  exact split_s _ a b
theorem v19_at (a : Fin 3) (b : Fin 512) :
    (StableHlo.after (hostOps3 (F := Ideal)) V (Proc.devRef .tc main_v19) : S3x512.Idx → BitVec 32) (ix2 a b)
      = (V (Proc.devRef .tc main_v1_3) : S1536x128.Idx → BitVec 32) (ix2 (rowOf a b) 0) := by
  entry_read
  exact split_s _ a b

end Cert.KernelIdeal.Value

end
-- ==== Proof.Arith.Spec.lean ====
/- The six results as functions of the five arguments, over the integers: what both programs are shown to compute. -/
module

public import proofs.«01_k».proof.Proof.Arith.Dot
public import Idealize.ShloMosaic.Lib.ValueIdxCore

@[expose] public section

noncomputable section

namespace Cert.Num

open Idealize.ShloMosaic

/-- The shapes of the arguments and of the results. -/
abbrev SX : Shape := ⟨3, ![3, 512, 4096]⟩
abbrev SH : Shape := ⟨3, ![3, 512, 11008]⟩
abbrev SR : Shape := ⟨2, ![3, 512]⟩
abbrev SW : Shape := ⟨2, ![2048, 11008]⟩
abbrev SE : Shape := ⟨1, ![11008]⟩

/-- A row of the input, as integers. -/
def xrow (x : SX.Idx → BitVec 32) (a : Fin 3) (b : Fin 512) : Fin 4096 → ℤ := fun j => (x (ix3 a b j)).toInt

/-- A row of hidden values, as integers. -/
def hrow (x : SX.Idx → BitVec 32) (g : SW.Idx → BitVec 8) (ge : SE.Idx → BitVec 32) (u : SW.Idx → BitVec 8) (ue : SE.Idx → BitVec 32)
    (a : Fin 3) (b : Fin 512) : Fin 11008 → ℤ :=
  fun j => hval (xrow x a b) (fun k => g (ix2 k j)) (ge (ix1 j)) (fun k => u (ix2 k j)) (ue (ix1 j))

def xCodes (x : SX.Idx → BitVec 32) : SX.Idx → BitVec 8 := fun i => (B (rowCode (xrow x (i 0) (i 1)) (i 2))).setWidth 8
def xMant (x : SX.Idx → BitVec 32) : SR.Idx → BitVec 32 := fun i => B (mant (rowMax (xrow x (i 0) (i 1))))
def xExpo (x : SX.Idx → BitVec 32) : SR.Idx → BitVec 32 := fun i => expo (rowMax (xrow x (i 0) (i 1)))

def hCodes (x : SX.Idx → BitVec 32) (g : SW.Idx → BitVec 8) (ge : SE.Idx → BitVec 32) (u : SW.Idx → BitVec 8) (ue : SE.Idx → BitVec 32) :
    SH.Idx → BitVec 8 := fun i => (B (rowCode (hrow x g ge u ue (i 0) (i 1)) (i 2))).setWidth 8
def hMant (x : SX.Idx → BitVec 32) (g : SW.Idx → BitVec 8) (ge : SE.Idx → BitVec 32) (u : SW.Idx → BitVec 8) (ue : SE.Idx → BitVec 32) :
    SR.Idx → BitVec 32 := fun i => B (mant (rowMax (hrow x g ge u ue (i 0) (i 1))))
def hExpo (x : SX.Idx → BitVec 32) (g : SW.Idx → BitVec 8) (ge : SE.Idx → BitVec 32) (u : SW.Idx → BitVec 8) (ue : SE.Idx → BitVec 32) :
    SR.Idx → BitVec 32 := fun i => expo (rowMax (hrow x g ge u ue (i 0) (i 1)))

/-- The inputs are of magnitude at most `2^23 - 1`. -/
abbrev InRange (x : SX.Idx → BitVec 32) : Prop := ∀ i, -8388607 ≤ (x i).toInt ∧ (x i).toInt ≤ 8388607

theorem xrow_small {x : SX.Idx → BitVec 32} (h : InRange x) (a : Fin 3) (b : Fin 512) (j : Fin 4096) :
    -8388607 ≤ xrow x a b j ∧ xrow x a b j ≤ 8388607 := h _

theorem hrow_small (x : SX.Idx → BitVec 32) (g : SW.Idx → BitVec 8) (ge : SE.Idx → BitVec 32) (u : SW.Idx → BitVec 8) (ue : SE.Idx → BitVec 32)
    (a : Fin 3) (b : Fin 512) (j : Fin 11008) : -8388607 ≤ hrow x g ge u ue a b j ∧ hrow x g ge u ue a b j ≤ 8388607 := hval_range _ _ _ _ _

end Cert.Num

end
-- ==== Proof.Value.KernelOut.lean ====
/- What the kernel's program leaves in its six results. -/
module

public import proofs.«01_k».proof.Proof.Ideal.Frame
public import proofs.«01_k».proof.Proof.Value.ProjOut
public import proofs.«01_k».proof.Proof.Value.HostOut
public import proofs.«01_k».proof.Proof.Arith.Spec

@[expose] public section

set_option maxRecDepth 16384

noncomputable section

namespace Cert.KernelIdeal.Value

open Idealize.ShloMosaic Idealize.ShloMosaic.TcCoe Idealize.SL.Sem
open Cert.KernelIdeal Cert.KernelIdeal.Gen Cert.Num

variable (m : (ℓ : Loc nD τ sig) → Buf (Elt Ideal) ℓ) (ρ : Dev nD → PrngReg) (c : Dev nD)

/-- The arguments. -/
def aX : SX.Idx → BitVec 32 := m ((c : Thread nD τ).loc main_arg0)
def aG : SW.Idx → BitVec 8 := m ((c : Thread nD τ).loc main_arg1)
def aGe : SE.Idx → BitVec 32 := m ((c : Thread nD τ).loc main_arg2)
def aU : SW.Idx → BitVec 8 := m ((c : Thread nD τ).loc main_arg3)
def aUe : SE.Idx → BitVec 32 := m ((c : Thread nD τ).loc main_arg4)

theorem rowX_eq (a : Fin 3) (b : Fin 512) : rowX (V1 m ρ) c (rowOf a b) = xrow (aX m c) a b :=
  funext fun j => congrArg BitVec.toInt (v0_at (W0 m ρ c) a b j)

/-- The hidden rows, flattened. -/
def hidW (R : Fin 1536) (j : Fin 11008) : ℤ := hidV (V3 m ρ) (rowX (V1 m ρ) c) c R j

theorem gArr_eq (k : Fin 2048) (j : Fin 11008) : gArr (V3 m ρ) c (ix2 k j) = aG m c (ix2 k j) :=
  congrFun (W3_args m ρ c main_arg1 (by decide)) _
theorem uArr_eq (k : Fin 2048) (j : Fin 11008) : uArr (V3 m ρ) c (ix2 k j) = aU m c (ix2 k j) :=
  congrFun (W3_args m ρ c main_arg3 (by decide)) _
theorem geArr_eq (j : Fin 11008) : geArr (V3 m ρ) c (ix2 0 j) = aGe m c (ix1 j) :=
  (v2_at (W2 m ρ c) j).trans (congrFun (W2_args m ρ c main_arg2 (by decide)) _)
theorem ueArr_eq (j : Fin 11008) : ueArr (V3 m ρ) c (ix2 0 j) = aUe m c (ix1 j) :=
  (v3_at (W2 m ρ c) j).trans (congrFun (W2_args m ρ c main_arg4 (by decide)) _)

theorem hidW_eq (a : Fin 3) (b : Fin 512) : hidW m ρ c (rowOf a b) = hrow (aX m c) (aG m c) (aGe m c) (aU m c) (aUe m c) a b := by
  funext j
  unfold hidW hidV hid hrow
  rw [rowX_eq m ρ c a b, geArr_eq m ρ c j, ueArr_eq m ρ c j, funext fun k => gArr_eq m ρ c k j, funext fun k => uArr_eq m ρ c k j]

theorem hidW_small (R : Fin 1536) : Small (hidW m ρ c R) := fun j => hval_range _ _ _ _ _

section
variable (hX : ∀ c, InRange (aX m c))
include hX

theorem rowX_small (c : Dev nD) (R : Fin 1536) : Small (rowX (V1 m ρ) c R) := by
  obtain ⟨a, b, rfl⟩ := rowOf_surj R
  rw [rowX_eq]
  exact fun j => hX c _

theorem res_v1_0 : (W2 m ρ c (Proc.devRef .tc main_v1_0) : S1536x4096.Idx → BitVec 8) = codes8 (rowX (V1 m ρ) c) :=
  (W2_arr m ρ c 1).trans (x_codes (V1 m ρ) (rowX_small m ρ hX) c)
theorem res_v1_1 : (W2 m ρ c (Proc.devRef .tc main_v1_1) : S1536x4096.Idx → EReal) = codesZ (rowX (V1 m ρ) c) :=
  (W2_arr m ρ c 2).trans (x_rows (V1 m ρ) (rowX_small m ρ hX) c)
theorem res_v1_2 : (W2 m ρ c (Proc.devRef .tc main_v1_2) : S1536x128.Idx → BitVec 32) = mants (rowX (V1 m ρ) c) :=
  (W2_arr m ρ c 3).trans (x_mant (V1 m ρ) (rowX_small m ρ hX) c)
theorem res_v1_3 : (W2 m ρ c (Proc.devRef .tc main_v1_3) : S1536x128.Idx → BitVec 32) = expos (rowX (V1 m ρ) c) :=
  (W2_arr m ρ c 4).trans (x_expo (V1 m ρ) (rowX_small m ρ hX) c)

theorem in_x : xArr (V3 m ρ) c = codesZ (rowX (V1 m ρ) c) := (W3_of m ρ c main_v1_1 (by decide)).trans (res_v1_1 m ρ c hX)
theorem in_m : xmArr (V3 m ρ) c = mants (rowX (V1 m ρ) c) := (W3_of m ρ c main_v1_2 (by decide)).trans (res_v1_2 m ρ c hX)
theorem in_k : xkArr (V3 m ρ) c = expos (rowX (V1 m ρ) c) := (W3_of m ρ c main_v1_3 (by decide)).trans (res_v1_3 m ρ c hX)

theorem in_h : hArr (V4 m ρ) c = fun i => Z (hidW m ρ c (i 0) (i 1)) :=
  (W4_arr m ρ c 7).trans (hid_arr (V3 m ρ) (rowX (V1 m ρ) c) (rowX_small m ρ hX c) c (in_x m ρ c hX) (in_m m ρ c hX) (in_k m ρ c hX))

theorem in_lanes : Lanes (mArr (V4 m ρ) c) (hidW m ρ c) := by
  have e : mArr (V4 m ρ) c = (dat1 (V3 m ρ) c).arrAt 8 cfg1.N := W4_arr m ρ c 8
  rw [e]
  exact lane_arr (V3 m ρ) (rowX (V1 m ρ) c) (rowX_small m ρ hX c) c (in_x m ρ c hX) (in_m m ρ c hX) (in_k m ρ c hX)

theorem res_v5_0 : (W5 m ρ c (Proc.devRef .tc main_v5_0) : S1536x11008.Idx → BitVec 8) = hcodes8 (hidW m ρ c) :=
  (W5_arr m ρ c 2).trans (h_codes (V4 m ρ) (hidW m ρ c) (hidW_small m ρ c) c (in_h m ρ c hX) (in_lanes m ρ c hX))
theorem res_v5_1 : (W5 m ρ c (Proc.devRef .tc main_v5_1) : S1536x128.Idx → BitVec 32) = mants (hidW m ρ c) :=
  (W5_arr m ρ c 3).trans (h_mant (V4 m ρ) (hidW m ρ c) (hidW_small m ρ c) c (in_lanes m ρ c hX))
theorem res_v5_2 : (W5 m ρ c (Proc.devRef .tc main_v5_2) : S1536x128.Idx → BitVec 32) = expos (hidW m ρ c) :=
  (W5_arr m ρ c 4).trans (h_expo (V4 m ρ) (hidW m ρ c) (hidW_small m ρ c) c (in_lanes m ρ c hX))

/-- The first region's results reach the last host stretch as that region left them. -/
theorem keep (r : Ref sig .tc) (h3 : r ∉ hostOps1_W)
    (h4 : ∀ w : Fin cfg1.W, Pipeline.arrRef spec1 w = r → (cfg1.win w).isOut = false)
    (h5 : ∀ w : Fin cfg2.W, Pipeline.arrRef spec2 w = r → (cfg2.win w).isOut = false) :
    W5 m ρ c (Proc.devRef .tc r) = W2 m ρ c (Proc.devRef .tc r) :=
  (W5_of m ρ c r h5).trans ((W4_of m ρ c r h4).trans (W3_of m ρ c r h3))

/-! ## The results -/

theorem k_x_codes : (W6 m ρ c (Proc.devRef .tc main_v13) : SX.Idx → BitVec 8) = xCodes (aX m c) := by
  funext i
  rw [eq_ix3 i]
  refine (v13_at (W5 m ρ c) (i 0) (i 1) (i 2)).trans ?_
  refine (congrFun ((keep m ρ c hX main_v1_0 (by decide) (by decide +kernel) (by decide +kernel)).trans (res_v1_0 m ρ c hX)) _).trans ?_
  exact congrArg (fun f => (B (rowCode f (i 2))).setWidth 8) (rowX_eq m ρ c (i 0) (i 1))

theorem k_x_mant : (W6 m ρ c (Proc.devRef .tc main_v16) : SR.Idx → BitVec 32) = xMant (aX m c) := by
  funext i
  rw [eq_ix2 i]
  refine (v16_at (W5 m ρ c) (i 0) (i 1)).trans ?_
  refine (congrFun ((keep m ρ c hX main_v1_2 (by decide) (by decide +kernel) (by decide +kernel)).trans (res_v1_2 m ρ c hX)) _).trans ?_
  exact congrArg (fun f => B (mant (rowMax f))) (rowX_eq m ρ c (i 0) (i 1))

theorem k_x_expo : (W6 m ρ c (Proc.devRef .tc main_v19) : SR.Idx → BitVec 32) = xExpo (aX m c) := by
  funext i
  rw [eq_ix2 i]
  refine (v19_at (W5 m ρ c) (i 0) (i 1)).trans ?_
  refine (congrFun ((keep m ρ c hX main_v1_3 (by decide) (by decide +kernel) (by decide +kernel)).trans (res_v1_3 m ρ c hX)) _).trans ?_
  exact congrArg (fun f => expo (rowMax f)) (rowX_eq m ρ c (i 0) (i 1))

theorem k_h_codes : (W6 m ρ c (Proc.devRef .tc main_v6) : SH.Idx → BitVec 8) = hCodes (aX m c) (aG m c) (aGe m c) (aU m c) (aUe m c) := by
  funext i
  rw [eq_ix3 i]
  refine (v6_at (W5 m ρ c) (i 0) (i 1) (i 2)).trans ?_
  refine (congrFun (res_v5_0 m ρ c hX) _).trans ?_
  exact congrArg (fun f => (B (rowCode f (i 2))).setWidth 8) (hidW_eq m ρ c (i 0) (i 1))

theorem k_h_mant : (W6 m ρ c (Proc.devRef .tc main_v9) : SR.Idx → BitVec 32) = hMant (aX m c) (aG m c) (aGe m c) (aU m c) (aUe m c) := by
  funext i
  rw [eq_ix2 i]
  refine (v9_at (W5 m ρ c) (i 0) (i 1)).trans ?_
  refine (congrFun (res_v5_1 m ρ c hX) _).trans ?_
  exact congrArg (fun f => B (mant (rowMax f))) (hidW_eq m ρ c (i 0) (i 1))

theorem k_h_expo : (W6 m ρ c (Proc.devRef .tc main_v12) : SR.Idx → BitVec 32) = hExpo (aX m c) (aG m c) (aGe m c) (aU m c) (aUe m c) := by
  funext i
  rw [eq_ix2 i]
  refine (v12_at (W5 m ρ c) (i 0) (i 1)).trans ?_
  refine (congrFun (res_v5_2 m ρ c hX) _).trans ?_
  exact congrArg (fun f => expo (rowMax f)) (hidW_eq m ρ c (i 0) (i 1))

end

end Cert.KernelIdeal.Value

end
-- ==== Proof.Value.RefRow.lean ====
/- The reference's scale and codes of the input rows. -/
module

public import proofs.«01_k».proof.Proof.Gen.ReferenceIdeal.Read
public import proofs.«01_k».proof.Proof.Arith.Spec
public import Idealize.ShloMosaic.Lib.Pipeline.ValueKit

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.ReferenceIdeal.Read Cert.Num

theorem signi_at {s : Shape} (x : s.Idx → BitVec 32) (i : s.Idx) : signi x i = sgn (x i) := rfl

/-- The row's largest magnitude, as the reference folds it. -/
def foldMax {n : ℕ} (f : Fin n → BitVec 32) : BitVec 32 :=
  IntOp.maxsi (Finset.fold IntOp.maxsi 2147483648#32 (fun k => IntOp.absi (f k)) Finset.univ) 1#32
/-- The left shift that brings the largest magnitude to 23 bits. -/
def shOf (a : BitVec 32) : BitVec 32 := IntOp.subi 23#32 (IntOp.subi 32#32 (IntOp.ctlz a))
/-- The mantissa, and the exponent. -/
def mantOf (a : BitVec 32) : BitVec 32 := fdiv (IntOp.addi (IntOp.shli .host a (shOf a)) 16256#32) 32512#32
def expoOf (a : BitVec 32) : BitVec 32 := IntOp.addi (IntOp.subi 15#32 (IntOp.subi 32#32 (IntOp.ctlz a))) 10#32

theorem B_self (x : BitVec 32) : B x.toInt = x := B_toInt x

theorem foldMax_eq {n : ℕ} (f : Fin n → ℤ) (h : ∀ c, -8388607 ≤ f c ∧ f c ≤ 8388607) : foldMax (fun c => B (f c)) = B (rowMax f : ℤ) :=
  r_rowMax f (fun c => fits_small (by have := h c; omega)) h
theorem shOf_eq {a : ℕ} (h1 : 1 ≤ a) (h2 : a < 8388608) : shOf (B a) = BitVec.ofNat 32 (sh a) := by
  have hl := len_le h1 h2
  unfold shOf sh
  rw [show IntOp.subi 32#32 (IntOp.ctlz (B a)) = _ from k_len h1 h2]
  exact BitVec.ofNat_sub_ofNat_of_le 23 (len a) (by omega) hl
theorem mantOf_eq {a : ℕ} (h1 : 1 ≤ a) (h2 : a < 8388608) : mantOf (B a) = B (mant a) := by
  unfold mantOf
  rw [shOf_eq h1 h2]
  exact r_mant h1 h2
theorem expoOf_eq {a : ℕ} (h1 : 1 ≤ a) (h2 : a < 8388608) : expoOf (B a) = expo a := by
  unfold expoOf expo
  rw [show IntOp.subi 32#32 (IntOp.ctlz (B a)) = _ from k_len h1 h2]

section
variable (x0 : SX.Idx → BitVec 32) (a : Fin 3) (b : Fin 512) (j : Fin 4096)

theorem v3_at : val_main_v3 (F := Ideal) x0 (ix2 a b)
    = foldMax (fun j => x0 (ix3 a b j)) := by
  pointwise [val_main_v0, val_main_c, val_main_v1, val_main_c_0, val_main_v2, val_main_v3]
  rfl
theorem v8_at : val_main_v8 (F := Ideal) x0 (ix2 a b)
    = shOf (val_main_v3 (F := Ideal) x0 (ix2 a b)) := by
  pointwise [val_main_v4, val_main_c_1, val_main_v5, val_main_v6, val_main_c_2, val_main_v7, val_main_v8]
  rfl
theorem v12_at : val_main_v12 (F := Ideal) x0 (ix2 a b)
    = mantOf (val_main_v3 (F := Ideal) x0 (ix2 a b)) := by
  pointwise [val_main_v4, val_main_c_1, val_main_v5, val_main_v6, val_main_c_2, val_main_v7, val_main_v8, val_main_v9, val_main_c_3, val_main_v10, val_main_v11, val_main_c_4, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v12]
  rfl
theorem v16_at : val_main_v16 (F := Ideal) x0 (ix2 a b)
    = expoOf (val_main_v3 (F := Ideal) x0 (ix2 a b)) := by
  pointwise [val_main_v4, val_main_c_1, val_main_v5, val_main_v6, val_main_c_5, val_main_v13, val_main_v14, val_main_c_6, val_main_v15, val_main_v16]
  rfl
theorem v30_at : val_main_v30 (F := Ideal) x0 (ix3 a b j)
    = rCode (x0 (ix3 a b j)) (val_main_v8 (F := Ideal) x0 (ix2 a b)) (val_main_v12 (F := Ideal) x0 (ix2 a b)) := by
  pointwise [val_main_v0, val_main_c_7, val_main_v17, val_main_v18, val_main_v19, val_main_v20, val_main_v21, val_main_v22, val_main_c_8, val_main_v23, val_main_v24, val_main_v25, val_main_v26, val_main_call1_v0, val_main_call1_v1, val_main_call1_v2, val_main_call1_v3, val_main_call1_v4, val_main_call1_v5, val_main_call1_v6, val_main_call1_v7, val_main_call1_c, val_main_call1_v8, val_main_call1_v9, val_main_call1_v10, val_main_call1_c_0, val_main_call1_v11, val_main_call1_v12, val_main_v27, val_main_v28, val_main_v29, val_main_c_9, val_main_c_10, val_main_call2_v0, val_main_call2_v1, val_main_call2_v2, val_main_call2_v3, val_main_call2_v4, val_main_v30]
  rfl

theorem xmax_eq (hx : InRange x0) : val_main_v3 (F := Ideal) x0 (ix2 a b) = B (rowMax (xrow x0 a b) : ℤ) := by
  rw [v3_at, ← foldMax_eq (xrow x0 a b) (xrow_small hx a b)]
  exact congrArg foldMax (funext fun j => (B_self (x0 (ix3 a b j))).symm)

theorem xmax_range (hx : InRange x0) : 1 ≤ rowMax (xrow x0 a b) ∧ rowMax (xrow x0 a b) < 8388608 :=
  ⟨one_le_rowMax _, rowMax_lt _ (xrow_small hx a b)⟩

theorem r_x_mant_at (hx : InRange x0) : val_main_v12 (F := Ideal) x0 (ix2 a b) = B (mant (rowMax (xrow x0 a b)) : ℤ) := by
  rw [v12_at, xmax_eq x0 a b hx, mantOf_eq (xmax_range x0 a b hx).1 (xmax_range x0 a b hx).2]
theorem r_x_expo_at (hx : InRange x0) : val_main_v16 (F := Ideal) x0 (ix2 a b) = expo (rowMax (xrow x0 a b)) := by
  rw [v16_at, xmax_eq x0 a b hx, expoOf_eq (xmax_range x0 a b hx).1 (xmax_range x0 a b hx).2]
theorem r_x_code_at (hx : InRange x0) : val_main_v30 (F := Ideal) x0 (ix3 a b j) = B (rowCode (xrow x0 a b) j) := by
  have h := xmax_range x0 a b hx
  rw [v30_at, v8_at, xmax_eq x0 a b hx, shOf_eq h.1 h.2, r_x_mant_at x0 a b hx]
  exact (congrArg (fun v => rCode v _ _) (B_self (x0 (ix3 a b j))).symm).trans (r_code h.1 h.2 (natAbs_le_rowMax (xrow x0 a b) j))
theorem r_x_byte_at (hx : InRange x0) : val_main_v31 (F := Ideal) x0 (ix3 a b j) = (B (rowCode (xrow x0 a b) j)).setWidth 8 := by
  rw [← r_x_code_at x0 a b j hx]
  rfl

end

theorem r_x_codes (x0 : SX.Idx → BitVec 32) (hx : InRange x0) : (val_main_v31 (F := Ideal) x0 : SX.Idx → BitVec 8) = xCodes x0 := by
  funext i
  rw [eq_ix3 i]
  exact r_x_byte_at x0 (i 0) (i 1) (i 2) hx
theorem r_x_mant (x0 : SX.Idx → BitVec 32) (hx : InRange x0) : (val_main_v12 (F := Ideal) x0 : SR.Idx → BitVec 32) = xMant x0 := by
  funext i
  rw [eq_ix2 i]
  exact r_x_mant_at x0 (i 0) (i 1) hx
theorem r_x_expo (x0 : SX.Idx → BitVec 32) (hx : InRange x0) : (val_main_v16 (F := Ideal) x0 : SR.Idx → BitVec 32) = xExpo x0 := by
  funext i
  rw [eq_ix2 i]
  exact r_x_expo_at x0 (i 0) (i 1) hx

end Cert.ReferenceIdeal.Value

end
-- ==== Proof.Value.RefHid.lean ====
/- The reference's hidden rows, their scale and codes. -/
module

public import proofs.«01_k».proof.Proof.Value.RefRow
public import Idealize.ShloMosaic.Lib.Pipeline.ValueKit

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.ReferenceIdeal.Read Cert.Num

/-- The reference's product of a row's codes, as bytes, with a column of weights. -/
def accOf (c : Fin 4096 → BitVec 8) (w : Fin 2048 → BitVec 8) : BitVec 32 :=
  IntOp.addi (Finset.univ.fold IntOp.addi 0#32 (fun k => IntOp.muli ((c (even k)).signExtend 32) (rNib (IntOp.andi ((w k).setWidth 32) 15#32))))
    (Finset.univ.fold IntOp.addi 0#32 (fun k => IntOp.muli ((c (odd k)).signExtend 32) (rNib (IntOp.shrsi .host ((w k).setWidth 32) 4#32))))

theorem accOf_eq (f : Fin 4096 → ℤ) (w : Fin 2048 → BitVec 8) : accOf (fun j => (B (rowCode f j)).setWidth 8) w = B (acc (rowCode f) w) := by
  rw [← r_acc]
  unfold accOf
  refine congrArg₂ IntOp.addi ?_ ?_
  · refine congrArg (fun g => Finset.univ.fold IntOp.addi 0#32 g) (funext fun k => ?_)
    rw [r_lo, show ((B (rowCode f (even k))).setWidth 8).signExtend 32 = _ from code_byte _ _]
    rfl
  · refine congrArg (fun g => Finset.univ.fold IntOp.addi 0#32 g) (funext fun k => ?_)
    rw [r_hi, show ((B (rowCode f (odd k))).setWidth 8).signExtend 32 = _ from code_byte _ _]
    rfl

/-- The reference's rescaling shift and clamp. -/
def projOf (acc m k e : BitVec 32) : BitVec 32 :=
  IntOp.minsi 4095#32 (IntOp.maxsi 4294963201#32 (refShift (IntOp.muli acc m) (IntOp.subi (IntOp.addi k e) 8#32)))

/-- The reference's last step: the gate times the other projection, rounded. -/
def hidOf (g u : BitVec 32) : BitVec 32 :=
  IntOp.shrsi .host (IntOp.addi (IntOp.muli (rSilu g) u) (IntOp.shrsi .host (IntOp.shli .host 1#32 6#32) 1#32)) 6#32

section
variable (x0 : SX.Idx → BitVec 32) (x1 : SW.Idx → BitVec 8) (x2 : SE.Idx → BitVec 32) (x3 : SW.Idx → BitVec 8) (x4 : SE.Idx → BitVec 32) (a : Fin 3) (b : Fin 512)

theorem v32_at (k : Fin 2048) : val_main_v32 (F := Ideal) x0 (ix3 a b k) = val_main_v31 (F := Ideal) x0 (ix3 a b (even k)) := by
  unfold val_main_v32
  generalize val_main_v31 (F := Ideal) x0 = y
  refine congrArg y (funext fun d => ?_)
  match d with
  | ⟨0, _⟩ => exact Fin.ext (by show 0 + 1 * a.val = a.val; omega)
  | ⟨1, _⟩ => exact Fin.ext (by show 0 + 1 * b.val = b.val; omega)
  | ⟨2, _⟩ => exact Fin.ext (by show 0 + 2 * k.val = 2 * k.val; omega)
theorem v33_at (k : Fin 2048) : val_main_v33 (F := Ideal) x0 (ix3 a b k) = val_main_v31 (F := Ideal) x0 (ix3 a b (odd k)) := by
  unfold val_main_v33
  generalize val_main_v31 (F := Ideal) x0 = y
  refine congrArg y (funext fun d => ?_)
  match d with
  | ⟨0, _⟩ => exact Fin.ext (by show 0 + 1 * a.val = a.val; omega)
  | ⟨1, _⟩ => exact Fin.ext (by show 0 + 1 * b.val = b.val; omega)
  | ⟨2, _⟩ => exact Fin.ext (by show 1 + 2 * k.val = 2 * k.val + 1; omega)

theorem v60_at (j : Fin 11008) : val_main_v60 (F := Ideal) x0 x1 (ix3 a b j)
    = Finset.univ.fold IntOp.addi 0#32 (fun k => IntOp.muli ((val_main_v31 (F := Ideal) x0 (ix3 a b (even k))).signExtend 32) (rNib (IntOp.andi ((x1 (ix2 k j)).setWidth 32) 15#32))) := by
  pointwise [val_main_v34, val_main_c_11, val_main_v35, val_main_v36, val_main_c_12, val_main_v37, val_main_v38, val_main_v39, val_main_c_13, val_main_v40, val_main_v41, val_main_v42, val_main_v43, val_main_v53, val_main_v54, val_main_v55, val_main_v56, val_main_v57, val_main_v58, val_main_v59, val_main_c_17, val_main_v60]
  refine congrArg (fun g => Finset.univ.fold IntOp.addi 0#32 g) (funext fun k => ?_)
  rw [← v32_at]
  rfl
theorem v68_at (j : Fin 11008) : val_main_v68 (F := Ideal) x0 x1 (ix3 a b j)
    = Finset.univ.fold IntOp.addi 0#32 (fun k => IntOp.muli ((val_main_v31 (F := Ideal) x0 (ix3 a b (odd k))).signExtend 32) (rNib (IntOp.shrsi .host ((x1 (ix2 k j)).setWidth 32) 4#32))) := by
  pointwise [val_main_v34, val_main_c_14, val_main_v44, val_main_v45, val_main_c_15, val_main_v46, val_main_v47, val_main_v48, val_main_c_16, val_main_v49, val_main_v50, val_main_v51, val_main_v52, val_main_v61, val_main_v62, val_main_v63, val_main_v64, val_main_v65, val_main_v66, val_main_v67, val_main_c_18, val_main_v68]
  refine congrArg (fun g => Finset.univ.fold IntOp.addi 0#32 g) (funext fun k => ?_)
  rw [← v33_at]
  rfl
theorem v96_at (j : Fin 11008) : val_main_v96 (F := Ideal) x0 x3 (ix3 a b j)
    = Finset.univ.fold IntOp.addi 0#32 (fun k => IntOp.muli ((val_main_v31 (F := Ideal) x0 (ix3 a b (even k))).signExtend 32) (rNib (IntOp.andi ((x3 (ix2 k j)).setWidth 32) 15#32))) := by
  pointwise [val_main_v70, val_main_c_19, val_main_v71, val_main_v72, val_main_c_20, val_main_v73, val_main_v74, val_main_v75, val_main_c_21, val_main_v76, val_main_v77, val_main_v78, val_main_v79, val_main_v89, val_main_v90, val_main_v91, val_main_v92, val_main_v93, val_main_v94, val_main_v95, val_main_c_25, val_main_v96]
  refine congrArg (fun g => Finset.univ.fold IntOp.addi 0#32 g) (funext fun k => ?_)
  rw [← v32_at]
  rfl
theorem v104_at (j : Fin 11008) : val_main_v104 (F := Ideal) x0 x3 (ix3 a b j)
    = Finset.univ.fold IntOp.addi 0#32 (fun k => IntOp.muli ((val_main_v31 (F := Ideal) x0 (ix3 a b (odd k))).signExtend 32) (rNib (IntOp.shrsi .host ((x3 (ix2 k j)).setWidth 32) 4#32))) := by
  pointwise [val_main_v70, val_main_c_22, val_main_v80, val_main_v81, val_main_c_23, val_main_v82, val_main_v83, val_main_v84, val_main_c_24, val_main_v85, val_main_v86, val_main_v87, val_main_v88, val_main_v97, val_main_v98, val_main_v99, val_main_v100, val_main_v101, val_main_v102, val_main_v103, val_main_c_26, val_main_v104]
  refine congrArg (fun g => Finset.univ.fold IntOp.addi 0#32 g) (funext fun k => ?_)
  rw [← v33_at]
  rfl
theorem v69_at (j : Fin 11008) : val_main_v69 (F := Ideal) x0 x1 (ix3 a b j) = accOf (fun j => val_main_v31 (F := Ideal) x0 (ix3 a b j)) (fun k => x1 (ix2 k j)) := by
  unfold accOf
  rw [← v60_at, ← v68_at]
  rfl
theorem v105_at (j : Fin 11008) : val_main_v105 (F := Ideal) x0 x3 (ix3 a b j) = accOf (fun j => val_main_v31 (F := Ideal) x0 (ix3 a b j)) (fun k => x3 (ix2 k j)) := by
  unfold accOf
  rw [← v96_at, ← v104_at]
  rfl
theorem v138_at (j : Fin 11008) : val_main_v138 (F := Ideal) x0 x1 x2 (ix3 a b j)
    = projOf (val_main_v69 (F := Ideal) x0 x1 (ix3 a b j)) (val_main_v12 (F := Ideal) x0 (ix2 a b)) (val_main_v16 (F := Ideal) x0 (ix2 a b)) (x2 (ix1 j)) := by
  pointwise [val_main_v106, val_main_v107, val_main_v108, val_main_v109, val_main_v110, val_main_v111, val_main_v112, val_main_v113, val_main_c_27, val_main_v114, val_main_v115, val_main_c_28, val_main_v116, val_main_v117, val_main_c_29, val_main_v118, val_main_v119, val_main_v120, val_main_v121, val_main_c_33, val_main_c_34, val_main_call3_v0, val_main_call3_v1, val_main_call3_v2, val_main_call3_v3, val_main_call3_v4, val_main_v138]
  rfl
theorem v139_at (j : Fin 11008) : val_main_v139 (F := Ideal) x0 x3 x4 (ix3 a b j)
    = projOf (val_main_v105 (F := Ideal) x0 x3 (ix3 a b j)) (val_main_v12 (F := Ideal) x0 (ix2 a b)) (val_main_v16 (F := Ideal) x0 (ix2 a b)) (x4 (ix1 j)) := by
  pointwise [val_main_v122, val_main_v123, val_main_v124, val_main_v125, val_main_v126, val_main_v127, val_main_v128, val_main_v129, val_main_c_30, val_main_v130, val_main_v131, val_main_c_31, val_main_v132, val_main_v133, val_main_c_32, val_main_v134, val_main_v135, val_main_v136, val_main_v137, val_main_c_35, val_main_c_36, val_main_call4_v0, val_main_call4_v1, val_main_call4_v2, val_main_call4_v3, val_main_call4_v4, val_main_v139]
  rfl
theorem v172_at (j : Fin 11008) : val_main_v172 (F := Ideal) x0 x1 x2 x3 x4 (ix3 a b j)
    = hidOf (val_main_v138 (F := Ideal) x0 x1 x2 (ix3 a b j)) (val_main_v139 (F := Ideal) x0 x3 x4 (ix3 a b j)) := by
  pointwise [val_main_v140, val_main_c_37, val_main_v141, val_main_v142, val_main_v143, val_main_c_38, val_main_v144, val_main_v145, val_main_v146, val_main_c_39, val_main_v147, val_main_v148, val_main_c_40, val_main_v149, val_main_v150, val_main_c_41, val_main_v151, val_main_v152, val_main_c_42, val_main_v153, val_main_v154, val_main_v155, val_main_c_43, val_main_v156, val_main_v157, val_main_c_44, val_main_call5_v0, val_main_v158, val_main_c_45, val_main_v159, val_main_v160, val_main_v161, val_main_c_46, val_main_v162, val_main_v163, val_main_v164, val_main_call6_v0, val_main_call6_v1, val_main_call6_v2, val_main_call6_v3, val_main_call6_v4, val_main_call6_c, val_main_call6_v5, val_main_call6_v6, val_main_call6_v7, val_main_call6_c_0, val_main_call6_v8, val_main_call6_v9, val_main_v165, val_main_v166, val_main_c_47, val_main_c_48, val_main_v167, val_main_c_49, val_main_v168, val_main_v169, val_main_v170, val_main_c_50, val_main_v171, val_main_v172]
  rfl

theorem proj1_eq (hx : InRange x0) (j : Fin 11008) : val_main_v138 (F := Ideal) x0 x1 x2 (ix3 a b j)
    = B (proj (xrow x0 a b) (fun k => x1 (ix2 k j)) (x2 (ix1 j))) := by
  rw [v138_at, v69_at, funext fun j => r_x_byte_at x0 a b j hx, accOf_eq, r_x_mant_at x0 a b hx, r_x_expo_at x0 a b hx]
  exact r_proj _ _ _
theorem proj2_eq (hx : InRange x0) (j : Fin 11008) : val_main_v139 (F := Ideal) x0 x3 x4 (ix3 a b j)
    = B (proj (xrow x0 a b) (fun k => x3 (ix2 k j)) (x4 (ix1 j))) := by
  rw [v139_at, v105_at, funext fun j => r_x_byte_at x0 a b j hx, accOf_eq, r_x_mant_at x0 a b hx, r_x_expo_at x0 a b hx]
  exact r_proj _ _ _
theorem hid_eq (hx : InRange x0) (j : Fin 11008) : val_main_v172 (F := Ideal) x0 x1 x2 x3 x4 (ix3 a b j) = B (hrow x0 x1 x2 x3 x4 a b j) := by
  rw [v172_at, proj1_eq x0 x1 x2 a b hx j, proj2_eq x0 x3 x4 a b hx j]
  exact r_hid _ _ (proj_range _ _ _) (proj_range _ _ _)

/-! ## The second scale -/

theorem v176_at : val_main_v176 (F := Ideal) x0 x1 x2 x3 x4 (ix2 a b)
    = foldMax (fun j => val_main_v172 (F := Ideal) x0 x1 x2 x3 x4 (ix3 a b j)) := by
  pointwise [val_main_v173, val_main_c_51, val_main_v174, val_main_c_52, val_main_v175, val_main_v176]
  rfl
theorem v181_at : val_main_v181 (F := Ideal) x0 x1 x2 x3 x4 (ix2 a b)
    = shOf (val_main_v176 (F := Ideal) x0 x1 x2 x3 x4 (ix2 a b)) := by
  pointwise [val_main_v177, val_main_c_53, val_main_v178, val_main_v179, val_main_c_54, val_main_v180, val_main_v181]
  rfl
theorem v185_at : val_main_v185 (F := Ideal) x0 x1 x2 x3 x4 (ix2 a b)
    = mantOf (val_main_v176 (F := Ideal) x0 x1 x2 x3 x4 (ix2 a b)) := by
  pointwise [val_main_v177, val_main_c_53, val_main_v178, val_main_v179, val_main_c_54, val_main_v180, val_main_v181, val_main_v182, val_main_c_55, val_main_v183, val_main_v184, val_main_c_56, val_main_call7_v0, val_main_call7_v1, val_main_call7_v2, val_main_call7_v3, val_main_call7_v4, val_main_call7_v5, val_main_call7_v6, val_main_call7_v7, val_main_call7_v8, val_main_call7_c, val_main_call7_v9, val_main_call7_v10, val_main_call7_v11, val_main_call7_c_0, val_main_call7_v12, val_main_call7_v13, val_main_v185]
  rfl
theorem v189_at : val_main_v189 (F := Ideal) x0 x1 x2 x3 x4 (ix2 a b)
    = expoOf (val_main_v176 (F := Ideal) x0 x1 x2 x3 x4 (ix2 a b)) := by
  pointwise [val_main_v177, val_main_c_53, val_main_v178, val_main_v179, val_main_c_57, val_main_v186, val_main_v187, val_main_c_58, val_main_v188, val_main_v189]
  rfl
theorem v203_at (j : Fin 11008) : val_main_v203 (F := Ideal) x0 x1 x2 x3 x4 (ix3 a b j)
    = rCode (val_main_v172 (F := Ideal) x0 x1 x2 x3 x4 (ix3 a b j)) (val_main_v181 (F := Ideal) x0 x1 x2 x3 x4 (ix2 a b)) (val_main_v185 (F := Ideal) x0 x1 x2 x3 x4 (ix2 a b)) := by
  pointwise [val_main_v173, val_main_c_59, val_main_v190, val_main_v191, val_main_v192, val_main_v193, val_main_v194, val_main_v195, val_main_c_60, val_main_v196, val_main_v197, val_main_v198, val_main_v199, val_main_call8_v0, val_main_call8_v1, val_main_call8_v2, val_main_call8_v3, val_main_call8_v4, val_main_call8_v5, val_main_call8_v6, val_main_call8_v7, val_main_call8_c, val_main_call8_v8, val_main_call8_v9, val_main_call8_v10, val_main_call8_c_0, val_main_call8_v11, val_main_call8_v12, val_main_v200, val_main_v201, val_main_v202, val_main_c_61, val_main_c_62, val_main_call9_v0, val_main_call9_v1, val_main_call9_v2, val_main_call9_v3, val_main_call9_v4, val_main_v203]
  rfl

theorem hmax_eq (hx : InRange x0) : val_main_v176 (F := Ideal) x0 x1 x2 x3 x4 (ix2 a b) = B (rowMax (hrow x0 x1 x2 x3 x4 a b) : ℤ) := by
  rw [v176_at, ← foldMax_eq (hrow x0 x1 x2 x3 x4 a b) (hrow_small x0 x1 x2 x3 x4 a b)]
  exact congrArg foldMax (funext fun j => hid_eq x0 x1 x2 x3 x4 a b hx j)

theorem hmax_range : 1 ≤ rowMax (hrow x0 x1 x2 x3 x4 a b) ∧ rowMax (hrow x0 x1 x2 x3 x4 a b) < 8388608 :=
  ⟨one_le_rowMax _, rowMax_lt _ (hrow_small x0 x1 x2 x3 x4 a b)⟩

theorem r_h_mant_at (hx : InRange x0) : val_main_v185 (F := Ideal) x0 x1 x2 x3 x4 (ix2 a b) = B (mant (rowMax (hrow x0 x1 x2 x3 x4 a b)) : ℤ) := by
  rw [v185_at, hmax_eq x0 x1 x2 x3 x4 a b hx, mantOf_eq (hmax_range x0 x1 x2 x3 x4 a b).1 (hmax_range x0 x1 x2 x3 x4 a b).2]
theorem r_h_expo_at (hx : InRange x0) : val_main_v189 (F := Ideal) x0 x1 x2 x3 x4 (ix2 a b) = expo (rowMax (hrow x0 x1 x2 x3 x4 a b)) := by
  rw [v189_at, hmax_eq x0 x1 x2 x3 x4 a b hx, expoOf_eq (hmax_range x0 x1 x2 x3 x4 a b).1 (hmax_range x0 x1 x2 x3 x4 a b).2]
theorem r_h_code_at (hx : InRange x0) (j : Fin 11008) : val_main_v203 (F := Ideal) x0 x1 x2 x3 x4 (ix3 a b j) = B (rowCode (hrow x0 x1 x2 x3 x4 a b) j) := by
  have h := hmax_range x0 x1 x2 x3 x4 a b
  rw [v203_at, v181_at, hmax_eq x0 x1 x2 x3 x4 a b hx, shOf_eq h.1 h.2, r_h_mant_at x0 x1 x2 x3 x4 a b hx, hid_eq x0 x1 x2 x3 x4 a b hx j]
  exact r_code h.1 h.2 (natAbs_le_rowMax (hrow x0 x1 x2 x3 x4 a b) j)

end

section
variable (x0 : SX.Idx → BitVec 32) (x1 : SW.Idx → BitVec 8) (x2 : SE.Idx → BitVec 32) (x3 : SW.Idx → BitVec 8) (x4 : SE.Idx → BitVec 32) (hx : InRange x0)
include hx

theorem r_h_codes : (val_main_v204 (F := Ideal) x0 x1 x2 x3 x4 : SH.Idx → BitVec 8) = hCodes x0 x1 x2 x3 x4 := by
  funext i
  rw [eq_ix3 i]
  exact congrArg (BitVec.setWidth 8) (r_h_code_at x0 x1 x2 x3 x4 (i 0) (i 1) hx (i 2))
theorem r_h_mant : (val_main_v185 (F := Ideal) x0 x1 x2 x3 x4 : SR.Idx → BitVec 32) = hMant x0 x1 x2 x3 x4 := by
  funext i
  rw [eq_ix2 i]
  exact r_h_mant_at x0 x1 x2 x3 x4 (i 0) (i 1) hx
theorem r_h_expo : (val_main_v189 (F := Ideal) x0 x1 x2 x3 x4 : SR.Idx → BitVec 32) = hExpo x0 x1 x2 x3 x4 := by
  funext i
  rw [eq_ix2 i]
  exact r_h_expo_at x0 x1 x2 x3 x4 (i 0) (i 1) hx

end

end Cert.ReferenceIdeal.Value

end
-- ==== Proof.Value.PreRange.lean ====
/- The precondition: what it says of each word of the activation, and the facts its operations take. -/
module

public import proofs.«01_k».proof.Defs
public import proofs.«01_k».proof.Proof.Value.KernelOut
public import Idealize.ShloMosaic.Lib.ReduceAll
public import Idealize.ShloMosaic.Lib.Affine

@[expose] public section

noncomputable section

namespace Cert.Pre_in_range

open Idealize.ShloMosaic

/-- The facts the precondition's operations take. -/
instance facts : Cert.Pre_in_range.Facts where
  bcast_S_S3x512x4096 := by decide
  reducesTo_S3x512x4096_S_d0_1_2 := by decide
  h_S_ := by decide

/-- The precondition's function at 1: every word of the activation lies between −(2²³ − 1) and 2²³ − 1. -/
theorem range_of_fn (x : S3x512x4096.Idx → BitVec 32) (a1 : IVec S2048x11008 8) (a2 : IVec S11008 32) (a3 : IVec S2048x11008 8) (a4 : IVec S11008 32)
    (h : fn (F := Ideal) x a1 a2 a3 a4 = fun _ => 1#1) (i : S3x512x4096.Idx) : -8388607 ≤ (x i).toInt ∧ (x i).toInt ≤ 8388607 := by
  have e := Host.reduce_andi_all _ _ _ _ (fun k => k.elim0) (congrFun h fun k => k.elim0) i
  have e' : IntOp.andi (IntOp.cmpi .sge (x i) 4286578689#32) (IntOp.cmpi .sle (x i) 8388607#32) = 1#1 := e
  have both : ∀ p q : BitVec 1, IntOp.andi p q = 1#1 → p = 1#1 ∧ q = 1#1 := by decide
  have hb := both _ _ e'
  have h1 := IntOp.cmpi_sge.1 hb.1
  have h2 := IntOp.cmpi_sle.1 hb.2
  rw [show (4286578689#32 : BitVec 32).toInt = -8388607 from by decide] at h1
  rw [show (8388607#32 : BitVec 32).toInt = 8388607 from by decide] at h2
  exact ⟨h1, h2⟩

end Cert.Pre_in_range

namespace Cert.Proof

open Idealize.ShloMosaic Idealize.ShloMosaic.TcCoe

/-- Under the precondition the kernel's activation is in range on every device. -/
theorem inRange {m : (ℓ : Loc Cert.KernelIdeal.nD Cert.KernelIdeal.τ Cert.KernelIdeal.sig) → Buf (Elt Ideal) ℓ}
    (h : Cert.Pre_KernelIdeal_in_range m) (c : Dev Cert.KernelIdeal.nD) : Cert.Num.InRange (Cert.KernelIdeal.Value.aX m c) :=
  fun i => Cert.Pre_in_range.range_of_fn _ _ _ _ _ (h c) i

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Bits.Frame
public import proofs.«01_k».proof.Proof.Gen.ReferenceIdeal.Run
public import proofs.«01_k».proof.Proof.Gen.ReferenceIdeal.Read
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Ideal.Frame
public import proofs.«01_k».proof.Proof.Gen.ReferenceIdeal
public import proofs.«01_k».proof.Proof.Value.KernelOut
public import proofs.«01_k».proof.Proof.Value.RefRow
public import proofs.«01_k».proof.Proof.Value.RefHid
public import proofs.«01_k».proof.Proof.Value.PreRange
public import Idealize.ShloMosaic.Adequacy
public import Idealize.ShloMosaic.Init

@[expose] public section

noncomputable section

-- The claims about Kernel, KernelIdeal, ReferenceIdeal also say that every semaphore counter ends at zero; the proof shows that too.

/-! ## The kernel's run: its six results -/

namespace Cert.KernelIdeal.Value

open Idealize.ShloMosaic Idealize.ShloMosaic.TcCoe Idealize.SL.Sem
open Cert.KernelIdeal Cert.KernelIdeal.Gen Cert.Num

variable (m : (ℓ : Loc nD τ sig) → Buf (Elt Ideal) ℓ) (ρ : Dev nD → PrngReg)

/-- The kernel ends with the specified rows, codes, multipliers and exponents, and its arguments unchanged. -/
theorem run_values (hX : ∀ c, InRange (aX m c)) :
    θ_run (defs (F := Ideal)) (onTc (τ := τ) (main (F := Ideal))) ⟨m, fun _ => 0, ρ⟩ (fun r => ∀ c : Dev nD,
      r.2.mem ((c : Thread nD τ).loc main_v6) = hCodes (aX m c) (aG m c) (aGe m c) (aU m c) (aUe m c)
      ∧ r.2.mem ((c : Thread nD τ).loc main_v9) = hMant (aX m c) (aG m c) (aGe m c) (aU m c) (aUe m c)
      ∧ r.2.mem ((c : Thread nD τ).loc main_v12) = hExpo (aX m c) (aG m c) (aGe m c) (aU m c) (aUe m c)
      ∧ r.2.mem ((c : Thread nD τ).loc main_v13) = xCodes (aX m c)
      ∧ r.2.mem ((c : Thread nD τ).loc main_v16) = xMant (aX m c)
      ∧ r.2.mem ((c : Thread nD τ).loc main_v19) = xExpo (aX m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  θ_run_mono (run_all m ρ) fun r h c =>
    ⟨(h.1 c _ (mem_uc main_v6 (by decide))).trans (k_h_codes m ρ c hX),
     (h.1 c _ (mem_uc main_v9 (by decide))).trans (k_h_mant m ρ c hX),
     (h.1 c _ (mem_uc main_v12 (by decide))).trans (k_h_expo m ρ c hX),
     (h.1 c _ (mem_uc main_v13 (by decide))).trans (k_x_codes m ρ c hX),
     (h.1 c _ (mem_uc main_v16 (by decide))).trans (k_x_mant m ρ c hX),
     (h.1 c _ (mem_uc main_v19 (by decide))).trans (k_x_expo m ρ c hX),
     (h.1 c _ (mem_uc main_arg0 (by decide))).trans (W6_main_arg0 m ρ c),
     (h.1 c _ (mem_uc main_arg1 (by decide))).trans (W6_main_arg1 m ρ c),
     (h.1 c _ (mem_uc main_arg2 (by decide))).trans (W6_main_arg2 m ρ c),
     (h.1 c _ (mem_uc main_arg3 (by decide))).trans (W6_main_arg3 m ρ c),
     (h.1 c _ (mem_uc main_arg4 (by decide))).trans (W6_main_arg4 m ρ c)⟩

end Cert.KernelIdeal.Value

/-! ## The reference's run: its six results -/

namespace Cert.ReferenceIdeal.Value

open Idealize.ShloMosaic Idealize.ShloMosaic.TcCoe Idealize.SL.Sem Idealize.ShloMosaic.StableHlo
open Cert.ReferenceIdeal Cert.ReferenceIdeal.Read Cert.Num

variable (m : (ℓ : Loc nD τ sig) → Buf (Elt Ideal) ℓ) (ρ : Dev nD → PrngReg)

/-- The reference ends with the same rows, codes, multipliers and exponents of its own arguments. -/
theorem run_values (hX : ∀ c : Dev nD, InRange (m ((c : Thread nD τ).loc main_arg0))) :
    θ_run (defs (F := Ideal)) (onTc (τ := τ) (main (F := Ideal))) ⟨m, fun _ => 0, ρ⟩ (fun r => ∀ c : Dev nD,
      r.2.mem ((c : Thread nD τ).loc main_v204) = hCodes (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v185) = hMant (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v189) = hExpo (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v31) = xCodes (m ((c : Thread nD τ).loc main_arg0))
      ∧ r.2.mem ((c : Thread nD τ).loc main_v12) = xMant (m ((c : Thread nD τ).loc main_arg0))
      ∧ r.2.mem ((c : Thread nD τ).loc main_v16) = xExpo (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  θ_run_mono (run (F := Ideal) m ρ) fun r h c => by
    obtain ⟨h0, h1, h2, h3, h4, h5, hA⟩ := h c
    exact ⟨(h0.trans (val_main_v204_eq (launchContents m c))).trans (r_h_codes _ _ _ _ _ (hX c)),
      (h1.trans (val_main_v185_eq (launchContents m c))).trans (r_h_mant _ _ _ _ _ (hX c)),
      (h2.trans (val_main_v189_eq (launchContents m c))).trans (r_h_expo _ _ _ _ _ (hX c)),
      (h3.trans (val_main_v31_eq (launchContents m c))).trans (r_x_codes _ (hX c)),
      (h4.trans (val_main_v12_eq (launchContents m c))).trans (r_x_mant _ (hX c)),
      (h5.trans (val_main_v16_eq (launchContents m c))).trans (r_x_expo _ (hX c)), hA⟩

/-- The reference's arguments end as launched; it declares no semaphore, so every counter is zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_mono (run (F := Ideal) m ρ) fun r h => ⟨fun c => by
    obtain ⟨-, -, -, -, -, -, hA⟩ := h c
    exact hA, sem_eq_zero_of_no_sems (by decide) r.2⟩

end Cert.ReferenceIdeal.Value

/-! ## The claim -/

namespace Cert.Proof

open Idealize.ShloMosaic Idealize.SL.Sem

/-- From equal arguments in range, the kernel and the reference end with the same six results. -/
theorem algebraic : Cert.algebraic_KernelIdeal_ReferenceIdeal_pre_in_range := by
  intro m g m' g' hpre hargs
  have hX := fun c => inRange hpre c
  refine ⟨_, _, _, _, _, _, Cert.KernelIdeal.Value.run_values m g hX, ?_⟩
  have hX' : ∀ c : Dev Cert.ReferenceIdeal.nD, Cert.Num.InRange (m' ((c.tc : Thread Cert.ReferenceIdeal.nD Cert.ReferenceIdeal.τ).loc Cert.ReferenceIdeal.main_arg0)) := by
    intro c
    rw [(hargs c).1]
    exact hX c
  refine θ_run_mono (Cert.ReferenceIdeal.Value.run_values m' g' hX') fun r h c => ?_
  obtain ⟨a0, a1, a2, a3, a4⟩ := hargs c
  obtain ⟨h0, h1, h2, h3, h4, h5, hA⟩ := h c
  rw [a0, a1, a2, a3, a4] at h0 h1 h2
  rw [a0] at h3 h4 h5
  exact ⟨h0, h1, h2, h3, h4, h5, hA⟩

theorem claim : Cert.Claim :=
  ⟨Cert.Kernel.Gen.facts, Cert.KernelIdeal.Gen.facts, Cert.ReferenceIdeal.Gen.facts, Cert.Pre_in_range.facts,
    fun m ρ _ => Cert.Kernel.Gen.frame m ρ,
    fun m ρ _ => Cert.KernelIdeal.Gen.frame m ρ, fun m ρ _ => Cert.KernelIdeal.Gen.frame m ρ,
    fun m ρ _ => Cert.ReferenceIdeal.Value.frame m ρ, fun m ρ _ => Cert.ReferenceIdeal.Value.frame m ρ,
    trivial, algebraic⟩

end Cert.Proof

end
